-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_keys_in_range [hPre_keys_in_range : Cert.Pre_keys_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_keys_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_in_range [hPre_keys_in_range : Cert.Pre_keys_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_keys_in_range [hKernelIdeal : Cert.KernelIdeal.Facts] [hPre_keys_in_range : Cert.Pre_keys_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keys_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_keys_in_range [hReferenceIdeal : Cert.ReferenceIdeal.Facts] [hPre_keys_in_range : Cert.Pre_keys_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S2x2x4096x2x128 Cert.KernelIdeal.S2x2x4096x1x128
  ∧ IdealRules.named_const.Statement Cert.KernelIdeal.κ "log2e" .f32 0x3FB8AA3B#32 (((Real.log 2)⁻¹ : ℝ) : EReal)
  ∧ IdealRules.named_const.Statement Cert.KernelIdeal.κ "score_log2" .f32 0x3E8293EE#32 ((((Real.sqrt 32) * (Real.log 2))⁻¹ : ℝ) : EReal)
  ∧ IdealRules.bf16_pair.PackStatement Cert.KernelIdeal.S1024x128
  ∧ IdealRules.bf16_pair.Statement Cert.KernelIdeal.S1x1x1024x2x128 Cert.KernelIdeal.S1x1x1024x1x128
  ∧ IdealRules.bf16_pair.Statement Cert.KernelIdeal.S1x1x4096x2x128 Cert.KernelIdeal.S1x1x4096x1x128
  ∧ IdealRules.bf16_pair.Statement Cert.KernelIdeal.S8192x128 Cert.KernelIdeal.S4096x128

def algebraic_KernelIdeal_ReferenceIdeal_pre_keys_in_range [hKernelIdeal : Cert.KernelIdeal.Facts] [hReferenceIdeal : Cert.ReferenceIdeal.Facts] [hPre_keys_in_range : Cert.Pre_keys_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keys_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v80_0) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v80_1) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_keys_in_range : Cert.Pre_keys_in_range.Facts),
    quiescent_Kernel (hKernel := hKernel)
    ∧ quiescent_KernelIdeal (hKernelIdeal := hKernelIdeal)
    ∧ quiescent_KernelIdeal_pre_keys_in_range (hKernelIdeal := hKernelIdeal) (hPre_keys_in_range := hPre_keys_in_range)
    ∧ quiescent_ReferenceIdeal (hReferenceIdeal := hReferenceIdeal)
    ∧ quiescent_ReferenceIdeal_pre_keys_in_range (hReferenceIdeal := hReferenceIdeal) (hPre_keys_in_range := hPre_keys_in_range)
    ∧ preserves_Kernel_KernelIdeal
    ∧ algebraic_KernelIdeal_ReferenceIdeal_pre_keys_in_range (hKernelIdeal := hKernelIdeal) (hReferenceIdeal := hReferenceIdeal) (hPre_keys_in_range := hPre_keys_in_range)
-- ==== Pre_keys_in_range.lean ====
abbrev S2x24x1024x256 : Shape := ⟨4, ![2, 24, 1024, 256]⟩
abbrev S256 : Shape := ⟨1, ![256]⟩
abbrev S256x8x32 : Shape := ⟨3, ![256, 8, 32]⟩
abbrev S8x32x256 : Shape := ⟨3, ![8, 32, 256]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x24x1024x256 .f32) (main_arg1 : FVec F S256 .f32) (main_arg2 : FVec F S256 .f32) (main_arg3 : FVec F S256x8x32 .bf16) (main_arg4 : FVec F S256x8x32 .bf16) (main_arg5 : FVec F S256x8x32 .bf16) (main_arg6 : FVec F S8x32x256 .bf16) (main_arg7 : IVec S2 32) : IVec S2 1 :=
  let main_c : IVec S_ 32 := constantI S_ 32 1#32
  let main_v0 : IVec S2 32 := broadcastInDim S2 ![] bcast_S_S2 main_c
  let main_v1 : IVec S2 1 := cmpi .sge main_arg7 main_v0
  let main_c_0 : IVec S_ 32 := constantI S_ 32 896#32
  let main_v2 : IVec S2 32 := broadcastInDim S2 ![] bcast_S_S2 main_c_0
  let main_v3 : IVec S2 1 := cmpi .sle main_arg7 main_v2
  let main_v4 : IVec S2 1 := andi main_v1 main_v3
  main_v4
-- ==== Kernel.lean ====
abbrev S2x24x1024x256 : Shape := ⟨4, ![2, 24, 1024, 256]⟩
abbrev S256 : Shape := ⟨1, ![256]⟩
abbrev S256x8x32 : Shape := ⟨3, ![256, 8, 32]⟩
abbrev S8x32x256 : Shape := ⟨3, ![8, 32, 256]⟩
abbrev S2 : Shape := ⟨1, ![2]⟩
abbrev S256x256 : Shape := ⟨2, ![256, 256]⟩
abbrev S768x256 : Shape := ⟨2, ![768, 256]⟩
abbrev S1x256 : Shape := ⟨2, ![1, 256]⟩
abbrev S2x1024x24x256 : Shape := ⟨4, ![2, 1024, 24, 256]⟩
abbrev S2x24x256x1024 : Shape := ⟨4, ![2, 24, 256, 1024]⟩
abbrev S2x24x8x1024 : Shape := ⟨4, ![2, 24, 8, 1024]⟩
abbrev S1x2x1024x256 : Shape := ⟨4, ![1, 2, 1024, 256]⟩
abbrev S1x1024x8x256 : Shape := ⟨4, ![1, 1024, 8, 256]⟩
abbrev S1x2x256x1024 : Shape := ⟨4, ![1, 2, 256, 1024]⟩
abbrev S1x2x8x1024 : Shape := ⟨4, ![1, 2, 8, 1024]⟩
abbrev S8x256x1024 : Shape := ⟨3, ![8, 256, 1024]⟩
abbrev S1024x256 : Shape := ⟨2, ![1024, 256]⟩
abbrev S8x48x1024 : Shape := ⟨3, ![8, 48, 1024]⟩
abbrev S8x1024 : Shape := ⟨2, ![8, 1024]⟩
abbrev S8x1024x128 : Shape := ⟨3, ![8, 1024, 128]⟩
abbrev S256x1024 : Shape := ⟨2, ![256, 1024]⟩
abbrev S2x1024x256 : Shape := ⟨3, ![2, 1024, 256]⟩
abbrev S2x2x4096x128 : Shape := ⟨4, ![2, 2, 4096, 128]⟩
abbrev S2x1x256 : Shape := ⟨3, ![2, 1, 256]⟩
abbrev S1 : Shape := ⟨1, ![1]⟩
abbrev S1x1x256x256 : Shape := ⟨4, ![1, 1, 256, 256]⟩
abbrev S256x1 : Shape := ⟨2, ![256, 1]⟩
abbrev S8x256 : Shape := ⟨2, ![8, 256]⟩
abbrev S8x1x256 : Shape := ⟨3, ![8, 1, 256]⟩
abbrev S1x1x8x256 : Shape := ⟨4, ![1, 1, 8, 256]⟩
abbrev S32x256 : Shape := ⟨2, ![32, 256]⟩
abbrev S1x32x256 : Shape := ⟨3, ![1, 32, 256]⟩
abbrev S16x256 : Shape := ⟨2, ![16, 256]⟩
abbrev S1x16x256 : Shape := ⟨3, ![1, 16, 256]⟩
abbrev S128x256 : Shape := ⟨2, ![128, 256]⟩
abbrev S256x128 : Shape := ⟨2, ![256, 128]⟩
abbrev S1x256x128 : Shape := ⟨3, ![1, 256, 128]⟩
abbrev S1x1x256 : Shape := ⟨3, ![1, 1, 256]⟩
abbrev S1x256x256 : Shape := ⟨3, ![1, 256, 256]⟩
abbrev S1x128x128 : Shape := ⟨3, ![1, 128, 128]⟩
abbrev S128x128 : Shape := ⟨2, ![128, 128]⟩
abbrev S1x48x128 : Shape := ⟨3, ![1, 48, 128]⟩
abbrev S48x128 : Shape := ⟨2, ![48, 128]⟩
abbrev S48x256 : Shape := ⟨2, ![48, 256]⟩
abbrev S1x48x256 : Shape := ⟨3, ![1, 48, 256]⟩
abbrev S384x256 : Shape := ⟨2, ![384, 256]⟩
abbrev S1x384x128 : Shape := ⟨3, ![1, 384, 128]⟩
abbrev S384x128 : Shape := ⟨2, ![384, 128]⟩
abbrev S1x48x384 : Shape := ⟨3, ![1, 48, 384]⟩
abbrev S48x384 : Shape := ⟨2, ![48, 384]⟩
abbrev S512x256 : Shape := ⟨2, ![512, 256]⟩
abbrev S1x512x128 : Shape := ⟨3, ![1, 512, 128]⟩
abbrev S512x128 : Shape := ⟨2, ![512, 128]⟩
abbrev S1x48x512 : Shape := ⟨3, ![1, 48, 512]⟩
abbrev S48x512 : Shape := ⟨2, ![48, 512]⟩
abbrev S640x256 : Shape := ⟨2, ![640, 256]⟩
abbrev S1x640x128 : Shape := ⟨3, ![1, 640, 128]⟩
abbrev S640x128 : Shape := ⟨2, ![640, 128]⟩
abbrev S1x48x640 : Shape := ⟨3, ![1, 48, 640]⟩
abbrev S48x640 : Shape := ⟨2, ![48, 640]⟩
abbrev S1x768x128 : Shape := ⟨3, ![1, 768, 128]⟩
abbrev S768x128 : Shape := ⟨2, ![768, 128]⟩
abbrev S1x48x768 : Shape := ⟨3, ![1, 48, 768]⟩
abbrev S48x768 : Shape := ⟨2, ![48, 768]⟩
abbrev S896x256 : Shape := ⟨2, ![896, 256]⟩
abbrev S1x896x128 : Shape := ⟨3, ![1, 896, 128]⟩
abbrev S896x128 : Shape := ⟨2, ![896, 128]⟩
abbrev S1x48x896 : Shape := ⟨3, ![1, 48, 896]⟩
abbrev S48x896 : Shape := ⟨2, ![48, 896]⟩
abbrev S1x1x1 : Shape := ⟨3, ![1, 1, 1]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1x1x4096x128 : Shape := ⟨4, ![1, 1, 4096, 128]⟩
abbrev S4096x128 : Shape := ⟨2, ![4096, 128]⟩
abbrev S8192x128 : Shape := ⟨2, ![8192, 128]⟩
abbrev S1024x8x128 : Shape := ⟨3, ![1024, 8, 128]⟩
abbrev S1x1024x8x128 : Shape := ⟨4, ![1, 1024, 8, 128]⟩

abbrev nBuf : Space → Nat
  | .hbm => 24
  | .vmem => 28
  | .smem => 1
  | _ => 0

abbrev bufTy : (tb : Table) → Fin (tcTables nBuf tb) → BufTy
  | .hbm, ⟨0, _⟩ => ⟨S2x24x1024x256, .f32⟩
  | .hbm, ⟨1, _⟩ => ⟨S256, .f32⟩
  | .hbm, ⟨2, _⟩ => ⟨S256, .f32⟩
  | .hbm, ⟨3, _⟩ => ⟨S256x8x32, .bf16⟩
  | .hbm, ⟨4, _⟩ => ⟨S256x8x32, .bf16⟩
  | .hbm, ⟨5, _⟩ => ⟨S256x8x32, .bf16⟩
  | .hbm, ⟨6, _⟩ => ⟨S8x32x256, .bf16⟩
  | .hbm, ⟨7, _⟩ => ⟨S2, .i32⟩
  | .hbm, ⟨8, _⟩ => ⟨S8x32x256, .bf16⟩
  | .hbm, ⟨9, _⟩ => ⟨S256x256, .bf16⟩
  | .hbm, ⟨10, _⟩ => ⟨S8x32x256, .bf16⟩
  | .hbm, ⟨11, _⟩ => ⟨S256x256, .bf16⟩
  | .hbm, ⟨12, _⟩ => ⟨S8x32x256, .bf16⟩
  | .hbm, ⟨13, _⟩ => ⟨S256x256, .bf16⟩
  | .hbm, ⟨14, _⟩ => ⟨S768x256, .bf16⟩
  | .hbm, ⟨15, _⟩ => ⟨S1x256, .f32⟩
  | .hbm, ⟨16, _⟩ => ⟨S1x256, .f32⟩
  | .hbm, ⟨17, _⟩ => ⟨S256x256, .bf16⟩
  | .hbm, ⟨18, _⟩ => ⟨S2x1024x24x256, .bf16⟩
  | .hbm, ⟨19, _⟩ => ⟨S2x1024x24x256, .bf16⟩
  | .hbm, ⟨20, _⟩ => ⟨S2x24x256x1024, .fp8e4m3⟩
  | .hbm, ⟨21, _⟩ => ⟨S2x24x8x1024, .f32⟩
  | .hbm, ⟨22, _⟩ => ⟨S2x24x256x1024, .fp8e4m3⟩
  | .hbm, ⟨23, _⟩ => ⟨S2x24x8x1024, .f32⟩
  | .local _ .vmem, ⟨0, _⟩ => ⟨S1x2x1024x256, .f32⟩
  | .local _ .vmem, ⟨1, _⟩ => ⟨S1x2x1024x256, .f32⟩
  | .local _ .vmem, ⟨2, _⟩ => ⟨S1x256, .f32⟩
  | .local _ .vmem, ⟨3, _⟩ => ⟨S1x256, .f32⟩
  | .local _ .vmem, ⟨4, _⟩ => ⟨S768x256, .bf16⟩
  | .local _ .vmem, ⟨5, _⟩ => ⟨S256x256, .bf16⟩
  | .local _ .vmem, ⟨6, _⟩ => ⟨S1x1024x8x256, .bf16⟩
  | .local _ .vmem, ⟨7, _⟩ => ⟨S1x1024x8x256, .bf16⟩
  | .local _ .vmem, ⟨8, _⟩ => ⟨S1x1024x8x256, .bf16⟩
  | .local _ .vmem, ⟨9, _⟩ => ⟨S1x1024x8x256, .bf16⟩
  | .local _ .vmem, ⟨10, _⟩ => ⟨S1x2x256x1024, .fp8e4m3⟩
  | .local _ .vmem, ⟨11, _⟩ => ⟨S1x2x256x1024, .fp8e4m3⟩
  | .local _ .vmem, ⟨12, _⟩ => ⟨S1x2x8x1024, .f32⟩
  | .local _ .vmem, ⟨13, _⟩ => ⟨S1x2x8x1024, .f32⟩
  | .local _ .vmem, ⟨14, _⟩ => ⟨S1x2x256x1024, .fp8e4m3⟩
  | .local _ .vmem, ⟨15, _⟩ => ⟨S1x2x256x1024, .fp8e4m3⟩
  | .local _ .vmem, ⟨16, _⟩ => ⟨S1x2x8x1024, .f32⟩
  | .local _ .vmem, ⟨17, _⟩ => ⟨S1x2x8x1024, .f32⟩
  | .local _ .vmem, ⟨18, _⟩ => ⟨S8x256x1024, .fp8e4m3⟩
  | .local _ .vmem, ⟨19, _⟩ => ⟨S1024x256, .fp8e4m3⟩
  | .local _ .vmem, ⟨20, _⟩ => ⟨S8x48x1024, .bf16⟩
  | .local _ .vmem, ⟨21, _⟩ => ⟨S8x1024, .f32⟩
  | .local _ .vmem, ⟨22, _⟩ => ⟨S8x1024x128, .f32⟩
  | .local _ .vmem, ⟨23, _⟩ => ⟨S256x1024, .bf16⟩
  | .local _ .vmem, ⟨24, _⟩ => ⟨S2x1024x256, .f32⟩
  | .local _ .vmem, ⟨25, _⟩ => ⟨S2x1024x256, .f32⟩
  | .local _ .vmem, ⟨26, _⟩ => ⟨S2x2x4096x128, .i32⟩
  | .local _ .vmem, ⟨27, _⟩ => ⟨S2x1x256, .f32⟩
  | .local _ .smem, ⟨0, _⟩ => ⟨S2, .i32⟩
  | _, _ => ⟨S2x24x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨2, ![2, 12], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_12 : BitVec 32 := 0#32
  let c2_i32 : BitVec 32 := 2#32
  let v30 : BitVec 32 := Scalar.addi c0_i32_12 c2_i32
  let c1_i32_13 : BitVec 32 := 1#32
  ⟨c0_i32_12, v30, c1_i32_13⟩
@[reducible] def k0_t2_loop : Scf.Loop 32 :=
  let c0_i32_55 : BitVec 32 := 0#32
  let c4_i32_56 : BitVec 32 := 4#32
  let v80 : BitVec 32 := Scalar.addi c0_i32_55 c4_i32_56
  let c1_i32_57 : BitVec 32 := 1#32
  ⟨c0_i32_55, v80, c1_i32_57⟩
def k0_off2 (k0_t1 : Fin k0_t1_loop.trips) (k0_t2 : Fin k0_t2_loop.trips) : Fin 4 → Nat :=
  let c0_92 : Index := 0#32
  let c0_i32_12 : BitVec 32 := 0#32
  let c1_i32_13 : BitVec 32 := 1#32
  let arg24 : BitVec 32 := Scf.iv c0_i32_12 c1_i32_13 k0_t1
  let v130 : Index := Scalar.indexCast arg24
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v131 : Index := Scalar.indexCast v129
  let c0_93 : Index := 0#32
  ![0, v130.toNat, v131.toNat, 0]
def k0_mult1 (k0_t2 : Fin k0_t2_loop.trips) : BitVec 32 :=
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  v220
def k0_off3 (k0_t1 : Fin k0_t1_loop.trips) (k0_t2 : Fin k0_t2_loop.trips) : Fin 4 → Nat :=
  let c0_121 : Index := 0#32
  let c0_i32_12 : BitVec 32 := 0#32
  let c1_i32_13 : BitVec 32 := 1#32
  let arg24 : BitVec 32 := Scf.iv c0_i32_12 c1_i32_13 k0_t1
  let v222 : Index := Scalar.indexCast arg24
  let c0_122 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v223 : Index := Scalar.indexCast v221
  ![0, v222.toNat, 0, v223.toNat]
def k0_off4 (k0_t1 : Fin k0_t1_loop.trips) (k0_t2 : Fin k0_t2_loop.trips) : Fin 4 → Nat :=
  let c0_123 : Index := 0#32
  let c0_i32_12 : BitVec 32 := 0#32
  let c1_i32_13 : BitVec 32 := 1#32
  let arg24 : BitVec 32 := Scf.iv c0_i32_12 c1_i32_13 k0_t1
  let v227 : Index := Scalar.indexCast arg24
  let c0_124 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v228 : Index := Scalar.indexCast v221
  ![0, v227.toNat, 0, v228.toNat]
def k0_off5 (k0_t2 : Fin k0_t2_loop.trips) : Fin 2 → Nat :=
  let c0_130 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v244 : Index := Scalar.indexCast v221
  ![0, v244.toNat]
def k0_off6 (k0_t2 : Fin k0_t2_loop.trips) : Fin 3 → Nat :=
  let c0_131 : Index := 0#32
  let c0_132 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v249 : Index := Scalar.indexCast v221
  ![0, 0, v249.toNat]
def k0_off7 (k0_t2 : Fin k0_t2_loop.trips) : Fin 3 → Nat :=
  let c1_133 : Index := 1#32
  let c32 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v254 : Index := Scalar.indexCast v221
  ![1, 32, v254.toNat]
def k0_off8 (k0_t2 : Fin k0_t2_loop.trips) : Fin 3 → Nat :=
  let c2 : Index := 2#32
  let c64 : Index := 64#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v259 : Index := Scalar.indexCast v221
  ![2, 64, v259.toNat]
def k0_off9 (k0_t2 : Fin k0_t2_loop.trips) : Fin 3 → Nat :=
  let c3 : Index := 3#32
  let c96 : Index := 96#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v264 : Index := Scalar.indexCast v221
  ![3, 96, v264.toNat]
def k0_off10 (k0_t2 : Fin k0_t2_loop.trips) : Fin 3 → Nat :=
  let c4 : Index := 4#32
  let c128_134 : Index := 128#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v269 : Index := Scalar.indexCast v221
  ![4, 128, v269.toNat]
def k0_off11 (k0_t2 : Fin k0_t2_loop.trips) : Fin 3 → Nat :=
  let c5 : Index := 5#32
  let c160 : Index := 160#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v274 : Index := Scalar.indexCast v221
  ![5, 160, v274.toNat]
def k0_off12 (k0_t2 : Fin k0_t2_loop.trips) : Fin 3 → Nat :=
  let c6 : Index := 6#32
  let c192 : Index := 192#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v279 : Index := Scalar.indexCast v221
  ![6, 192, v279.toNat]
def k0_off13 (k0_t2 : Fin k0_t2_loop.trips) : Fin 3 → Nat :=
  let c7 : Index := 7#32
  let c224 : Index := 224#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v284 : Index := Scalar.indexCast v221
  ![7, 224, v284.toNat]
def k0_off14 (k0_t2 : Fin k0_t2_loop.trips) : Fin 2 → Nat :=
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v300 : Index := Scalar.indexCast v129
  let c0_137 : Index := 0#32
  ![v300.toNat, 0]
def k0_off15 (k0_t2 : Fin k0_t2_loop.trips) : Fin 3 → Nat :=
  let c0_141 : Index := 0#32
  let c0_142 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v314 : Index := Scalar.indexCast v221
  ![0, 0, v314.toNat]
def k0_off16 (k0_t2 : Fin k0_t2_loop.trips) : Fin 3 → Nat :=
  let c0_143 : Index := 0#32
  let c32_144 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v318 : Index := Scalar.indexCast v221
  ![0, 32, v318.toNat]
def k0_off17 (k0_t2 : Fin k0_t2_loop.trips) : Fin 3 → Nat :=
  let c0_145 : Index := 0#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v326 : Index := Scalar.indexCast v129
  let c0_146 : Index := 0#32
  ![0, v326.toNat, 0]
def k0_off18 (k0_t2 : Fin k0_t2_loop.trips) : Fin 3 → Nat :=
  let c1_147 : Index := 1#32
  let c0_148 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v331 : Index := Scalar.indexCast v221
  ![1, 0, v331.toNat]
def k0_off19 (k0_t2 : Fin k0_t2_loop.trips) : Fin 3 → Nat :=
  let c1_149 : Index := 1#32
  let c32_150 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v335 : Index := Scalar.indexCast v221
  ![1, 32, v335.toNat]
def k0_off20 (k0_t2 : Fin k0_t2_loop.trips) : Fin 3 → Nat :=
  let c1_151 : Index := 1#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v343 : Index := Scalar.indexCast v129
  let c0_152 : Index := 0#32
  ![1, v343.toNat, 0]
def k0_off21 (k0_t2 : Fin k0_t2_loop.trips) : Fin 3 → Nat :=
  let c2_153 : Index := 2#32
  let c0_154 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v348 : Index := Scalar.indexCast v221
  ![2, 0, v348.toNat]
def k0_off22 (k0_t2 : Fin k0_t2_loop.trips) : Fin 3 → Nat :=
  let c2_155 : Index := 2#32
  let c32_156 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v352 : Index := Scalar.indexCast v221
  ![2, 32, v352.toNat]
def k0_off23 (k0_t2 : Fin k0_t2_loop.trips) : Fin 3 → Nat :=
  let c2_157 : Index := 2#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v360 : Index := Scalar.indexCast v129
  let c0_158 : Index := 0#32
  ![2, v360.toNat, 0]
def k0_off24 (k0_t2 : Fin k0_t2_loop.trips) : Fin 3 → Nat :=
  let c3_159 : Index := 3#32
  let c0_160 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v365 : Index := Scalar.indexCast v221
  ![3, 0, v365.toNat]
def k0_off25 (k0_t2 : Fin k0_t2_loop.trips) : Fin 3 → Nat :=
  let c3_161 : Index := 3#32
  let c32_162 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v369 : Index := Scalar.indexCast v221
  ![3, 32, v369.toNat]
def k0_off26 (k0_t2 : Fin k0_t2_loop.trips) : Fin 3 → Nat :=
  let c3_163 : Index := 3#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v377 : Index := Scalar.indexCast v129
  let c0_164 : Index := 0#32
  ![3, v377.toNat, 0]
def k0_off27 (k0_t2 : Fin k0_t2_loop.trips) : Fin 3 → Nat :=
  let c4_165 : Index := 4#32
  let c0_166 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v382 : Index := Scalar.indexCast v221
  ![4, 0, v382.toNat]
def k0_off28 (k0_t2 : Fin k0_t2_loop.trips) : Fin 3 → Nat :=
  let c4_167 : Index := 4#32
  let c32_168 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v386 : Index := Scalar.indexCast v221
  ![4, 32, v386.toNat]
def k0_off29 (k0_t2 : Fin k0_t2_loop.trips) : Fin 3 → Nat :=
  let c4_169 : Index := 4#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v394 : Index := Scalar.indexCast v129
  let c0_170 : Index := 0#32
  ![4, v394.toNat, 0]
def k0_off30 (k0_t2 : Fin k0_t2_loop.trips) : Fin 3 → Nat :=
  let c5_171 : Index := 5#32
  let c0_172 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v399 : Index := Scalar.indexCast v221
  ![5, 0, v399.toNat]
def k0_off31 (k0_t2 : Fin k0_t2_loop.trips) : Fin 3 → Nat :=
  let c5_173 : Index := 5#32
  let c32_174 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v403 : Index := Scalar.indexCast v221
  ![5, 32, v403.toNat]
def k0_off32 (k0_t2 : Fin k0_t2_loop.trips) : Fin 3 → Nat :=
  let c5_175 : Index := 5#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v411 : Index := Scalar.indexCast v129
  let c0_176 : Index := 0#32
  ![5, v411.toNat, 0]
def k0_off33 (k0_t2 : Fin k0_t2_loop.trips) : Fin 3 → Nat :=
  let c6_177 : Index := 6#32
  let c0_178 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v416 : Index := Scalar.indexCast v221
  ![6, 0, v416.toNat]
def k0_off34 (k0_t2 : Fin k0_t2_loop.trips) : Fin 3 → Nat :=
  let c6_179 : Index := 6#32
  let c32_180 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v420 : Index := Scalar.indexCast v221
  ![6, 32, v420.toNat]
def k0_off35 (k0_t2 : Fin k0_t2_loop.trips) : Fin 3 → Nat :=
  let c6_181 : Index := 6#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v428 : Index := Scalar.indexCast v129
  let c0_182 : Index := 0#32
  ![6, v428.toNat, 0]
def k0_off36 (k0_t2 : Fin k0_t2_loop.trips) : Fin 3 → Nat :=
  let c7_183 : Index := 7#32
  let c0_184 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v433 : Index := Scalar.indexCast v221
  ![7, 0, v433.toNat]
def k0_off37 (k0_t2 : Fin k0_t2_loop.trips) : Fin 3 → Nat :=
  let c7_185 : Index := 7#32
  let c32_186 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v437 : Index := Scalar.indexCast v221
  ![7, 32, v437.toNat]
def k0_off38 (k0_t2 : Fin k0_t2_loop.trips) : Fin 3 → Nat :=
  let c7_187 : Index := 7#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v445 : Index := Scalar.indexCast v129
  let c0_188 : Index := 0#32
  ![7, v445.toNat, 0]
@[reducible] def k0_t3_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult2 (k0_t3 : Fin k0_t3_loop.trips) : BitVec 32 :=
  let c0_i32_92 : BitVec 32 := 0#32
  let c1_i32_93 : BitVec 32 := 1#32
  let arg25 : BitVec 32 := Scf.iv c0_i32_92 c1_i32_93 k0_t3
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off39 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off40 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off41 (k0_t3 : Fin k0_t3_loop.trips) : Fin 2 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off42 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult3 (k0_t3 : Fin k0_t3_loop.trips) : BitVec 32 :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off43 (k0_t3 : Fin k0_t3_loop.trips) : Fin 2 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t4_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult4 (k0_t4 : Fin k0_t4_loop.trips) : BitVec 32 :=
  let c0_i32_92 : BitVec 32 := 0#32
  let c1_i32_93 : BitVec 32 := 1#32
  let arg25 : BitVec 32 := Scf.iv c0_i32_92 c1_i32_93 k0_t4
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off44 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off45 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off46 (k0_t4 : Fin k0_t4_loop.trips) : Fin 2 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off47 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult5 (k0_t4 : Fin k0_t4_loop.trips) : BitVec 32 :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off48 (k0_t4 : Fin k0_t4_loop.trips) : Fin 2 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t5_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult6 (k0_t5 : Fin k0_t5_loop.trips) : BitVec 32 :=
  let c0_i32_92 : BitVec 32 := 0#32
  let c1_i32_93 : BitVec 32 := 1#32
  let arg25 : BitVec 32 := Scf.iv c0_i32_92 c1_i32_93 k0_t5
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off49 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off50 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off51 (k0_t5 : Fin k0_t5_loop.trips) : Fin 2 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off52 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult7 (k0_t5 : Fin k0_t5_loop.trips) : BitVec 32 :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off53 (k0_t5 : Fin k0_t5_loop.trips) : Fin 2 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t6_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult8 (k0_t6 : Fin k0_t6_loop.trips) : BitVec 32 :=
  let c0_i32_92 : BitVec 32 := 0#32
  let c1_i32_93 : BitVec 32 := 1#32
  let arg25 : BitVec 32 := Scf.iv c0_i32_92 c1_i32_93 k0_t6
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off54 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off55 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off56 (k0_t6 : Fin k0_t6_loop.trips) : Fin 2 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off57 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult9 (k0_t6 : Fin k0_t6_loop.trips) : BitVec 32 :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off58 (k0_t6 : Fin k0_t6_loop.trips) : Fin 2 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t7_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult10 (k0_t7 : Fin k0_t7_loop.trips) : BitVec 32 :=
  let c0_i32_92 : BitVec 32 := 0#32
  let c1_i32_93 : BitVec 32 := 1#32
  let arg25 : BitVec 32 := Scf.iv c0_i32_92 c1_i32_93 k0_t7
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off59 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off60 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off61 (k0_t7 : Fin k0_t7_loop.trips) : Fin 2 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off62 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult11 (k0_t7 : Fin k0_t7_loop.trips) : BitVec 32 :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off63 (k0_t7 : Fin k0_t7_loop.trips) : Fin 2 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t8_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult12 (k0_t8 : Fin k0_t8_loop.trips) : BitVec 32 :=
  let c0_i32_92 : BitVec 32 := 0#32
  let c1_i32_93 : BitVec 32 := 1#32
  let arg25 : BitVec 32 := Scf.iv c0_i32_92 c1_i32_93 k0_t8
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off64 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off65 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off66 (k0_t8 : Fin k0_t8_loop.trips) : Fin 2 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off67 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult13 (k0_t8 : Fin k0_t8_loop.trips) : BitVec 32 :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off68 (k0_t8 : Fin k0_t8_loop.trips) : Fin 2 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t9_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult14 (k0_t9 : Fin k0_t9_loop.trips) : BitVec 32 :=
  let c0_i32_92 : BitVec 32 := 0#32
  let c1_i32_93 : BitVec 32 := 1#32
  let arg25 : BitVec 32 := Scf.iv c0_i32_92 c1_i32_93 k0_t9
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off69 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off70 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off71 (k0_t9 : Fin k0_t9_loop.trips) : Fin 2 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off72 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult15 (k0_t9 : Fin k0_t9_loop.trips) : BitVec 32 :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off73 (k0_t9 : Fin k0_t9_loop.trips) : Fin 2 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t10_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult16 (k0_t10 : Fin k0_t10_loop.trips) : BitVec 32 :=
  let c0_i32_92 : BitVec 32 := 0#32
  let c1_i32_93 : BitVec 32 := 1#32
  let arg25 : BitVec 32 := Scf.iv c0_i32_92 c1_i32_93 k0_t10
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off74 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off75 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off76 (k0_t10 : Fin k0_t10_loop.trips) : Fin 2 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off77 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v190 : Index := Scalar.indexCast v146
  let c0_117 : Index := 0#32
  let c0_118 : Index := 0#32
  ![v190.toNat, 0, 0]
def k0_mult17 (k0_t10 : Fin k0_t10_loop.trips) : BitVec 32 :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_120 : BitVec 32 := 32#32
  let v195 : BitVec 32 := Scalar.muli v146 c32_i32_120
  v195
def k0_off78 (k0_t10 : Fin k0_t10_loop.trips) : Fin 2 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_120 : BitVec 32 := 32#32
  let v195 : BitVec 32 := Scalar.muli v146 c32_i32_120
  let v196 : BitVec 32 := v195
  let v201 : Index := Scalar.indexCast v196
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v202 : Index := Scalar.indexCast v158
  ![v201.toNat, v202.toNat]
@[reducible] def k0_t11_loop : Scf.Loop 32 :=
  let c0_i32_88 : BitVec 32 := 0#32
  let c4_i32_89 : BitVec 32 := 4#32
  let v128 : BitVec 32 := Scalar.addi c0_i32_88 c4_i32_89
  let c1_i32_90 : BitVec 32 := 1#32
  ⟨c0_i32_88, v128, c1_i32_90⟩
def k0_mult18 (k0_t11 : Fin k0_t11_loop.trips) : BitVec 32 :=
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  v129
def k0_off79 (k0_t11 : Fin k0_t11_loop.trips) : Fin 2 → Nat :=
  let c0_92 : Index := 0#32
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v131 : Index := Scalar.indexCast v130
  ![0, v131.toNat]
def k0_off80 (k0_t1 : Fin k0_t1_loop.trips) (k0_t11 : Fin k0_t11_loop.trips) : Fin 3 → Nat :=
  let c0_i32_12 : BitVec 32 := 0#32
  let c1_i32_13 : BitVec 32 := 1#32
  let arg24 : BitVec 32 := Scf.iv c0_i32_12 c1_i32_13 k0_t1
  let v136 : Index := Scalar.indexCast arg24
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v137 : Index := Scalar.indexCast v130
  let c0_96 : Index := 0#32
  ![v136.toNat, v137.toNat, 0]
def k0_off81 (k0_t1 : Fin k0_t1_loop.trips) (k0_t11 : Fin k0_t11_loop.trips) : Fin 4 → Nat :=
  let c0_97 : Index := 0#32
  let c0_i32_12 : BitVec 32 := 0#32
  let c1_i32_13 : BitVec 32 := 1#32
  let arg24 : BitVec 32 := Scf.iv c0_i32_12 c1_i32_13 k0_t1
  let v141 : Index := Scalar.indexCast arg24
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v142 : Index := Scalar.indexCast v130
  let c0_98 : Index := 0#32
  ![0, v141.toNat, v142.toNat, 0]
def k0_off82 (i : grid0.Coords) : Fin 4 → Nat :=
  let c0_25 : Index := 0#32
  let c0_26 : Index := 0#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v46 : Index := Scalar.indexCast v40
  let c0_27 : Index := 0#32
  ![0, 0, v46.toNat, 0]
def k0_off83 (i : grid0.Coords) : Fin 4 → Nat :=
  let c0_33 : Index := 0#32
  let c1_34 : Index := 1#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v55 : Index := Scalar.indexCast v40
  let c0_35 : Index := 0#32
  ![0, 1, v55.toNat, 0]
def k0_off84 (i : grid0.Coords) : Fin 4 → Nat :=
  let c1_42 : Index := 1#32
  let c0_43 : Index := 0#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v64 : Index := Scalar.indexCast v40
  let c0_44 : Index := 0#32
  ![1, 0, v64.toNat, 0]
def k0_off85 (i : grid0.Coords) : Fin 4 → Nat :=
  let c1_51 : Index := 1#32
  let c1_52 : Index := 1#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v73 : Index := Scalar.indexCast v40
  let c0_53 : Index := 0#32
  ![1, 1, v73.toNat, 0]
def k0_cond10 (i : grid0.Coords) : BitVec 1 :=
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let c3_i32 : BitVec 32 := 3#32
  let v77 : BitVec 1 := Scalar.cmpi .eq v40 c3_i32
  let v78 : BitVec 32 := Scalar.extui v77
  let c0_i32_54 : BitVec 32 := 0#32
  let v79 : BitVec 1 := Scalar.cmpi .ne v78 c0_i32_54
  v79

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S2x24x1024x256 : Shape := ⟨4, ![2, 24, 1024, 256]⟩
abbrev S256 : Shape := ⟨1, ![256]⟩
abbrev S256x8x32 : Shape := ⟨3, ![256, 8, 32]⟩
abbrev S8x32x256 : Shape := ⟨3, ![8, 32, 256]⟩
abbrev S2 : Shape := ⟨1, ![2]⟩
abbrev S256x256 : Shape := ⟨2, ![256, 256]⟩
abbrev S768x256 : Shape := ⟨2, ![768, 256]⟩
abbrev S1x256 : Shape := ⟨2, ![1, 256]⟩
abbrev S2x1024x24x256 : Shape := ⟨4, ![2, 1024, 24, 256]⟩
abbrev S2x24x256x1024 : Shape := ⟨4, ![2, 24, 256, 1024]⟩
abbrev S2x24x8x1024 : Shape := ⟨4, ![2, 24, 8, 1024]⟩
abbrev S1x2x1024x256 : Shape := ⟨4, ![1, 2, 1024, 256]⟩
abbrev S1x1024x8x256 : Shape := ⟨4, ![1, 1024, 8, 256]⟩
abbrev S1x2x256x1024 : Shape := ⟨4, ![1, 2, 256, 1024]⟩
abbrev S1x2x8x1024 : Shape := ⟨4, ![1, 2, 8, 1024]⟩
abbrev S8x256x1024 : Shape := ⟨3, ![8, 256, 1024]⟩
abbrev S1024x256 : Shape := ⟨2, ![1024, 256]⟩
abbrev S8x48x1024 : Shape := ⟨3, ![8, 48, 1024]⟩
abbrev S8x1024 : Shape := ⟨2, ![8, 1024]⟩
abbrev S8x1024x128 : Shape := ⟨3, ![8, 1024, 128]⟩
abbrev S256x1024 : Shape := ⟨2, ![256, 1024]⟩
abbrev S2x1024x256 : Shape := ⟨3, ![2, 1024, 256]⟩
abbrev S2x2x4096x128 : Shape := ⟨4, ![2, 2, 4096, 128]⟩
abbrev S2x2x4096x2x128 : Shape := ⟨5, ![2, 2, 4096, 2, 128]⟩
abbrev S2x2x4096x1x128 : Shape := ⟨5, ![2, 2, 4096, 1, 128]⟩
abbrev S2x1x256 : Shape := ⟨3, ![2, 1, 256]⟩
abbrev S1 : Shape := ⟨1, ![1]⟩
abbrev S1x1x256x256 : Shape := ⟨4, ![1, 1, 256, 256]⟩
abbrev S256x1 : Shape := ⟨2, ![256, 1]⟩
abbrev S8x256 : Shape := ⟨2, ![8, 256]⟩
abbrev S8x1x256 : Shape := ⟨3, ![8, 1, 256]⟩
abbrev S1x1x8x256 : Shape := ⟨4, ![1, 1, 8, 256]⟩
abbrev S32x256 : Shape := ⟨2, ![32, 256]⟩
abbrev S1x32x256 : Shape := ⟨3, ![1, 32, 256]⟩
abbrev S16x256 : Shape := ⟨2, ![16, 256]⟩
abbrev S1x16x256 : Shape := ⟨3, ![1, 16, 256]⟩
abbrev S128x256 : Shape := ⟨2, ![128, 256]⟩
abbrev S256x128 : Shape := ⟨2, ![256, 128]⟩
abbrev S1x256x128 : Shape := ⟨3, ![1, 256, 128]⟩
abbrev S1x1x256 : Shape := ⟨3, ![1, 1, 256]⟩
abbrev S1x256x256 : Shape := ⟨3, ![1, 256, 256]⟩
abbrev S1x128x128 : Shape := ⟨3, ![1, 128, 128]⟩
abbrev S128x128 : Shape := ⟨2, ![128, 128]⟩
abbrev S1x48x128 : Shape := ⟨3, ![1, 48, 128]⟩
abbrev S48x128 : Shape := ⟨2, ![48, 128]⟩
abbrev S48x256 : Shape := ⟨2, ![48, 256]⟩
abbrev S1x48x256 : Shape := ⟨3, ![1, 48, 256]⟩
abbrev S384x256 : Shape := ⟨2, ![384, 256]⟩
abbrev S1x384x128 : Shape := ⟨3, ![1, 384, 128]⟩
abbrev S384x128 : Shape := ⟨2, ![384, 128]⟩
abbrev S1x48x384 : Shape := ⟨3, ![1, 48, 384]⟩
abbrev S48x384 : Shape := ⟨2, ![48, 384]⟩
abbrev S512x256 : Shape := ⟨2, ![512, 256]⟩
abbrev S1x512x128 : Shape := ⟨3, ![1, 512, 128]⟩
abbrev S512x128 : Shape := ⟨2, ![512, 128]⟩
abbrev S1x48x512 : Shape := ⟨3, ![1, 48, 512]⟩
abbrev S48x512 : Shape := ⟨2, ![48, 512]⟩
abbrev S640x256 : Shape := ⟨2, ![640, 256]⟩
abbrev S1x640x128 : Shape := ⟨3, ![1, 640, 128]⟩
abbrev S640x128 : Shape := ⟨2, ![640, 128]⟩
abbrev S1x48x640 : Shape := ⟨3, ![1, 48, 640]⟩
abbrev S48x640 : Shape := ⟨2, ![48, 640]⟩
abbrev S1x768x128 : Shape := ⟨3, ![1, 768, 128]⟩
abbrev S768x128 : Shape := ⟨2, ![768, 128]⟩
abbrev S1x48x768 : Shape := ⟨3, ![1, 48, 768]⟩
abbrev S48x768 : Shape := ⟨2, ![48, 768]⟩
abbrev S896x256 : Shape := ⟨2, ![896, 256]⟩
abbrev S1x896x128 : Shape := ⟨3, ![1, 896, 128]⟩
abbrev S896x128 : Shape := ⟨2, ![896, 128]⟩
abbrev S1x48x896 : Shape := ⟨3, ![1, 48, 896]⟩
abbrev S48x896 : Shape := ⟨2, ![48, 896]⟩
abbrev S1x1x1 : Shape := ⟨3, ![1, 1, 1]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1x1x1024x2x128 : Shape := ⟨5, ![1, 1, 1024, 2, 128]⟩
abbrev S1x1x1024x1x128 : Shape := ⟨5, ![1, 1, 1024, 1, 128]⟩
abbrev S1x1x4096x128 : Shape := ⟨4, ![1, 1, 4096, 128]⟩
abbrev S1x1x4096x2x128 : Shape := ⟨5, ![1, 1, 4096, 2, 128]⟩
abbrev S1x1x4096x1x128 : Shape := ⟨5, ![1, 1, 4096, 1, 128]⟩
abbrev S4096x128 : Shape := ⟨2, ![4096, 128]⟩
abbrev S8192x128 : Shape := ⟨2, ![8192, 128]⟩
abbrev S1024x8x128 : Shape := ⟨3, ![1024, 8, 128]⟩
abbrev S1x1024x8x128 : Shape := ⟨4, ![1, 1024, 8, 128]⟩

abbrev nBuf : Space → Nat
  | .hbm => 24
  | .vmem => 28
  | .smem => 1
  | _ => 0

abbrev bufTy : (tb : Table) → Fin (tcTables nBuf tb) → BufTy
  | .hbm, ⟨0, _⟩ => ⟨S2x24x1024x256, .f32⟩
  | .hbm, ⟨1, _⟩ => ⟨S256, .f32⟩
  | .hbm, ⟨2, _⟩ => ⟨S256, .f32⟩
  | .hbm, ⟨3, _⟩ => ⟨S256x8x32, .bf16⟩
  | .hbm, ⟨4, _⟩ => ⟨S256x8x32, .bf16⟩
  | .hbm, ⟨5, _⟩ => ⟨S256x8x32, .bf16⟩
  | .hbm, ⟨6, _⟩ => ⟨S8x32x256, .bf16⟩
  | .hbm, ⟨7, _⟩ => ⟨S2, .i32⟩
  | .hbm, ⟨8, _⟩ => ⟨S8x32x256, .bf16⟩
  | .hbm, ⟨9, _⟩ => ⟨S256x256, .bf16⟩
  | .hbm, ⟨10, _⟩ => ⟨S8x32x256, .bf16⟩
  | .hbm, ⟨11, _⟩ => ⟨S256x256, .bf16⟩
  | .hbm, ⟨12, _⟩ => ⟨S8x32x256, .bf16⟩
  | .hbm, ⟨13, _⟩ => ⟨S256x256, .bf16⟩
  | .hbm, ⟨14, _⟩ => ⟨S768x256, .bf16⟩
  | .hbm, ⟨15, _⟩ => ⟨S1x256, .f32⟩
  | .hbm, ⟨16, _⟩ => ⟨S1x256, .f32⟩
  | .hbm, ⟨17, _⟩ => ⟨S256x256, .bf16⟩
  | .hbm, ⟨18, _⟩ => ⟨S2x1024x24x256, .bf16⟩
  | .hbm, ⟨19, _⟩ => ⟨S2x1024x24x256, .bf16⟩
  | .hbm, ⟨20, _⟩ => ⟨S2x24x256x1024, .fp8e4m3⟩
  | .hbm, ⟨21, _⟩ => ⟨S2x24x8x1024, .f32⟩
  | .hbm, ⟨22, _⟩ => ⟨S2x24x256x1024, .fp8e4m3⟩
  | .hbm, ⟨23, _⟩ => ⟨S2x24x8x1024, .f32⟩
  | .local _ .vmem, ⟨0, _⟩ => ⟨S1x2x1024x256, .f32⟩
  | .local _ .vmem, ⟨1, _⟩ => ⟨S1x2x1024x256, .f32⟩
  | .local _ .vmem, ⟨2, _⟩ => ⟨S1x256, .f32⟩
  | .local _ .vmem, ⟨3, _⟩ => ⟨S1x256, .f32⟩
  | .local _ .vmem, ⟨4, _⟩ => ⟨S768x256, .bf16⟩
  | .local _ .vmem, ⟨5, _⟩ => ⟨S256x256, .bf16⟩
  | .local _ .vmem, ⟨6, _⟩ => ⟨S1x1024x8x256, .bf16⟩
  | .local _ .vmem, ⟨7, _⟩ => ⟨S1x1024x8x256, .bf16⟩
  | .local _ .vmem, ⟨8, _⟩ => ⟨S1x1024x8x256, .bf16⟩
  | .local _ .vmem, ⟨9, _⟩ => ⟨S1x1024x8x256, .bf16⟩
  | .local _ .vmem, ⟨10, _⟩ => ⟨S1x2x256x1024, .fp8e4m3⟩
  | .local _ .vmem, ⟨11, _⟩ => ⟨S1x2x256x1024, .fp8e4m3⟩
  | .local _ .vmem, ⟨12, _⟩ => ⟨S1x2x8x1024, .f32⟩
  | .local _ .vmem, ⟨13, _⟩ => ⟨S1x2x8x1024, .f32⟩
  | .local _ .vmem, ⟨14, _⟩ => ⟨S1x2x256x1024, .fp8e4m3⟩
  | .local _ .vmem, ⟨15, _⟩ => ⟨S1x2x256x1024, .fp8e4m3⟩
  | .local _ .vmem, ⟨16, _⟩ => ⟨S1x2x8x1024, .f32⟩
  | .local _ .vmem, ⟨17, _⟩ => ⟨S1x2x8x1024, .f32⟩
  | .local _ .vmem, ⟨18, _⟩ => ⟨S8x256x1024, .fp8e4m3⟩
  | .local _ .vmem, ⟨19, _⟩ => ⟨S1024x256, .fp8e4m3⟩
  | .local _ .vmem, ⟨20, _⟩ => ⟨S8x48x1024, .bf16⟩
  | .local _ .vmem, ⟨21, _⟩ => ⟨S8x1024, .f32⟩
  | .local _ .vmem, ⟨22, _⟩ => ⟨S8x1024x128, .f32⟩
  | .local _ .vmem, ⟨23, _⟩ => ⟨S256x1024, .bf16⟩
  | .local _ .vmem, ⟨24, _⟩ => ⟨S2x1024x256, .f32⟩
  | .local _ .vmem, ⟨25, _⟩ => ⟨S2x1024x256, .f32⟩
  | .local _ .vmem, ⟨26, _⟩ => ⟨S2x2x4096x2x128, .bf16⟩
  | .local _ .vmem, ⟨27, _⟩ => ⟨S2x1x256, .f32⟩
  | .local _ .smem, ⟨0, _⟩ => ⟨S2, .i32⟩
  | _, _ => ⟨S2x24x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F] [Named F]

def κ : String → Option EReal := fun
  | "log2e" => some (((Real.log 2)⁻¹ : ℝ) : EReal)
  | "score_log2" => some ((((Real.sqrt 32) * (Real.log 2))⁻¹ : ℝ) : EReal)
  | _ => none

abbrev grid0 : Pipeline.Grid := ⟨2, ![2, 12], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_12 : BitVec 32 := 0#32
  let c2_i32 : BitVec 32 := 2#32
  let v30 : BitVec 32 := Scalar.addi c0_i32_12 c2_i32
  let c1_i32_13 : BitVec 32 := 1#32
  ⟨c0_i32_12, v30, c1_i32_13⟩
@[reducible] def k0_t2_loop : Scf.Loop 32 :=
  let c0_i32_55 : BitVec 32 := 0#32
  let c4_i32_56 : BitVec 32 := 4#32
  let v80 : BitVec 32 := Scalar.addi c0_i32_55 c4_i32_56
  let c1_i32_57 : BitVec 32 := 1#32
  ⟨c0_i32_55, v80, c1_i32_57⟩
def k0_off2 (k0_t1 : Fin k0_t1_loop.trips) (k0_t2 : Fin k0_t2_loop.trips) : Fin 4 → Nat :=
  let c0_92 : Index := 0#32
  let c0_i32_12 : BitVec 32 := 0#32
  let c1_i32_13 : BitVec 32 := 1#32
  let arg24 : BitVec 32 := Scf.iv c0_i32_12 c1_i32_13 k0_t1
  let v130 : Index := Scalar.indexCast arg24
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v131 : Index := Scalar.indexCast v129
  let c0_93 : Index := 0#32
  ![0, v130.toNat, v131.toNat, 0]
def k0_mult1 (k0_t2 : Fin k0_t2_loop.trips) : BitVec 32 :=
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  v220
def k0_off3 (k0_t1 : Fin k0_t1_loop.trips) (k0_t2 : Fin k0_t2_loop.trips) : Fin 4 → Nat :=
  let c0_121 : Index := 0#32
  let c0_i32_12 : BitVec 32 := 0#32
  let c1_i32_13 : BitVec 32 := 1#32
  let arg24 : BitVec 32 := Scf.iv c0_i32_12 c1_i32_13 k0_t1
  let v222 : Index := Scalar.indexCast arg24
  let c0_122 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v223 : Index := Scalar.indexCast v221
  ![0, v222.toNat, 0, v223.toNat]
def k0_off4 (k0_t1 : Fin k0_t1_loop.trips) (k0_t2 : Fin k0_t2_loop.trips) : Fin 4 → Nat :=
  let c0_123 : Index := 0#32
  let c0_i32_12 : BitVec 32 := 0#32
  let c1_i32_13 : BitVec 32 := 1#32
  let arg24 : BitVec 32 := Scf.iv c0_i32_12 c1_i32_13 k0_t1
  let v227 : Index := Scalar.indexCast arg24
  let c0_124 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v228 : Index := Scalar.indexCast v221
  ![0, v227.toNat, 0, v228.toNat]
def k0_off5 (k0_t2 : Fin k0_t2_loop.trips) : Fin 2 → Nat :=
  let c0_130 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v244 : Index := Scalar.indexCast v221
  ![0, v244.toNat]
def k0_off6 (k0_t2 : Fin k0_t2_loop.trips) : Fin 3 → Nat :=
  let c0_131 : Index := 0#32
  let c0_132 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v249 : Index := Scalar.indexCast v221
  ![0, 0, v249.toNat]
def k0_off7 (k0_t2 : Fin k0_t2_loop.trips) : Fin 3 → Nat :=
  let c1_133 : Index := 1#32
  let c32 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v254 : Index := Scalar.indexCast v221
  ![1, 32, v254.toNat]
def k0_off8 (k0_t2 : Fin k0_t2_loop.trips) : Fin 3 → Nat :=
  let c2 : Index := 2#32
  let c64 : Index := 64#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v259 : Index := Scalar.indexCast v221
  ![2, 64, v259.toNat]
def k0_off9 (k0_t2 : Fin k0_t2_loop.trips) : Fin 3 → Nat :=
  let c3 : Index := 3#32
  let c96 : Index := 96#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v264 : Index := Scalar.indexCast v221
  ![3, 96, v264.toNat]
def k0_off10 (k0_t2 : Fin k0_t2_loop.trips) : Fin 3 → Nat :=
  let c4 : Index := 4#32
  let c128_134 : Index := 128#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v269 : Index := Scalar.indexCast v221
  ![4, 128, v269.toNat]
def k0_off11 (k0_t2 : Fin k0_t2_loop.trips) : Fin 3 → Nat :=
  let c5 : Index := 5#32
  let c160 : Index := 160#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v274 : Index := Scalar.indexCast v221
  ![5, 160, v274.toNat]
def k0_off12 (k0_t2 : Fin k0_t2_loop.trips) : Fin 3 → Nat :=
  let c6 : Index := 6#32
  let c192 : Index := 192#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v279 : Index := Scalar.indexCast v221
  ![6, 192, v279.toNat]
def k0_off13 (k0_t2 : Fin k0_t2_loop.trips) : Fin 3 → Nat :=
  let c7 : Index := 7#32
  let c224 : Index := 224#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v284 : Index := Scalar.indexCast v221
  ![7, 224, v284.toNat]
def k0_off14 (k0_t2 : Fin k0_t2_loop.trips) : Fin 2 → Nat :=
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v300 : Index := Scalar.indexCast v129
  let c0_137 : Index := 0#32
  ![v300.toNat, 0]
def k0_off15 (k0_t2 : Fin k0_t2_loop.trips) : Fin 3 → Nat :=
  let c0_141 : Index := 0#32
  let c0_142 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v314 : Index := Scalar.indexCast v221
  ![0, 0, v314.toNat]
def k0_off16 (k0_t2 : Fin k0_t2_loop.trips) : Fin 3 → Nat :=
  let c0_143 : Index := 0#32
  let c32_144 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v318 : Index := Scalar.indexCast v221
  ![0, 32, v318.toNat]
def k0_off17 (k0_t2 : Fin k0_t2_loop.trips) : Fin 3 → Nat :=
  let c0_145 : Index := 0#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v326 : Index := Scalar.indexCast v129
  let c0_146 : Index := 0#32
  ![0, v326.toNat, 0]
def k0_off18 (k0_t2 : Fin k0_t2_loop.trips) : Fin 3 → Nat :=
  let c1_147 : Index := 1#32
  let c0_148 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v331 : Index := Scalar.indexCast v221
  ![1, 0, v331.toNat]
def k0_off19 (k0_t2 : Fin k0_t2_loop.trips) : Fin 3 → Nat :=
  let c1_149 : Index := 1#32
  let c32_150 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v335 : Index := Scalar.indexCast v221
  ![1, 32, v335.toNat]
def k0_off20 (k0_t2 : Fin k0_t2_loop.trips) : Fin 3 → Nat :=
  let c1_151 : Index := 1#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v343 : Index := Scalar.indexCast v129
  let c0_152 : Index := 0#32
  ![1, v343.toNat, 0]
def k0_off21 (k0_t2 : Fin k0_t2_loop.trips) : Fin 3 → Nat :=
  let c2_153 : Index := 2#32
  let c0_154 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v348 : Index := Scalar.indexCast v221
  ![2, 0, v348.toNat]
def k0_off22 (k0_t2 : Fin k0_t2_loop.trips) : Fin 3 → Nat :=
  let c2_155 : Index := 2#32
  let c32_156 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v352 : Index := Scalar.indexCast v221
  ![2, 32, v352.toNat]
def k0_off23 (k0_t2 : Fin k0_t2_loop.trips) : Fin 3 → Nat :=
  let c2_157 : Index := 2#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v360 : Index := Scalar.indexCast v129
  let c0_158 : Index := 0#32
  ![2, v360.toNat, 0]
def k0_off24 (k0_t2 : Fin k0_t2_loop.trips) : Fin 3 → Nat :=
  let c3_159 : Index := 3#32
  let c0_160 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v365 : Index := Scalar.indexCast v221
  ![3, 0, v365.toNat]
def k0_off25 (k0_t2 : Fin k0_t2_loop.trips) : Fin 3 → Nat :=
  let c3_161 : Index := 3#32
  let c32_162 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v369 : Index := Scalar.indexCast v221
  ![3, 32, v369.toNat]
def k0_off26 (k0_t2 : Fin k0_t2_loop.trips) : Fin 3 → Nat :=
  let c3_163 : Index := 3#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v377 : Index := Scalar.indexCast v129
  let c0_164 : Index := 0#32
  ![3, v377.toNat, 0]
def k0_off27 (k0_t2 : Fin k0_t2_loop.trips) : Fin 3 → Nat :=
  let c4_165 : Index := 4#32
  let c0_166 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v382 : Index := Scalar.indexCast v221
  ![4, 0, v382.toNat]
def k0_off28 (k0_t2 : Fin k0_t2_loop.trips) : Fin 3 → Nat :=
  let c4_167 : Index := 4#32
  let c32_168 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v386 : Index := Scalar.indexCast v221
  ![4, 32, v386.toNat]
def k0_off29 (k0_t2 : Fin k0_t2_loop.trips) : Fin 3 → Nat :=
  let c4_169 : Index := 4#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v394 : Index := Scalar.indexCast v129
  let c0_170 : Index := 0#32
  ![4, v394.toNat, 0]
def k0_off30 (k0_t2 : Fin k0_t2_loop.trips) : Fin 3 → Nat :=
  let c5_171 : Index := 5#32
  let c0_172 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v399 : Index := Scalar.indexCast v221
  ![5, 0, v399.toNat]
def k0_off31 (k0_t2 : Fin k0_t2_loop.trips) : Fin 3 → Nat :=
  let c5_173 : Index := 5#32
  let c32_174 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v403 : Index := Scalar.indexCast v221
  ![5, 32, v403.toNat]
def k0_off32 (k0_t2 : Fin k0_t2_loop.trips) : Fin 3 → Nat :=
  let c5_175 : Index := 5#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v411 : Index := Scalar.indexCast v129
  let c0_176 : Index := 0#32
  ![5, v411.toNat, 0]
def k0_off33 (k0_t2 : Fin k0_t2_loop.trips) : Fin 3 → Nat :=
  let c6_177 : Index := 6#32
  let c0_178 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v416 : Index := Scalar.indexCast v221
  ![6, 0, v416.toNat]
def k0_off34 (k0_t2 : Fin k0_t2_loop.trips) : Fin 3 → Nat :=
  let c6_179 : Index := 6#32
  let c32_180 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v420 : Index := Scalar.indexCast v221
  ![6, 32, v420.toNat]
def k0_off35 (k0_t2 : Fin k0_t2_loop.trips) : Fin 3 → Nat :=
  let c6_181 : Index := 6#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v428 : Index := Scalar.indexCast v129
  let c0_182 : Index := 0#32
  ![6, v428.toNat, 0]
def k0_off36 (k0_t2 : Fin k0_t2_loop.trips) : Fin 3 → Nat :=
  let c7_183 : Index := 7#32
  let c0_184 : Index := 0#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v433 : Index := Scalar.indexCast v221
  ![7, 0, v433.toNat]
def k0_off37 (k0_t2 : Fin k0_t2_loop.trips) : Fin 3 → Nat :=
  let c7_185 : Index := 7#32
  let c32_186 : Index := 32#32
  let c0_i32_55 : BitVec 32 := 0#32
  let c1_i32_57 : BitVec 32 := 1#32
  let arg25 : BitVec 32 := Scf.iv c0_i32_55 c1_i32_57 k0_t2
  let c256_i32_120 : BitVec 32 := 256#32
  let v220 : BitVec 32 := Scalar.muli arg25 c256_i32_120
  let v221 : BitVec 32 := v220
  let v437 : Index := Scalar.indexCast v221
  ![7, 32, v437.toNat]
def k0_off38 (k0_t2 : Fin k0_t2_loop.trips) : Fin 3 → Nat :=
  let c7_187 : Index := 7#32
  let c0_i32_55 : BitVec 32 := 0#32
  let c1_i32_57 : BitVec 32 := 1#32
  let arg25 : BitVec 32 := Scf.iv c0_i32_55 c1_i32_57 k0_t2
  let c256_i32 : BitVec 32 := 256#32
  let v129 : BitVec 32 := Scalar.muli arg25 c256_i32
  let v445 : Index := Scalar.indexCast v129
  let c0_188 : Index := 0#32
  ![7, v445.toNat, 0]
@[reducible] def k0_t3_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult2 (k0_t3 : Fin k0_t3_loop.trips) : BitVec 32 :=
  let c0_i32_92 : BitVec 32 := 0#32
  let c1_i32_93 : BitVec 32 := 1#32
  let arg25 : BitVec 32 := Scf.iv c0_i32_92 c1_i32_93 k0_t3
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off39 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off40 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off41 (k0_t3 : Fin k0_t3_loop.trips) : Fin 2 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off42 (k0_t3 : Fin k0_t3_loop.trips) : Fin 3 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult3 (k0_t3 : Fin k0_t3_loop.trips) : BitVec 32 :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off43 (k0_t3 : Fin k0_t3_loop.trips) : Fin 2 → Nat :=
  let c0_i32_92 : BitVec 32 := 0#32
  let c1_i32_93 : BitVec 32 := 1#32
  let arg25 : BitVec 32 := Scf.iv c0_i32_92 c1_i32_93 k0_t3
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t4_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult4 (k0_t4 : Fin k0_t4_loop.trips) : BitVec 32 :=
  let c0_i32_92 : BitVec 32 := 0#32
  let c1_i32_93 : BitVec 32 := 1#32
  let arg25 : BitVec 32 := Scf.iv c0_i32_92 c1_i32_93 k0_t4
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off44 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off45 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off46 (k0_t4 : Fin k0_t4_loop.trips) : Fin 2 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off47 (k0_t4 : Fin k0_t4_loop.trips) : Fin 3 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult5 (k0_t4 : Fin k0_t4_loop.trips) : BitVec 32 :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off48 (k0_t4 : Fin k0_t4_loop.trips) : Fin 2 → Nat :=
  let c0_i32_92 : BitVec 32 := 0#32
  let c1_i32_93 : BitVec 32 := 1#32
  let arg25 : BitVec 32 := Scf.iv c0_i32_92 c1_i32_93 k0_t4
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t5_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult6 (k0_t5 : Fin k0_t5_loop.trips) : BitVec 32 :=
  let c0_i32_92 : BitVec 32 := 0#32
  let c1_i32_93 : BitVec 32 := 1#32
  let arg25 : BitVec 32 := Scf.iv c0_i32_92 c1_i32_93 k0_t5
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off49 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off50 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off51 (k0_t5 : Fin k0_t5_loop.trips) : Fin 2 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off52 (k0_t5 : Fin k0_t5_loop.trips) : Fin 3 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult7 (k0_t5 : Fin k0_t5_loop.trips) : BitVec 32 :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off53 (k0_t5 : Fin k0_t5_loop.trips) : Fin 2 → Nat :=
  let c0_i32_92 : BitVec 32 := 0#32
  let c1_i32_93 : BitVec 32 := 1#32
  let arg25 : BitVec 32 := Scf.iv c0_i32_92 c1_i32_93 k0_t5
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t6_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult8 (k0_t6 : Fin k0_t6_loop.trips) : BitVec 32 :=
  let c0_i32_92 : BitVec 32 := 0#32
  let c1_i32_93 : BitVec 32 := 1#32
  let arg25 : BitVec 32 := Scf.iv c0_i32_92 c1_i32_93 k0_t6
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off54 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off55 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off56 (k0_t6 : Fin k0_t6_loop.trips) : Fin 2 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off57 (k0_t6 : Fin k0_t6_loop.trips) : Fin 3 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult9 (k0_t6 : Fin k0_t6_loop.trips) : BitVec 32 :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off58 (k0_t6 : Fin k0_t6_loop.trips) : Fin 2 → Nat :=
  let c0_i32_92 : BitVec 32 := 0#32
  let c1_i32_93 : BitVec 32 := 1#32
  let arg25 : BitVec 32 := Scf.iv c0_i32_92 c1_i32_93 k0_t6
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t7_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult10 (k0_t7 : Fin k0_t7_loop.trips) : BitVec 32 :=
  let c0_i32_92 : BitVec 32 := 0#32
  let c1_i32_93 : BitVec 32 := 1#32
  let arg25 : BitVec 32 := Scf.iv c0_i32_92 c1_i32_93 k0_t7
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off59 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off60 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off61 (k0_t7 : Fin k0_t7_loop.trips) : Fin 2 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off62 (k0_t7 : Fin k0_t7_loop.trips) : Fin 3 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult11 (k0_t7 : Fin k0_t7_loop.trips) : BitVec 32 :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off63 (k0_t7 : Fin k0_t7_loop.trips) : Fin 2 → Nat :=
  let c0_i32_92 : BitVec 32 := 0#32
  let c1_i32_93 : BitVec 32 := 1#32
  let arg25 : BitVec 32 := Scf.iv c0_i32_92 c1_i32_93 k0_t7
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t8_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult12 (k0_t8 : Fin k0_t8_loop.trips) : BitVec 32 :=
  let c0_i32_92 : BitVec 32 := 0#32
  let c1_i32_93 : BitVec 32 := 1#32
  let arg25 : BitVec 32 := Scf.iv c0_i32_92 c1_i32_93 k0_t8
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off64 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off65 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off66 (k0_t8 : Fin k0_t8_loop.trips) : Fin 2 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off67 (k0_t8 : Fin k0_t8_loop.trips) : Fin 3 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult13 (k0_t8 : Fin k0_t8_loop.trips) : BitVec 32 :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off68 (k0_t8 : Fin k0_t8_loop.trips) : Fin 2 → Nat :=
  let c0_i32_92 : BitVec 32 := 0#32
  let c1_i32_93 : BitVec 32 := 1#32
  let arg25 : BitVec 32 := Scf.iv c0_i32_92 c1_i32_93 k0_t8
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t9_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult14 (k0_t9 : Fin k0_t9_loop.trips) : BitVec 32 :=
  let c0_i32_92 : BitVec 32 := 0#32
  let c1_i32_93 : BitVec 32 := 1#32
  let arg25 : BitVec 32 := Scf.iv c0_i32_92 c1_i32_93 k0_t9
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off69 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off70 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off71 (k0_t9 : Fin k0_t9_loop.trips) : Fin 2 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off72 (k0_t9 : Fin k0_t9_loop.trips) : Fin 3 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v177 : Index := Scalar.indexCast v146
  let c0_114 : Index := 0#32
  let c0_115 : Index := 0#32
  ![v177.toNat, 0, 0]
def k0_mult15 (k0_t9 : Fin k0_t9_loop.trips) : BitVec 32 :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  v194
def k0_off73 (k0_t9 : Fin k0_t9_loop.trips) : Fin 2 → Nat :=
  let c0_i32_92 : BitVec 32 := 0#32
  let c1_i32_93 : BitVec 32 := 1#32
  let arg25 : BitVec 32 := Scf.iv c0_i32_92 c1_i32_93 k0_t9
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_129 : BitVec 32 := 32#32
  let v194 : BitVec 32 := Scalar.muli v146 c32_i32_129
  let v195 : BitVec 32 := v194
  let v200 : Index := Scalar.indexCast v195
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v201 : Index := Scalar.indexCast v158
  ![v200.toNat, v201.toNat]
@[reducible] def k0_t10_loop : Scf.Loop 32 :=
  let c0_i32_92 : BitVec 32 := 0#32
  let c32_i32 : BitVec 32 := 32#32
  let v129 : BitVec 32 := Scalar.addi c0_i32_92 c32_i32
  let c1_i32_93 : BitVec 32 := 1#32
  ⟨c0_i32_92, v129, c1_i32_93⟩
def k0_mult16 (k0_t10 : Fin k0_t10_loop.trips) : BitVec 32 :=
  let c0_i32_92 : BitVec 32 := 0#32
  let c1_i32_93 : BitVec 32 := 1#32
  let arg25 : BitVec 32 := Scf.iv c0_i32_92 c1_i32_93 k0_t10
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  v157
def k0_off74 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v160 : Index := Scalar.indexCast v146
  let c0_110 : Index := 0#32
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v161 : Index := Scalar.indexCast v158
  ![v160.toNat, 0, v161.toNat]
def k0_off75 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v165 : Index := Scalar.indexCast v146
  let c0_112 : Index := 0#32
  let c0_113 : Index := 0#32
  ![v165.toNat, 0, 0]
def k0_off76 (k0_t10 : Fin k0_t10_loop.trips) : Fin 2 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v170 : Index := Scalar.indexCast v146
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v171 : Index := Scalar.indexCast v158
  ![v170.toNat, v171.toNat]
def k0_off77 (k0_t10 : Fin k0_t10_loop.trips) : Fin 3 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let v190 : Index := Scalar.indexCast v146
  let c0_117 : Index := 0#32
  let c0_118 : Index := 0#32
  ![v190.toNat, 0, 0]
def k0_mult17 (k0_t10 : Fin k0_t10_loop.trips) : BitVec 32 :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_120 : BitVec 32 := 32#32
  let v195 : BitVec 32 := Scalar.muli v146 c32_i32_120
  v195
def k0_off78 (k0_t10 : Fin k0_t10_loop.trips) : Fin 2 → Nat :=
  let c0_i32_92 : BitVec 32 := 0#32
  let c1_i32_93 : BitVec 32 := 1#32
  let arg25 : BitVec 32 := Scf.iv c0_i32_92 c1_i32_93 k0_t10
  let c0_i32_96 : BitVec 32 := 0#32
  let v131 : BitVec 1 := Scalar.cmpi .sgt arg25 c0_i32_96
  let v132 : BitVec 32 := Scalar.extui v131
  let c0_i32_97 : BitVec 32 := 0#32
  let v133 : BitVec 1 := Scalar.cmpi .slt arg25 c0_i32_97
  let v134 : BitVec 32 := Scalar.extui v133
  let v135 : BitVec 32 := Scalar.subi v132 v134
  let c4_i32_95 : BitVec 32 := 4#32
  let c0_i32_98 : BitVec 32 := 0#32
  let v136 : BitVec 1 := Scalar.cmpi .sgt c4_i32_95 c0_i32_98
  let v137 : BitVec 32 := Scalar.extui v136
  let c0_i32_99 : BitVec 32 := 0#32
  let v138 : BitVec 1 := Scalar.cmpi .slt c4_i32_95 c0_i32_99
  let v139 : BitVec 32 := Scalar.extui v138
  let v140 : BitVec 32 := Scalar.subi v137 v139
  let v141 : BitVec 1 := Scalar.cmpi .ne v135 v140
  let v142 : BitVec 32 := Scalar.remsi arg25 c4_i32_95
  let c0_i32_100 : BitVec 32 := 0#32
  let v143 : BitVec 1 := Scalar.cmpi .ne v142 c0_i32_100
  let v144 : BitVec 1 := Scalar.andi v141 v143
  let v130 : BitVec 32 := Scalar.divsi arg25 c4_i32_95
  let c1_i32_101 : BitVec 32 := 1#32
  let v145 : BitVec 32 := Scalar.subi v130 c1_i32_101
  let v146 : BitVec 32 := Scalar.select v144 v145 v130
  let c32_i32_120 : BitVec 32 := 32#32
  let v195 : BitVec 32 := Scalar.muli v146 c32_i32_120
  let v196 : BitVec 32 := v195
  let v201 : Index := Scalar.indexCast v196
  let c4_i32_102 : BitVec 32 := 4#32
  let c0_i32_103 : BitVec 32 := 0#32
  let v147 : BitVec 1 := Scalar.cmpi .eq c4_i32_102 c0_i32_103
  let c1_i32_104 : BitVec 32 := 1#32
  let v148 : BitVec 32 := Scalar.select v147 c1_i32_104 c4_i32_102
  let v149 : BitVec 32 := Scalar.remsi arg25 v148
  let c0_i32_106 : BitVec 32 := 0#32
  let v151 : BitVec 1 := Scalar.cmpi .slt v149 c0_i32_106
  let c0_i32_107 : BitVec 32 := 0#32
  let v152 : BitVec 1 := Scalar.cmpi .slt v148 c0_i32_107
  let v153 : BitVec 1 := Scalar.xori v151 v152
  let c0_i32_105 : BitVec 32 := 0#32
  let v150 : BitVec 1 := Scalar.cmpi .ne v149 c0_i32_105
  let v154 : BitVec 1 := Scalar.andi v153 v150
  let v155 : BitVec 32 := Scalar.addi v149 v148
  let v156 : BitVec 32 := Scalar.select v154 v155 v149
  let c256_i32 : BitVec 32 := 256#32
  let v157 : BitVec 32 := Scalar.muli v156 c256_i32
  let v158 : BitVec 32 := v157
  let v202 : Index := Scalar.indexCast v158
  ![v201.toNat, v202.toNat]
@[reducible] def k0_t11_loop : Scf.Loop 32 :=
  let c0_i32_88 : BitVec 32 := 0#32
  let c4_i32_89 : BitVec 32 := 4#32
  let v128 : BitVec 32 := Scalar.addi c0_i32_88 c4_i32_89
  let c1_i32_90 : BitVec 32 := 1#32
  ⟨c0_i32_88, v128, c1_i32_90⟩
def k0_mult18 (k0_t11 : Fin k0_t11_loop.trips) : BitVec 32 :=
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  v129
def k0_off79 (k0_t11 : Fin k0_t11_loop.trips) : Fin 2 → Nat :=
  let c0_92 : Index := 0#32
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v131 : Index := Scalar.indexCast v130
  ![0, v131.toNat]
def k0_off80 (k0_t1 : Fin k0_t1_loop.trips) (k0_t11 : Fin k0_t11_loop.trips) : Fin 3 → Nat :=
  let c0_i32_12 : BitVec 32 := 0#32
  let c1_i32_13 : BitVec 32 := 1#32
  let arg24 : BitVec 32 := Scf.iv c0_i32_12 c1_i32_13 k0_t1
  let v136 : Index := Scalar.indexCast arg24
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v137 : Index := Scalar.indexCast v130
  let c0_96 : Index := 0#32
  ![v136.toNat, v137.toNat, 0]
def k0_off81 (k0_t1 : Fin k0_t1_loop.trips) (k0_t11 : Fin k0_t11_loop.trips) : Fin 4 → Nat :=
  let c0_97 : Index := 0#32
  let c0_i32_12 : BitVec 32 := 0#32
  let c1_i32_13 : BitVec 32 := 1#32
  let arg24 : BitVec 32 := Scf.iv c0_i32_12 c1_i32_13 k0_t1
  let v141 : Index := Scalar.indexCast arg24
  let c0_i32_88 : BitVec 32 := 0#32
  let c1_i32_90 : BitVec 32 := 1#32
  let arg25 : BitVec 32 := Scf.iv c0_i32_88 c1_i32_90 k0_t11
  let c256_i32 : BitVec 32 := 256#32
  let v129 : BitVec 32 := Scalar.muli arg25 c256_i32
  let v130 : BitVec 32 := v129
  let v142 : Index := Scalar.indexCast v130
  let c0_98 : Index := 0#32
  ![0, v141.toNat, v142.toNat, 0]
def k0_off82 (i : grid0.Coords) : Fin 5 → Nat :=
  let c0_25 : Index := 0#32
  let c0_26 : Index := 0#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v46 : Index := Scalar.indexCast v40
  let c0_27 : Index := 0#32
  ![0, 0, v46.toNat, 0, 0]
def k0_off83 (i : grid0.Coords) : Fin 5 → Nat :=
  let c0_33 : Index := 0#32
  let c1_34 : Index := 1#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v55 : Index := Scalar.indexCast v40
  let c0_35 : Index := 0#32
  ![0, 1, v55.toNat, 0, 0]
def k0_off84 (i : grid0.Coords) : Fin 5 → Nat :=
  let c1_42 : Index := 1#32
  let c0_43 : Index := 0#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v64 : Index := Scalar.indexCast v40
  let c0_44 : Index := 0#32
  ![1, 0, v64.toNat, 0, 0]
def k0_off85 (i : grid0.Coords) : Fin 5 → Nat :=
  let c1_51 : Index := 1#32
  let c1_52 : Index := 1#32
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let v73 : Index := Scalar.indexCast v40
  let c0_53 : Index := 0#32
  ![1, 1, v73.toNat, 0, 0]
def k0_cond10 (i : grid0.Coords) : BitVec 1 :=
  let arg1 : BitVec 32 := BitVec.ofNat 32 (i 1).val
  let c4_i32 : BitVec 32 := 4#32
  let c0_i32_15 : BitVec 32 := 0#32
  let v31 : BitVec 1 := Scalar.cmpi .eq c4_i32 c0_i32_15
  let c1_i32_16 : BitVec 32 := 1#32
  let v32 : BitVec 32 := Scalar.select v31 c1_i32_16 c4_i32
  let v33 : BitVec 32 := Scalar.remsi arg1 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let c3_i32 : BitVec 32 := 3#32
  let v77 : BitVec 1 := Scalar.cmpi .eq v40 c3_i32
  let v78 : BitVec 32 := Scalar.extui v77
  let c0_i32_54 : BitVec 32 := 0#32
  let v79 : BitVec 1 := Scalar.cmpi .ne v78 c0_i32_54
  v79

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x24x1024x256 : Shape := ⟨4, ![2, 24, 1024, 256]⟩
abbrev S256 : Shape := ⟨1, ![256]⟩
abbrev S256x8x32 : Shape := ⟨3, ![256, 8, 32]⟩
abbrev S8x32x256 : Shape := ⟨3, ![8, 32, 256]⟩
abbrev S2 : Shape := ⟨1, ![2]⟩
abbrev S_ : Shape := ⟨0, ![]⟩
abbrev S2x24x1024 : Shape := ⟨3, ![2, 24, 1024]⟩
abbrev S2x24x1024x1 : Shape := ⟨4, ![2, 24, 1024, 1]⟩
abbrev S1x1x1x256 : Shape := ⟨4, ![1, 1, 1, 256]⟩
abbrev S8x32x2x24x1024 : Shape := ⟨5, ![8, 32, 2, 24, 1024]⟩
abbrev S2x24x8x32x1024 : Shape := ⟨5, ![2, 24, 8, 32, 1024]⟩
abbrev S2x24x8x1024 : Shape := ⟨4, ![2, 24, 8, 1024]⟩
abbrev S2x24x8x1x1024 : Shape := ⟨5, ![2, 24, 8, 1, 1024]⟩
abbrev S2x24x256x1024 : Shape := ⟨4, ![2, 24, 256, 1024]⟩
abbrev S2x24x8x1024x1024 : Shape := ⟨5, ![2, 24, 8, 1024, 1024]⟩
abbrev S2x24x8x1024x1 : Shape := ⟨5, ![2, 24, 8, 1024, 1]⟩
abbrev S1024 : Shape := ⟨1, ![1024]⟩
abbrev S1x1024 : Shape := ⟨2, ![1, 1024]⟩
abbrev S2x1 : Shape := ⟨2, ![2, 1]⟩
abbrev S2x1024 : Shape := ⟨2, ![2, 1024]⟩
abbrev S2x1x1x1x1024 : Shape := ⟨5, ![2, 1, 1, 1, 1024]⟩
abbrev S2x24x8x1024x32 : Shape := ⟨5, ![2, 24, 8, 1024, 32]⟩
abbrev S256x2x24x1024 : Shape := ⟨4, ![256, 2, 24, 1024]⟩
abbrev S2x1024x24x256 : Shape := ⟨4, ![2, 1024, 24, 256]⟩

abbrev nBuf : Space → Nat
  | .hbm => 177
  | .vmem => 6
  | .smem => 0
  | _ => 0

abbrev hbmTy0_0 (i : Nat) : BufTy := match i % 128 with
  | 0 => ⟨S2x24x1024x256, .f32⟩
  | 1 => ⟨S256, .f32⟩
  | 2 => ⟨S256, .f32⟩
  | 3 => ⟨S256x8x32, .bf16⟩
  | 4 => ⟨S256x8x32, .bf16⟩
  | 5 => ⟨S256x8x32, .bf16⟩
  | 6 => ⟨S8x32x256, .bf16⟩
  | 7 => ⟨S2, .i32⟩
  | 8 => ⟨S_, .f32⟩
  | 9 => ⟨S2x24x1024, .f32⟩
  | 10 => ⟨S2x24x1024x1, .f32⟩
  | 11 => ⟨S_, .f32⟩
  | 12 => ⟨S2x24x1024x1, .f32⟩
  | 13 => ⟨S2x24x1024x1, .f32⟩
  | 14 => ⟨S2x24x1024x256, .f32⟩
  | 15 => ⟨S2x24x1024x256, .f32⟩
  | 16 => ⟨S2x24x1024x256, .f32⟩
  | 17 => ⟨S_, .f32⟩
  | 18 => ⟨S2x24x1024, .f32⟩
  | 19 => ⟨S2x24x1024x1, .f32⟩
  | 20 => ⟨S_, .f32⟩
  | 21 => ⟨S2x24x1024x1, .f32⟩
  | 22 => ⟨S2x24x1024x1, .f32⟩
  | 23 => ⟨S_, .f32⟩
  | 24 => ⟨S2x24x1024x1, .f32⟩
  | 25 => ⟨S2x24x1024x1, .f32⟩
  | 26 => ⟨S2x24x1024x1, .f32⟩
  | 27 => ⟨S2x24x1024x256, .f32⟩
  | 28 => ⟨S2x24x1024x256, .f32⟩
  | 29 => ⟨S1x1x1x256, .f32⟩
  | 30 => ⟨S2x24x1024x256, .f32⟩
  | 31 => ⟨S2x24x1024x256, .f32⟩
  | 32 => ⟨S1x1x1x256, .f32⟩
  | 33 => ⟨S2x24x1024x256, .f32⟩
  | 34 => ⟨S2x24x1024x256, .f32⟩
  | 35 => ⟨S2x24x1024x256, .bf16⟩
  | 36 => ⟨S8x32x2x24x1024, .f32⟩
  | 37 => ⟨S2x24x8x32x1024, .f32⟩
  | 38 => ⟨S8x32x2x24x1024, .f32⟩
  | 39 => ⟨S2x24x8x32x1024, .f32⟩
  | 40 => ⟨S8x32x2x24x1024, .f32⟩
  | 41 => ⟨S2x24x8x32x1024, .f32⟩
  | 42 => ⟨S2x24x8x32x1024, .bf16⟩
  | 43 => ⟨S2x24x8x32x1024, .f32⟩
  | 44 => ⟨S_, .f32⟩
  | 45 => ⟨S2x24x8x1024, .f32⟩
  | 46 => ⟨S_, .f32⟩
  | 47 => ⟨S2x24x8x1024, .f32⟩
  | 48 => ⟨S2x24x8x1024, .f32⟩
  | 49 => ⟨S_, .f32⟩
  | 50 => ⟨S2x24x8x1024, .f32⟩
  | 51 => ⟨S2x24x8x1024, .i1⟩
  | 52 => ⟨S2x24x8x1024, .f32⟩
  | 53 => ⟨S_, .f32⟩
  | 54 => ⟨S_, .f32⟩
  | 55 => ⟨S_, .f32⟩
  | 56 => ⟨S2x24x8x1024, .f32⟩
  | 57 => ⟨S2x24x8x1024, .f32⟩
  | 58 => ⟨S2x24x8x1024, .f32⟩
  | 59 => ⟨S_, .f32⟩
  | 60 => ⟨S2x24x8x1024, .f32⟩
  | 61 => ⟨S2x24x8x1024, .f32⟩
  | 62 => ⟨S_, .f32⟩
  | 63 => ⟨S_, .f32⟩
  | 64 => ⟨S2x24x8x1024, .f32⟩
  | 65 => ⟨S2x24x8x1024, .f32⟩
  | 66 => ⟨S_, .f32⟩
  | 67 => ⟨S2x24x8x1024, .f32⟩
  | 68 => ⟨S2x24x8x1024, .f32⟩
  | 69 => ⟨S2x24x8x1024, .f32⟩
  | 70 => ⟨S_, .f32⟩
  | 71 => ⟨S2x24x8x1024, .f32⟩
  | 72 => ⟨S2x24x8x1024, .f32⟩
  | 73 => ⟨S2x24x8x1x1024, .f32⟩
  | 74 => ⟨S2x24x8x32x1024, .f32⟩
  | 75 => ⟨S2x24x8x32x1024, .f32⟩
  | 76 => ⟨S_, .f32⟩
  | 77 => ⟨S_, .f32⟩
  | 78 => ⟨S_, .f32⟩
  | 79 => ⟨S2x24x8x32x1024, .f32⟩
  | 80 => ⟨S2x24x8x32x1024, .f32⟩
  | 81 => ⟨S_, .f32⟩
  | 82 => ⟨S2x24x8x32x1024, .f32⟩
  | 83 => ⟨S2x24x8x32x1024, .f32⟩
  | 84 => ⟨S2x24x8x32x1024, .f32⟩
  | 85 => ⟨S_, .f32⟩
  | 86 => ⟨S2x24x8x1024, .f32⟩
  | 87 => ⟨S_, .f32⟩
  | 88 => ⟨S2x24x8x1024, .f32⟩
  | 89 => ⟨S2x24x8x1024, .f32⟩
  | 90 => ⟨S_, .f32⟩
  | 91 => ⟨S2x24x8x1024, .f32⟩
  | 92 => ⟨S2x24x8x1024, .i1⟩
  | 93 => ⟨S2x24x8x1024, .f32⟩
  | 94 => ⟨S_, .f32⟩
  | 95 => ⟨S_, .f32⟩
  | 96 => ⟨S_, .f32⟩
  | 97 => ⟨S2x24x8x1024, .f32⟩
  | 98 => ⟨S2x24x8x1024, .f32⟩
  | 99 => ⟨S2x24x8x1024, .f32⟩
  | 100 => ⟨S_, .f32⟩
  | 101 => ⟨S2x24x8x1024, .f32⟩
  | 102 => ⟨S2x24x8x1024, .f32⟩
  | 103 => ⟨S_, .f32⟩
  | 104 => ⟨S_, .f32⟩
  | 105 => ⟨S2x24x8x1024, .f32⟩
  | 106 => ⟨S2x24x8x1024, .f32⟩
  | 107 => ⟨S_, .f32⟩
  | 108 => ⟨S2x24x8x1024, .f32⟩
  | 109 => ⟨S2x24x8x1024, .f32⟩
  | 110 => ⟨S2x24x8x1024, .f32⟩
  | 111 => ⟨S_, .f32⟩
  | 112 => ⟨S2x24x8x1024, .f32⟩
  | 113 => ⟨S2x24x8x1024, .f32⟩
  | 114 => ⟨S2x24x8x1x1024, .f32⟩
  | 115 => ⟨S2x24x8x32x1024, .f32⟩
  | 116 => ⟨S2x24x8x32x1024, .f32⟩
  | 117 => ⟨S_, .f32⟩
  | 118 => ⟨S_, .f32⟩
  | 119 => ⟨S_, .f32⟩
  | 120 => ⟨S2x24x8x32x1024, .f32⟩
  | 121 => ⟨S2x24x8x32x1024, .f32⟩
  | 122 => ⟨S_, .f32⟩
  | 123 => ⟨S2x24x8x32x1024, .f32⟩
  | 124 => ⟨S2x24x8x32x1024, .f32⟩
  | 125 => ⟨S2x24x256x1024, .f32⟩
  | 126 => ⟨S2x24x256x1024, .f32⟩
  | 127 => ⟨S2x24x256x1024, .fp8e4m3⟩
  | _ => ⟨S2x24x1024x256, .f32⟩

abbrev hbmTy0_1 (i : Nat) : BufTy := match i % 128 with
  | 0 => ⟨S2x24x256x1024, .fp8e4m3⟩
  | 1 => ⟨S2x24x256x1024, .f32⟩
  | 2 => ⟨S2x24x256x1024, .f32⟩
  | 3 => ⟨S2x24x8x32x1024, .f32⟩
  | 4 => ⟨S2x24x8x32x1024, .f32⟩
  | 5 => ⟨S2x24x8x1024x1024, .f32⟩
  | 6 => ⟨S2x24x8x1024x1, .f32⟩
  | 7 => ⟨S_, .f32⟩
  | 8 => ⟨S_, .f32⟩
  | 9 => ⟨S_, .f32⟩
  | 10 => ⟨S2x24x8x1024, .f32⟩
  | 11 => ⟨S2x24x8x1024, .f32⟩
  | 12 => ⟨S2x24x8x1x1024, .f32⟩
  | 13 => ⟨S2x24x8x1024x1024, .f32⟩
  | 14 => ⟨S2x24x8x1024x1024, .f32⟩
  | 15 => ⟨S2x24x8x1024x1024, .f32⟩
  | 16 => ⟨S2x24x8x1024x1024, .f32⟩
  | 17 => ⟨S1024, .i32⟩
  | 18 => ⟨S1x1024, .i32⟩
  | 19 => ⟨S2x1, .i32⟩
  | 20 => ⟨S2x1024, .i32⟩
  | 21 => ⟨S2x1024, .i32⟩
  | 22 => ⟨S2x1024, .i1⟩
  | 23 => ⟨S2x1x1x1x1024, .i1⟩
  | 24 => ⟨S_, .f32⟩
  | 25 => ⟨S_, .f32⟩
  | 26 => ⟨S2x24x8x1024x1024, .i1⟩
  | 27 => ⟨S2x24x8x1024x1024, .f32⟩
  | 28 => ⟨S2x24x8x1024x1024, .f32⟩
  | 29 => ⟨S_, .f32⟩
  | 30 => ⟨S2x24x8x1024, .f32⟩
  | 31 => ⟨S2x24x8x1024x1, .f32⟩
  | 32 => ⟨S2x24x8x1024x1024, .f32⟩
  | 33 => ⟨S2x24x8x1024x1024, .f32⟩
  | 34 => ⟨S2x24x8x1024x1024, .f32⟩
  | 35 => ⟨S_, .f32⟩
  | 36 => ⟨S2x24x8x1024, .f32⟩
  | 37 => ⟨S2x24x8x1024x1, .f32⟩
  | 38 => ⟨S2x24x8x1024x1024, .f32⟩
  | 39 => ⟨S2x24x8x1024x1024, .f32⟩
  | 40 => ⟨S2x24x8x1024x1024, .bf16⟩
  | 41 => ⟨S2x24x8x1024x32, .f32⟩
  | 42 => ⟨S2x24x8x1024x32, .bf16⟩
  | 43 => ⟨S256x2x24x1024, .f32⟩
  | 44 => ⟨S2x1024x24x256, .f32⟩
  | 45 => ⟨S2x1024x24x256, .f32⟩
  | 46 => ⟨S2x1024x24x256, .f32⟩
  | 47 => ⟨S2x1024x24x256, .bf16⟩
  | 48 => ⟨S2x1024x24x256, .bf16⟩
  | _ => ⟨S2x24x1024x256, .f32⟩

abbrev hbmTy (i : Nat) : BufTy := match i / 128 with
  | 0 => hbmTy0_0 i
  | 1 => hbmTy0_1 i
  | _ => ⟨S2x24x1024x256, .f32⟩

abbrev bufTy : (tb : Table) → Fin (tcTables nBuf tb) → BufTy
  | .hbm, ⟨i, _⟩ => hbmTy i
  | .local _ .vmem, ⟨0, _⟩ => ⟨S2x24x256x1024, .f32⟩
  | .local _ .vmem, ⟨1, _⟩ => ⟨S2x24x256x1024, .f32⟩
  | .local _ .vmem, ⟨2, _⟩ => ⟨S2x24x256x1024, .fp8e4m3⟩
  | .local _ .vmem, ⟨3, _⟩ => ⟨S2x24x256x1024, .fp8e4m3⟩
  | .local _ .vmem, ⟨4, _⟩ => ⟨S2x24x256x1024, .f32⟩
  | .local _ .vmem, ⟨5, _⟩ => ⟨S2x24x256x1024, .f32⟩
  | _, _ => ⟨S2x24x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_cst_19 : Ref sig .tc := ⟨.hbm, 103, rfl⟩
abbrev main_call2_v0 : Ref sig .tc := ⟨.hbm, 104, rfl⟩
abbrev main_call2_v1 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_21 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_22 : Ref sig .tc := ⟨.hbm, 117, rfl⟩
abbrev main_cst_23 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80_0 : Ref sig .tc := ⟨.hbm, 127, rfl⟩
abbrev main_v80_1 : Ref sig .tc := ⟨.hbm, 128, rfl⟩
abbrev main_v80_2 : Ref sig .tc := ⟨.hbm, 129, rfl⟩
abbrev main_v80_3 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_24 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_25 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v101 : Ref sig .tc := ⟨.hbm, 156, rfl⟩
abbrev main_cst_26 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_27 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x24x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x24x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x24x256x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x24x256x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x24x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelWhens.lean ====
/-
  The conditionals of the row-attention body as triples over any contents: whichever way a condition
  goes, the buffers its loop touches are handed back at some contents.
-/
module

public import proofs.«01_k».proof.Proof.Gen.Kernel.Frame
public import proofs.«01_k».proof.Proof.Gen.Kernel.Loops
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's resource algebra: the frame kit's. -/
local notation "𝕄" => MT nD τ sig Unit (Elt F) ℕ (UR sig nD τ) ℕ

abbrev 𝒱₀ : Variants := Variants.none

/-- The buffer of `M`, held whole at some contents. -/
abbrev Any (c : Dev nD) {sp : Space} {s : Shape} {e : EltTy} (M : Memref sig .tc sp s e) : sProp 𝕄 :=
  iprop(∃ f : BufTy.Contents (Elt F) M.view.ty, (M.view.loc (c : Thread nD τ) ↦[M.view.set]{fullShare} f))

theorem when_t3 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t4 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t5 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t5_loop k0_t5_ok ⟨⟩ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t6 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t6_loop k0_t6_ok ⟨⟩ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t7 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t7_loop k0_t7_ok ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t8 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole)  (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t8_loop k0_t8_ok ⟨⟩ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t9 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole)  (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t9_loop k0_t9_ok ⟨⟩ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t10 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ (iprop(Any c arg14 ∗ Any c arg15 ∗ Any c arg16 ∗ Any c arg17 ∗ Any c arg18 ∗ Any c arg19) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t10_loop k0_t10_ok ⟨⟩ (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1)
            p
          else p) K := by
  iintro ⟨⟨%f14, H14⟩, ⟨%f15, H15⟩, ⟨%f16, H16⟩, ⟨%f17, H17⟩, ⟨%f18, H18⟩, ⟨%f19, H19⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Proof.Kernel

end
-- ==== Proof.KernelFeature.lean ====
/-
  The feature loop and the body of the row-attention kernel over any contents of the buffers they write.
-/
module

public import proofs.«01_k».proof.Proof.Gen.Kernel.Frame
public import proofs.«01_k».proof.Proof.Gen.Kernel.Loops
public import proofs.«01_k».proof.Proof.KernelWhens
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's resource algebra: the frame kit's. -/
local notation "𝕄" => MT nD τ sig Unit (Elt F) ℕ (UR sig nD τ) ℕ

set_option warn.classDefReducibility false in
/-- The feature loop over any contents of what it writes. -/
@[sl_loop] def loopInv_k0_t1 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (v1 : Elt F .i32) (v20 : BitVec 32) (v21 : Vec F S1x256 .f32) (v23 : Vec F S1x256 .f32) (X_arg3 : BufTy.Contents (Elt F) arg3.view.ty) (X_arg6 : BufTy.Contents (Elt F) arg6.view.ty) (X_arg7 : BufTy.Contents (Elt F) arg7.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v21 v23 where
  inv k acc := iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg23)
  step k acc := by
    unfold k0_t1_body
    iintro ⟨H3, H6, H7, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f23, H23⟩⟩
    sl_exec
    iapply (when_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g3_14, H14⟩, ⟨%g3_15, H15⟩, ⟨%g3_16, H16⟩, ⟨%g3_17, H17⟩, ⟨%g3_18, H18⟩, ⟨%g3_19, H19⟩, ⟨%g3_23, H23⟩⟩
    sl_exec
    iapply (when_t4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g4_14, H14⟩, ⟨%g4_15, H15⟩, ⟨%g4_16, H16⟩, ⟨%g4_17, H17⟩, ⟨%g4_18, H18⟩, ⟨%g4_19, H19⟩, ⟨%g4_23, H23⟩⟩
    sl_exec
    iapply (when_t5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g5_14, H14⟩, ⟨%g5_15, H15⟩, ⟨%g5_16, H16⟩, ⟨%g5_17, H17⟩, ⟨%g5_18, H18⟩, ⟨%g5_19, H19⟩, ⟨%g5_23, H23⟩⟩
    sl_exec
    iapply (when_t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g6_14, H14⟩, ⟨%g6_15, H15⟩, ⟨%g6_16, H16⟩, ⟨%g6_17, H17⟩, ⟨%g6_18, H18⟩, ⟨%g6_19, H19⟩, ⟨%g6_23, H23⟩⟩
    sl_exec
    iapply (when_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g7_14, H14⟩, ⟨%g7_15, H15⟩, ⟨%g7_16, H16⟩, ⟨%g7_17, H17⟩, ⟨%g7_18, H18⟩, ⟨%g7_19, H19⟩, ⟨%g7_23, H23⟩⟩
    sl_exec
    iapply (when_t8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g8_14, H14⟩, ⟨%g8_15, H15⟩, ⟨%g8_16, H16⟩, ⟨%g8_17, H17⟩, ⟨%g8_18, H18⟩, ⟨%g8_19, H19⟩, ⟨%g8_23, H23⟩⟩
    sl_exec
    iapply (when_t9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g9_14, H14⟩, ⟨%g9_15, H15⟩, ⟨%g9_16, H16⟩, ⟨%g9_17, H17⟩, ⟨%g9_18, H18⟩, ⟨%g9_19, H19⟩, ⟨%g9_23, H23⟩⟩
    sl_exec
    iapply (when_t10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iintro ⟨⟨%g10_14, H14⟩, ⟨%g10_15, H15⟩, ⟨%g10_16, H16⟩, ⟨%g10_17, H17⟩, ⟨%g10_18, H18⟩, ⟨%g10_19, H19⟩⟩
    sl_exec
    sl_step
    isplitl [H3]; · iexact H3
    isplitl [H6]; · iexact H6
    isplitl [H7]; · iexact H7
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H23

end Cert.Proof.Kernel

end
-- ==== Proof.KernelBody.lean ====
/-
  The row-attention kernel's body over any contents of the buffers it writes.
-/
module

public import proofs.«01_k».proof.Proof.Gen.Kernel.Frame
public import proofs.«01_k».proof.Proof.Gen.Kernel.Loops
public import proofs.«01_k».proof.Proof.KernelFeature
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's resource algebra: the frame kit's. -/
local notation "𝕄" => MT nD τ sig Unit (Elt F) ℕ (UR sig nD τ) ℕ

theorem off82_eq (i : grid0.Coords) : k0_off82 i = ![0, 0, (i 1).val % 4, 0] := by
  unfold k0_off82
  generalize i 1 = x
  revert x; decide
instance (i : grid0.Coords) : ClosedOff (k0_off82 i) := ⟨![0, 0, (i 1).val % 4, 0], off82_eq i⟩

theorem off83_eq (i : grid0.Coords) : k0_off83 i = ![0, 1, (i 1).val % 4, 0] := by
  unfold k0_off83
  generalize i 1 = x
  revert x; decide
instance (i : grid0.Coords) : ClosedOff (k0_off83 i) := ⟨![0, 1, (i 1).val % 4, 0], off83_eq i⟩

theorem off84_eq (i : grid0.Coords) : k0_off84 i = ![1, 0, (i 1).val % 4, 0] := by
  unfold k0_off84
  generalize i 1 = x
  revert x; decide
instance (i : grid0.Coords) : ClosedOff (k0_off84 i) := ⟨![1, 0, (i 1).val % 4, 0], off84_eq i⟩

theorem off85_eq (i : grid0.Coords) : k0_off85 i = ![1, 1, (i 1).val % 4, 0] := by
  unfold k0_off85
  generalize i 1 = x
  revert x; decide
instance (i : grid0.Coords) : ClosedOff (k0_off85 i) := ⟨![1, 1, (i 1).val % 4, 0], off85_eq i⟩

/-- The whole body at one grid point: the six inputs' buffers are left as found, the others at some contents. -/
theorem body_any (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x128 .i32) (harg22 : arg22.IsWhole) (arg23 : Memref sig .tc .vmem S2x1x256 .f32) (harg23 : arg23.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (K : PUnit → sProp 𝕄) :
    iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23 ∗ (((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23) -∗ K ⟨⟩))
      ⊢ wp frame (wpE (defs₀ (F := F)) 𝒱₀ (c : Thread nD τ) none) Set.univ
          (cc0_row_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_row_attention_eq_skeleton]
  unfold cc0_row_attention_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, Hk⟩
  sl_exec
  split
  all_goals
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Proof.Kernel

end
-- ==== Proof.KernelRun.lean ====
/-
  The run of the whole call with nothing said of what it computes: it ends, and the arguments are as they were.
-/
module

public import proofs.«01_k».proof.Proof.Gen.Kernel.Frame
public import proofs.«01_k».proof.Proof.Gen.Kernel.Loops
public import proofs.«01_k».proof.Proof.KernelBody
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- A buffer's point-to at the whole buffer and at its whole memref are the same. -/
theorem pt_whole (c : Dev nD) (b : Ref sig .tc) (f : Buf (Elt F) ((c : Thread nD τ).loc b)) :
    (((c : Thread nD τ).loc b) ↦{fullShare} f : sProp 𝕄) ⊢ ((Memref.whole b).view.loc (c : Thread nD τ) ↦[(Memref.whole b).view.set]{fullShare} f) := by
  rw [show (Memref.whole b).view.set = Finset.univ from View.set_whole b]
theorem whole_pt (c : Dev nD) (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := by
  rw [show (Memref.whole b).view.set = Finset.univ from View.set_whole b]

/-- The pipeline's data: an input's staging buffer is left as found, an output's at anything. -/
def rdats (c : Dev nD) : RDat τ (Elt F) Unit ℕ (UR sig nD τ) ℕ cfg0 c where
  A w := V m c (Pipeline.arrRef spec0 w)
  after w _ Y X := w.val < 6 → X = Y
  Φ _ := Pipeline.ΦA spec0 c
  q _ := fullShare
  owed _ := 0

theorem body_obligation (c : Dev nD) : (rdats (F := F) m c).BodyObligation (defs₀ (F := F)) 𝒱₀ () Set.univ := by
  intro t Y hY
  rw [bigSep_W0, bigSep_W0]
  sl_whnfR [defs₀, Defs.onTc]
  rw [show (rdats m c).Φ t.succ = (rdats m c).Φ t.castSucc from rfl,
    show (rdats m c).owesAt () t.succ = (rdats m c).owesAt () t.castSucc from rfl,
    show (rdats m c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hp⟩, Ho, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩⟩
  iapply (body_any c (grid0.coords t) _ _ _ _ _ _ _ _ _ _ _ _ _ _ _ _ _ _ _ _ _ _ _ _ _ _ _ _ _ _ _ _ _ _ _ _ _ _ _ _ _ _ _ _ g0 g1 g2 g3 g4 g5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexists s0; iapply (pt_whole (F := F) c cc0_scratch0 s0); iexact S0
  isplitl [S1]; · iexists s1; iapply (pt_whole (F := F) c cc0_scratch1 s1); iexact S1
  isplitl [S2]; · iexists s2; iapply (pt_whole (F := F) c cc0_scratch2 s2); iexact S2
  isplitl [S3]; · iexists s3; iapply (pt_whole (F := F) c cc0_scratch3 s3); iexact S3
  isplitl [S4]; · iexists s4; iapply (pt_whole (F := F) c cc0_scratch4 s4); iexact S4
  isplitl [S5]; · iexists s5; iapply (pt_whole (F := F) c cc0_scratch5 s5); iexact S5
  isplitl [S6]; · iexists s6; iapply (pt_whole (F := F) c cc0_scratch6 s6); iexact S6
  isplitl [S7]; · iexists s7; iapply (pt_whole (F := F) c cc0_scratch7 s7); iexact S7
  isplitl [S8]; · iexists s8; iapply (pt_whole (F := F) c cc0_scratch8 s8); iexact S8
  isplitl [S9]; · iexists s9; iapply (pt_whole (F := F) c cc0_scratch9 s9); iexact S9
  iintro ⟨H0, H1, H2, H3, H4, H5, ⟨%h6, H6⟩, ⟨%h7, H7⟩, ⟨%h8, H8⟩, ⟨%h9, H9⟩, ⟨%h10, H10⟩, ⟨%h11, H11⟩, ⟨%r0, S0⟩, ⟨%r1, S1⟩, ⟨%r2, S2⟩, ⟨%r3, S3⟩, ⟨%r4, S4⟩, ⟨%r5, S5⟩, ⟨%r6, S6⟩, ⟨%r7, S7⟩, ⟨%r8, S8⟩, ⟨%r9, S9⟩⟩
  isplitl [S0 S1 S2 S3 S4 S5 S6 S7 S8 S9 Hp]
  · isplitr [Hp]; swap; · iexact Hp
    isplitl [S0]; · iexists _; iapply (whole_pt (F := F) c cc0_scratch0 r0); iexact S0
    isplitl [S1]; · iexists _; iapply (whole_pt (F := F) c cc0_scratch1 r1); iexact S1
    isplitl [S2]; · iexists _; iapply (whole_pt (F := F) c cc0_scratch2 r2); iexact S2
    isplitl [S3]; · iexists _; iapply (whole_pt (F := F) c cc0_scratch3 r3); iexact S3
    isplitl [S4]; · iexists _; iapply (whole_pt (F := F) c cc0_scratch4 r4); iexact S4
    isplitl [S5]; · iexists _; iapply (whole_pt (F := F) c cc0_scratch5 r5); iexact S5
    isplitl [S6]; · iexists _; iapply (whole_pt (F := F) c cc0_scratch6 r6); iexact S6
    isplitl [S7]; · iexists _; iapply (whole_pt (F := F) c cc0_scratch7 r7); iexact S7
    isplitl [S8]; · iexists _; iapply (whole_pt (F := F) c cc0_scratch8 r8); iexact S8
    iexists _; iapply (whole_pt (F := F) c cc0_scratch9 r9); iexact S9
  isplitl [Ho]; · iexact Ho
  isplitl [H0]
  · iexists Y 0; isplitr; · ipureintro; exact fun _ => rfl
    iexists g0; isplitr; · ipureintro; exact hg0
    iexact H0
  isplitl [H1]
  · iexists Y 1; isplitr; · ipureintro; exact fun _ => rfl
    iexists g1; isplitr; · ipureintro; exact hg1
    iexact H1
  isplitl [H2]
  · iexists Y 2; isplitr; · ipureintro; exact fun _ => rfl
    iexists g2; isplitr; · ipureintro; exact hg2
    iexact H2
  isplitl [H3]
  · iexists Y 3; isplitr; · ipureintro; exact fun _ => rfl
    iexists g3; isplitr; · ipureintro; exact hg3
    iexact H3
  isplitl [H4]
  · iexists Y 4; isplitr; · ipureintro; exact fun _ => rfl
    iexists g4; isplitr; · ipureintro; exact hg4
    iexact H4
  isplitl [H5]
  · iexists Y 5; isplitr; · ipureintro; exact fun _ => rfl
    iexists g5; isplitr; · ipureintro; exact hg5
    iexact H5
  isplitl [H6]
  · iexists ((win0_6.stage (cfg0.slots t 6)).view.read (Elt F) h6); isplitr; · ipureintro; intro hw; exact absurd hw (by decide)
    iexists h6; isplitr; · ipureintro; rfl
    iexact H6
  isplitl [H7]
  · iexists ((win0_7.stage (cfg0.slots t 7)).view.read (Elt F) h7); isplitr; · ipureintro; intro hw; exact absurd hw (by decide)
    iexists h7; isplitr; · ipureintro; rfl
    iexact H7
  isplitl [H8]
  · iexists ((win0_8.stage (cfg0.slots t 8)).view.read (Elt F) h8); isplitr; · ipureintro; intro hw; exact absurd hw (by decide)
    iexists h8; isplitr; · ipureintro; rfl
    iexact H8
  isplitl [H9]
  · iexists ((win0_9.stage (cfg0.slots t 9)).view.read (Elt F) h9); isplitr; · ipureintro; intro hw; exact absurd hw (by decide)
    iexists h9; isplitr; · ipureintro; rfl
    iexact H9
  isplitl [H10]
  · iexists ((win0_10.stage (cfg0.slots t 10)).view.read (Elt F) h10); isplitr; · ipureintro; intro hw; exact absurd hw (by decide)
    iexists h10; isplitr; · ipureintro; rfl
    iexact H10
  · iexists ((win0_11.stage (cfg0.slots t 11)).view.read (Elt F) h11); isplitr; · ipureintro; intro hw; exact absurd hw (by decide)
    iexists h11; isplitr; · ipureintro; rfl
    iexact H11

set_option backward.isDefEq.respectTransparency.types false in
/-- From any memory with zero counters the call ends, its arrays in the pipeline's relation, every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame (Q' := _) cfgs (0 : Fin 1) launch0 defs₀ 𝒱₀ (rdats m) m ρ main
    (hbody := body_obligation m) (hshare := fun c => (rdats m c).share_full fun _ => rfl)
    (howed := fun _ _ => rfl) (V := V m) (hmain := hmain m 𝒱₀) (hA := fun _ _ => rfl) (hΦ := fun _ _ => rfl)

/-- The frame: the arguments end as they were and every counter is zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
    ∧ r.2.sem = fun _ => 0) :=
  (θ_run defs _ _).mono (fun _ h' => ⟨fun c => have h := h'.1; ⟨(show _ = V m c main_arg0 from (cast (congrFun ((rdats m c).ArrAt_in 1 rfl _) _) ((h c).1 1))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), (show _ = V m c main_arg7 from (cast (congrFun ((rdats m c).ArrAt_in 0 rfl _) _) ((h c).1 0))).trans (V_main_arg7 m c)⟩, h'.2⟩) (run_main m ρ)

end Cert.Proof.Kernel

end
-- ==== Proof.KernelIdealWhens.lean ====
/-
  The conditionals of the row-attention body as triples over any contents: whichever way a condition
  goes, the buffers its loop touches are handed back at some contents.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.Proof.KernelIdealFrame

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

abbrev 𝒱₀ : Variants := Variants.none

/-- The buffer of `M`, held whole at some contents. -/
abbrev Any (c : Dev nD) {sp : Space} {s : Shape} {e : EltTy} (M : Memref sig .tc sp s e) : sProp 𝕄 :=
  iprop(∃ f : BufTy.Contents (Elt F) M.view.ty, (M.view.loc (c : Thread nD τ) ↦[M.view.set]{fullShare} f))

theorem when_t3 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t4 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t5 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t5_loop k0_t5_ok ⟨⟩ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t6 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t6_loop k0_t6_ok ⟨⟩ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t7 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v22 : FVec F S1x256 .f32) (v24 : FVec F S1x256 .f32) (c0_i32_12 : BitVec 32) (c1_i32_13 : BitVec 32) (k0_t1 : Fin k0_t1_loop.trips) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t7_loop k0_t7_ok ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t8 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole)  (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t8_loop k0_t8_ok ⟨⟩ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t9 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole)  (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ Any c arg23 ∗ (iprop(Any c arg14 ∗ Any c arg15 ∗ Any c arg16 ∗ Any c arg17 ∗ Any c arg18 ∗ Any c arg19 ∗ Any c arg23) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t9_loop k0_t9_ok ⟨⟩ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) K := by
  iintro ⟨⟨%f14, H14⟩, ⟨%f15, H15⟩, ⟨%f16, H16⟩, ⟨%f17, H17⟩, ⟨%f18, H18⟩, ⟨%f19, H19⟩, ⟨%f23, H23⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H23

theorem when_t10 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (b : BitVec 1) {α : Type} (p : Prog (TpuEff nD τ sig (Elt F) Λ₀ .tc) α) (K : α → sProp 𝕄) :
    iprop(Any c arg14 ∗ Any c arg15 ∗ Any c arg16 ∗ Any c arg17 ∗ Any c arg18 ∗ Any c arg19 ∗ (iprop(Any c arg14 ∗ Any c arg15 ∗ Any c arg16 ∗ Any c arg17 ∗ Any c arg18 ∗ Any c arg19) -∗ wp frame (wpE (defs₀ (F := F)) 𝒱₀ (c : Thread nD τ) none) Set.univ p K))
      ⊢ wp frame (wpE (defs₀ (F := F)) 𝒱₀ (c : Thread nD τ) none) Set.univ
          (if b = 1#1 then do
            Scf.Loop.for k0_t10_loop k0_t10_ok ⟨⟩ (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1)
            p
          else p) K := by
  iintro ⟨⟨%f14, H14⟩, ⟨%f15, H15⟩, ⟨%f16, H16⟩, ⟨%f17, H17⟩, ⟨%f18, H18⟩, ⟨%f19, H19⟩, Hk⟩
  by_cases h : b = 1#1
  · rw [if_pos h]
    sl_exec
    iapply Hk
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · rw [if_neg h]
    iapply Hk
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Proof.KernelIdealFrame

end
-- ==== Proof.KernelIdealFeature.lean ====
/-
  The feature loop and the body of the row-attention kernel over any contents of the buffers they write.
-/
module

public import proofs.«01_k».proof.Proof.Gen.KernelIdeal.Frame
public import proofs.«01_k».proof.Proof.Gen.KernelIdeal.Loops
public import proofs.«01_k».proof.Proof.KernelIdealWhens
public import Idealize.ShloMosaic.Lib.Tactic

@[expose] public section

set_option maxRecDepth 16384

noncomputable section

namespace Cert.Proof.KernelIdealFrame

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

set_option warn.classDefReducibility false in
/-- The feature loop over any contents of what it writes. -/
@[sl_loop] def loopInv_k0_t1 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt F .i32) (v20 : BitVec 32) (v21 : Vec F S1x256 .f32) (v23 : Vec F S1x256 .f32) (X_arg3 : BufTy.Contents (Elt F) arg3.view.ty) (X_arg6 : BufTy.Contents (Elt F) arg6.view.ty) (X_arg7 : BufTy.Contents (Elt F) arg7.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v21 v23 where
  inv k acc := iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg23)
  step k acc := by
    unfold k0_t1_body
    iintro ⟨H3, H6, H7, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f23, H23⟩⟩
    sl_exec
    iapply (when_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g3_14, H14⟩, ⟨%g3_15, H15⟩, ⟨%g3_16, H16⟩, ⟨%g3_17, H17⟩, ⟨%g3_18, H18⟩, ⟨%g3_19, H19⟩, ⟨%g3_23, H23⟩⟩
    sl_exec
    iapply (when_t4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g4_14, H14⟩, ⟨%g4_15, H15⟩, ⟨%g4_16, H16⟩, ⟨%g4_17, H17⟩, ⟨%g4_18, H18⟩, ⟨%g4_19, H19⟩, ⟨%g4_23, H23⟩⟩
    sl_exec
    iapply (when_t5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g5_14, H14⟩, ⟨%g5_15, H15⟩, ⟨%g5_16, H16⟩, ⟨%g5_17, H17⟩, ⟨%g5_18, H18⟩, ⟨%g5_19, H19⟩, ⟨%g5_23, H23⟩⟩
    sl_exec
    iapply (when_t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g6_14, H14⟩, ⟨%g6_15, H15⟩, ⟨%g6_16, H16⟩, ⟨%g6_17, H17⟩, ⟨%g6_18, H18⟩, ⟨%g6_19, H19⟩, ⟨%g6_23, H23⟩⟩
    sl_exec
    iapply (when_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g7_14, H14⟩, ⟨%g7_15, H15⟩, ⟨%g7_16, H16⟩, ⟨%g7_17, H17⟩, ⟨%g7_18, H18⟩, ⟨%g7_19, H19⟩, ⟨%g7_23, H23⟩⟩
    sl_exec
    iapply (when_t8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g8_14, H14⟩, ⟨%g8_15, H15⟩, ⟨%g8_16, H16⟩, ⟨%g8_17, H17⟩, ⟨%g8_18, H18⟩, ⟨%g8_19, H19⟩, ⟨%g8_23, H23⟩⟩
    sl_exec
    iapply (when_t9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H23]; · iexists _; iexact H23
    iintro ⟨⟨%g9_14, H14⟩, ⟨%g9_15, H15⟩, ⟨%g9_16, H16⟩, ⟨%g9_17, H17⟩, ⟨%g9_18, H18⟩, ⟨%g9_19, H19⟩, ⟨%g9_23, H23⟩⟩
    sl_exec
    iapply (when_t10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _)
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iintro ⟨⟨%g10_14, H14⟩, ⟨%g10_15, H15⟩, ⟨%g10_16, H16⟩, ⟨%g10_17, H17⟩, ⟨%g10_18, H18⟩, ⟨%g10_19, H19⟩⟩
    sl_exec
    sl_step
    isplitl [H3]; · iexact H3
    isplitl [H6]; · iexact H6
    isplitl [H7]; · iexact H7
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H23

end Cert.Proof.KernelIdealFrame

end
-- ==== Proof.KernelIdealBody.lean ====
/-
  The row-attention kernel's body over any contents of the buffers it writes.
-/
module

public import proofs.«01_k».proof.Proof.Gen.KernelIdeal.Frame
public import proofs.«01_k».proof.Proof.Gen.KernelIdeal.Loops
public import proofs.«01_k».proof.Proof.KernelIdealFeature
public import Idealize.ShloMosaic.Lib.Tactic

@[expose] public section

set_option maxRecDepth 16384

noncomputable section

namespace Cert.Proof.KernelIdealFrame

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

theorem off82_eq (i : grid0.Coords) : k0_off82 i = ![0, 0, (i 1).val % 4, 0, 0] := by
  unfold k0_off82
  generalize i 1 = x
  revert x; decide
instance (i : grid0.Coords) : ClosedOff (k0_off82 i) := ⟨![0, 0, (i 1).val % 4, 0, 0], off82_eq i⟩

theorem off83_eq (i : grid0.Coords) : k0_off83 i = ![0, 1, (i 1).val % 4, 0, 0] := by
  unfold k0_off83
  generalize i 1 = x
  revert x; decide
instance (i : grid0.Coords) : ClosedOff (k0_off83 i) := ⟨![0, 1, (i 1).val % 4, 0, 0], off83_eq i⟩

theorem off84_eq (i : grid0.Coords) : k0_off84 i = ![1, 0, (i 1).val % 4, 0, 0] := by
  unfold k0_off84
  generalize i 1 = x
  revert x; decide
instance (i : grid0.Coords) : ClosedOff (k0_off84 i) := ⟨![1, 0, (i 1).val % 4, 0, 0], off84_eq i⟩

theorem off85_eq (i : grid0.Coords) : k0_off85 i = ![1, 1, (i 1).val % 4, 0, 0] := by
  unfold k0_off85
  generalize i 1 = x
  revert x; decide
instance (i : grid0.Coords) : ClosedOff (k0_off85 i) := ⟨![1, 1, (i 1).val % 4, 0, 0], off85_eq i⟩

/-- The whole body at one grid point: the six inputs' buffers are left as found, the others at some contents. -/
theorem body_any (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (K : PUnit → sProp 𝕄) :
    iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23 ∗ (((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23) -∗ K ⟨⟩))
      ⊢ wp frame (wpE (defs₀ (F := F)) 𝒱₀ (c : Thread nD τ) none) Set.univ
          (cc0_row_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_row_attention_eq_skeleton]
  unfold cc0_row_attention_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, Hk⟩
  sl_exec
  split
  all_goals
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Proof.KernelIdealFrame

end
-- ==== Proof.KernelIdealRun.lean ====
/-
  The run of the whole call with nothing said of what it computes: it ends, and the arguments are as they were.
-/
module

public import proofs.«01_k».proof.Proof.Gen.KernelIdeal.Frame
public import proofs.«01_k».proof.Proof.Gen.KernelIdeal.Loops
public import proofs.«01_k».proof.Proof.KernelIdealBody
public import Idealize.ShloMosaic.Lib.Tactic

@[expose] public section

set_option maxRecDepth 16384

noncomputable section

namespace Cert.Proof.KernelIdealFrame

open Cert.KernelIdeal Cert.KernelIdeal.Gen
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- A buffer's point-to at the whole buffer and at its whole memref are the same. -/
theorem pt_whole (c : Dev nD) (b : Ref sig .tc) (f : Buf (Elt F) ((c : Thread nD τ).loc b)) :
    (((c : Thread nD τ).loc b) ↦{fullShare} f : sProp 𝕄) ⊢ ((Memref.whole b).view.loc (c : Thread nD τ) ↦[(Memref.whole b).view.set]{fullShare} f) := by
  rw [show (Memref.whole b).view.set = Finset.univ from View.set_whole b]
theorem whole_pt (c : Dev nD) (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := by
  rw [show (Memref.whole b).view.set = Finset.univ from View.set_whole b]

/-- The pipeline's data: an input's staging buffer is left as found, an output's at anything. -/
def rdats (c : Dev nD) : RDat τ (Elt F) Unit ℕ (UR sig nD τ) ℕ cfg0 c where
  A w := V m c (Pipeline.arrRef spec0 w)
  after w _ Y X := w.val < 6 → X = Y
  Φ _ := Pipeline.ΦA spec0 c
  q _ := fullShare
  owed _ := 0

theorem body_obligation (c : Dev nD) : (rdats (F := F) m c).BodyObligation (defs₀ (F := F)) 𝒱₀ () Set.univ := by
  intro t Y hY
  rw [bigSep_W0, bigSep_W0]
  sl_whnfR [defs₀, Defs.onTc]
  rw [show (rdats m c).Φ t.succ = (rdats m c).Φ t.castSucc from rfl,
    show (rdats m c).owesAt () t.succ = (rdats m c).owesAt () t.castSucc from rfl,
    show (rdats m c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hp⟩, Ho, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩⟩
  iapply (body_any c (grid0.coords t) _ _ _ _ _ _ _ _ _ _ _ _ _ _ _ _ _ _ _ _ _ _ _ _ _ _ _ _ _ _ _ _ _ _ _ _ _ _ _ _ _ _ _ _ g0 g1 g2 g3 g4 g5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexists s0; iapply (pt_whole (F := F) c cc0_scratch0 s0); iexact S0
  isplitl [S1]; · iexists s1; iapply (pt_whole (F := F) c cc0_scratch1 s1); iexact S1
  isplitl [S2]; · iexists s2; iapply (pt_whole (F := F) c cc0_scratch2 s2); iexact S2
  isplitl [S3]; · iexists s3; iapply (pt_whole (F := F) c cc0_scratch3 s3); iexact S3
  isplitl [S4]; · iexists s4; iapply (pt_whole (F := F) c cc0_scratch4 s4); iexact S4
  isplitl [S5]; · iexists s5; iapply (pt_whole (F := F) c cc0_scratch5 s5); iexact S5
  isplitl [S6]; · iexists s6; iapply (pt_whole (F := F) c cc0_scratch6 s6); iexact S6
  isplitl [S7]; · iexists s7; iapply (pt_whole (F := F) c cc0_scratch7 s7); iexact S7
  isplitl [S8]; · iexists s8; iapply (pt_whole (F := F) c cc0_scratch8 s8); iexact S8
  isplitl [S9]; · iexists s9; iapply (pt_whole (F := F) c cc0_scratch9 s9); iexact S9
  iintro ⟨H0, H1, H2, H3, H4, H5, ⟨%h6, H6⟩, ⟨%h7, H7⟩, ⟨%h8, H8⟩, ⟨%h9, H9⟩, ⟨%h10, H10⟩, ⟨%h11, H11⟩, ⟨%r0, S0⟩, ⟨%r1, S1⟩, ⟨%r2, S2⟩, ⟨%r3, S3⟩, ⟨%r4, S4⟩, ⟨%r5, S5⟩, ⟨%r6, S6⟩, ⟨%r7, S7⟩, ⟨%r8, S8⟩, ⟨%r9, S9⟩⟩
  isplitl [S0 S1 S2 S3 S4 S5 S6 S7 S8 S9 Hp]
  · isplitr [Hp]; swap; · iexact Hp
    isplitl [S0]; · iexists _; iapply (whole_pt (F := F) c cc0_scratch0 r0); iexact S0
    isplitl [S1]; · iexists _; iapply (whole_pt (F := F) c cc0_scratch1 r1); iexact S1
    isplitl [S2]; · iexists _; iapply (whole_pt (F := F) c cc0_scratch2 r2); iexact S2
    isplitl [S3]; · iexists _; iapply (whole_pt (F := F) c cc0_scratch3 r3); iexact S3
    isplitl [S4]; · iexists _; iapply (whole_pt (F := F) c cc0_scratch4 r4); iexact S4
    isplitl [S5]; · iexists _; iapply (whole_pt (F := F) c cc0_scratch5 r5); iexact S5
    isplitl [S6]; · iexists _; iapply (whole_pt (F := F) c cc0_scratch6 r6); iexact S6
    isplitl [S7]; · iexists _; iapply (whole_pt (F := F) c cc0_scratch7 r7); iexact S7
    isplitl [S8]; · iexists _; iapply (whole_pt (F := F) c cc0_scratch8 r8); iexact S8
    iexists _; iapply (whole_pt (F := F) c cc0_scratch9 r9); iexact S9
  isplitl [Ho]; · iexact Ho
  isplitl [H0]
  · iexists Y 0; isplitr; · ipureintro; exact fun _ => rfl
    iexists g0; isplitr; · ipureintro; exact hg0
    iexact H0
  isplitl [H1]
  · iexists Y 1; isplitr; · ipureintro; exact fun _ => rfl
    iexists g1; isplitr; · ipureintro; exact hg1
    iexact H1
  isplitl [H2]
  · iexists Y 2; isplitr; · ipureintro; exact fun _ => rfl
    iexists g2; isplitr; · ipureintro; exact hg2
    iexact H2
  isplitl [H3]
  · iexists Y 3; isplitr; · ipureintro; exact fun _ => rfl
    iexists g3; isplitr; · ipureintro; exact hg3
    iexact H3
  isplitl [H4]
  · iexists Y 4; isplitr; · ipureintro; exact fun _ => rfl
    iexists g4; isplitr; · ipureintro; exact hg4
    iexact H4
  isplitl [H5]
  · iexists Y 5; isplitr; · ipureintro; exact fun _ => rfl
    iexists g5; isplitr; · ipureintro; exact hg5
    iexact H5
  isplitl [H6]
  · iexists ((win0_6.stage (cfg0.slots t 6)).view.read (Elt F) h6); isplitr; · ipureintro; intro hw; exact absurd hw (by decide)
    iexists h6; isplitr; · ipureintro; rfl
    iexact H6
  isplitl [H7]
  · iexists ((win0_7.stage (cfg0.slots t 7)).view.read (Elt F) h7); isplitr; · ipureintro; intro hw; exact absurd hw (by decide)
    iexists h7; isplitr; · ipureintro; rfl
    iexact H7
  isplitl [H8]
  · iexists ((win0_8.stage (cfg0.slots t 8)).view.read (Elt F) h8); isplitr; · ipureintro; intro hw; exact absurd hw (by decide)
    iexists h8; isplitr; · ipureintro; rfl
    iexact H8
  isplitl [H9]
  · iexists ((win0_9.stage (cfg0.slots t 9)).view.read (Elt F) h9); isplitr; · ipureintro; intro hw; exact absurd hw (by decide)
    iexists h9; isplitr; · ipureintro; rfl
    iexact H9
  isplitl [H10]
  · iexists ((win0_10.stage (cfg0.slots t 10)).view.read (Elt F) h10); isplitr; · ipureintro; intro hw; exact absurd hw (by decide)
    iexists h10; isplitr; · ipureintro; rfl
    iexact H10
  · iexists ((win0_11.stage (cfg0.slots t 11)).view.read (Elt F) h11); isplitr; · ipureintro; intro hw; exact absurd hw (by decide)
    iexists h11; isplitr; · ipureintro; rfl
    iexact H11

set_option backward.isDefEq.respectTransparency.types false in
/-- From any memory with zero counters the call ends, its arrays in the pipeline's relation, every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame (Q' := _) cfgs (0 : Fin 1) launch0 defs₀ 𝒱₀ (rdats m) m ρ main
    (hbody := body_obligation m) (hshare := fun c => (rdats m c).share_full fun _ => rfl)
    (howed := fun _ _ => rfl) (V := V m) (hmain := hmain m 𝒱₀) (hA := fun _ _ => rfl) (hΦ := fun _ _ => rfl)

/-- The frame: the arguments end as they were and every counter is zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
    ∧ r.2.sem = fun _ => 0) :=
  (θ_run defs _ _).mono (fun _ h' => ⟨fun c => have h := h'.1; ⟨(show _ = V m c main_arg0 from (cast (congrFun ((rdats m c).ArrAt_in 1 rfl _) _) ((h c).1 1))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), (show _ = V m c main_arg7 from (cast (congrFun ((rdats m c).ArrAt_in 0 rfl _) _) ((h c).1 0))).trans (V_main_arg7 m c)⟩, h'.2⟩) (run_main m ρ)

end Cert.Proof.KernelIdealFrame

end
-- ==== Proof.Spec.lean ====
module

public import Idealize.ShloMosaic.Lib.Pointwise

@[expose] public section
noncomputable section
namespace Cert.Proof.Spec
open Idealize.ShloMosaic

/-- Row `32 h + d` of a projection: channel `d` of head `h`. -/
abbrev hd (h : Fin 8) (d : Fin 32) : Fin 256 := ⟨h.val * 32 + d.val, by omega⟩
/-- The head that row `r` of a projection belongs to. -/
abbrev headOf (r : Fin 256) : Fin 8 := ⟨r.val / 32, by omega⟩
/-- The channel of row `r` within its head. -/
abbrev chanOf (r : Fin 256) : Fin 32 := ⟨r.val % 32, by omega⟩

/-- The layer norm of one row. -/
def lnR (g b x : Fin 256 → EReal) (c : Fin 256) : EReal :=
  (x c - Ideal.div (∑ k, x k) (Ideal.ofBits .f32 1132462080#32)) *
    Ideal.rsqrt (Ideal.div (∑ k, (x k - Ideal.div (∑ k, x k) (Ideal.ofBits .f32 1132462080#32)) *
      (x k - Ideal.div (∑ k, x k) (Ideal.ofBits .f32 1132462080#32))) (Ideal.ofBits .f32 1132462080#32)
      + Ideal.ofBits .f32 925353388#32) * g c + b c

/-- A projection of a row by head-major weights. -/
def prj (W : Fin 256 → Fin 256 → EReal) (x : Fin 256 → EReal) (r : Fin 256) : EReal :=
  ∑ k, W r k * x k

/-- The largest magnitude of a head over 448. -/
def am (V : Fin 256 → EReal) (h : Fin 8) : EReal :=
  Finset.fold max (Ideal.ofBits .f32 4286578688#32)
    (fun d : Fin 32 => max (V (hd h d)) (-V (hd h d))) Finset.univ * Ideal.ofBits .f32 991054117#32

/-- The exponent of a head's scale. -/
def ex (V : Fin 256 → EReal) (h : Fin 8) : EReal :=
  if am V h = 0 then 0 else
    Ideal.liftRound Int.floor (Ideal.log (am V h) * (((Real.log 2)⁻¹ : ℝ) : EReal)) + 1

/-- A head's scale, a power of two. -/
def sc (V : Fin 256 → EReal) (h : Fin 8) : EReal := Ideal.exp2 (ex V h)

/-- The code of row `r`. -/
def cd (V : Fin 256 → EReal) (r : Fin 256) : EReal :=
  min (Ideal.ofBits .f32 1138753536#32) (max (Ideal.ofBits .f32 3286237184#32)
    (V r * Ideal.exp2 (0 - ex V (headOf r))))

/-- The factor of the scores in base two. -/
def kap : EReal := (((Real.sqrt 32 * Real.log 2)⁻¹ : ℝ) : EReal)

/-- The base-two score of query `i` against key `j`. -/
def S (Q K : Fin 1024 → Fin 256 → EReal) (h : Fin 8) (i j : Fin 1024) : EReal :=
  (∑ d : Fin 32, cd (K j) (hd h d) * cd (Q i) (hd h d)) * sc (K j) h * (sc (Q i) h * kap)

/-- The sum of the weights over the live keys. -/
def T (n : ℕ) (Q K : Fin 1024 → Fin 256 → EReal) (h : Fin 8) (i : Fin 1024) : EReal :=
  ∑ j : Fin 1024, if j.val < n then Ideal.exp2 (S Q K h i j) else 0

/-- Attention of one head: the weighted mean of the values. -/
def O (n : ℕ) (Q K V : Fin 1024 → Fin 256 → EReal) (h : Fin 8) (d : Fin 32) (i : Fin 1024) : EReal :=
  Ideal.div (∑ j : Fin 1024, if j.val < n then V j (hd h d) * Ideal.exp2 (S Q K h i j) else 0)
    (T n Q K h i)

/-- The output projection of the heads. -/
def att (n : ℕ) (Q K V : Fin 1024 → Fin 256 → EReal) (Wo : Fin 256 → Fin 256 → EReal)
    (i : Fin 1024) (c : Fin 256) : EReal :=
  ∑ r : Fin 256, O n Q K V (headOf r) (chanOf r) i * Wo r c

end Cert.Proof.Spec
end
-- ==== Proof.Read.lean ====
module

public import Idealize.ShloMosaic.Lib.Pointwise
public import Idealize.ShloMosaic.Lib.WritesUnit
public import Idealize.ShloMosaic.Lib.VecWindow
public import Idealize.ShloMosaic.Lib.IdealHost

@[expose] public section
noncomputable section
namespace Cert.Proof
open Idealize.ShloMosaic

variable {sig : RefSig} {κ : Kind} {sp : Space} {e : EltTy} {Val : EltTy → Type}

/-- What the newest of a list of stored pieces leaves at an index of a two-dimensional array. -/
theorem read_piece2 {A B n0 n1 : ℕ} (v : View sig κ sp (⟨2, ![A, B]⟩ : Shape) e) (f : v.ty.Contents Val)
    {off : Fin 2 → ℕ} {o0 o1 : ℕ} (heq : off = ![o0, o1])
    (inb : ∀ a : Fin 2, off a + (![n0, n1] : Fin 2 → ℕ) a ≤ (⟨2, ![A, B]⟩ : Shape).size a)
    (w : (⟨2, ![n0, n1]⟩ : Shape).Idx → Val e) (L : List (View.Piece Val (⟨2, ![A, B]⟩ : Shape) e)) (a : Fin A) (b : Fin B) :
    v.read Val (v.writes Val f ((⟨Rect.unit (s := ⟨2, ![A, B]⟩) off ![n0, n1] inb, w⟩ : View.Piece Val _ e) :: L)) (ix2 a b)
      = if h : (o0 ≤ a.val ∧ a.val < o0 + n0) ∧ (o1 ≤ b.val ∧ b.val < o1 + n1) then
          w (ix2 ⟨a.val - o0, by omega⟩ ⟨b.val - o1, by omega⟩)
        else v.read Val (v.writes Val f L) (ix2 a b) := by
  subst heq
  split
  · rename_i h
    refine View.read_writes_cons_unit_of_mem v f inb w L _ _ rfl ?_
    intro x; fin_cases x
    · show a.val = o0 + (a.val - o0); omega
    · show b.val = o1 + (b.val - o1); omega
  · rename_i h
    rw [View.read_writes_cons_unit v f inb w L _ rfl, dif_neg]
    intro hh
    exact h ⟨hh 0, hh 1⟩

/-- The same in three dimensions. -/
theorem read_piece3 {A B C n0 n1 n2 : ℕ} (v : View sig κ sp (⟨3, ![A, B, C]⟩ : Shape) e) (f : v.ty.Contents Val)
    {off : Fin 3 → ℕ} {o0 o1 o2 : ℕ} (heq : off = ![o0, o1, o2])
    (inb : ∀ a : Fin 3, off a + (![n0, n1, n2] : Fin 3 → ℕ) a ≤ (⟨3, ![A, B, C]⟩ : Shape).size a)
    (w : (⟨3, ![n0, n1, n2]⟩ : Shape).Idx → Val e) (L : List (View.Piece Val (⟨3, ![A, B, C]⟩ : Shape) e)) (a : Fin A) (b : Fin B) (c : Fin C) :
    v.read Val (v.writes Val f ((⟨Rect.unit (s := ⟨3, ![A, B, C]⟩) off ![n0, n1, n2] inb, w⟩ : View.Piece Val _ e) :: L)) (ix3 a b c)
      = if h : (o0 ≤ a.val ∧ a.val < o0 + n0) ∧ (o1 ≤ b.val ∧ b.val < o1 + n1) ∧ (o2 ≤ c.val ∧ c.val < o2 + n2) then
          w (ix3 ⟨a.val - o0, by omega⟩ ⟨b.val - o1, by omega⟩ ⟨c.val - o2, by omega⟩)
        else v.read Val (v.writes Val f L) (ix3 a b c) := by
  subst heq
  split
  · rename_i h
    refine View.read_writes_cons_unit_of_mem v f inb w L _ _ rfl ?_
    intro x; fin_cases x
    · show a.val = o0 + (a.val - o0); omega
    · show b.val = o1 + (b.val - o1); omega
    · show c.val = o2 + (c.val - o2); omega
  · rename_i h
    rw [View.read_writes_cons_unit v f inb w L _ rfl, dif_neg]
    intro hh
    exact h ⟨hh 0, hh 1, hh 2⟩

/-- The same in four dimensions. -/
theorem read_piece4 {A B C D n0 n1 n2 n3 : ℕ} (v : View sig κ sp (⟨4, ![A, B, C, D]⟩ : Shape) e) (f : v.ty.Contents Val)
    {off : Fin 4 → ℕ} {o0 o1 o2 o3 : ℕ} (heq : off = ![o0, o1, o2, o3])
    (inb : ∀ a : Fin 4, off a + (![n0, n1, n2, n3] : Fin 4 → ℕ) a ≤ (⟨4, ![A, B, C, D]⟩ : Shape).size a)
    (w : (⟨4, ![n0, n1, n2, n3]⟩ : Shape).Idx → Val e) (L : List (View.Piece Val (⟨4, ![A, B, C, D]⟩ : Shape) e)) (a : Fin A) (b : Fin B) (c : Fin C) (d : Fin D) :
    v.read Val (v.writes Val f ((⟨Rect.unit (s := ⟨4, ![A, B, C, D]⟩) off ![n0, n1, n2, n3] inb, w⟩ : View.Piece Val _ e) :: L)) (ix4 a b c d)
      = if h : (o0 ≤ a.val ∧ a.val < o0 + n0) ∧ (o1 ≤ b.val ∧ b.val < o1 + n1) ∧ (o2 ≤ c.val ∧ c.val < o2 + n2) ∧ (o3 ≤ d.val ∧ d.val < o3 + n3) then
          w (ix4 ⟨a.val - o0, by omega⟩ ⟨b.val - o1, by omega⟩ ⟨c.val - o2, by omega⟩ ⟨d.val - o3, by omega⟩)
        else v.read Val (v.writes Val f L) (ix4 a b c d) := by
  subst heq
  split
  · rename_i h
    refine View.read_writes_cons_unit_of_mem v f inb w L _ _ rfl ?_
    intro x; fin_cases x
    · show a.val = o0 + (a.val - o0); omega
    · show b.val = o1 + (b.val - o1); omega
    · show c.val = o2 + (c.val - o2); omega
    · show d.val = o3 + (d.val - o3); omega
  · rename_i h
    rw [View.read_writes_cons_unit v f inb w L _ rfl, dif_neg]
    intro hh
    exact h ⟨hh 0, hh 1, hh 2, hh 3⟩

/-- Nothing stored leaves what was there. -/
theorem read_piece_nil {s : Shape} (v : View sig κ sp s e) (f : v.ty.Contents Val) (y : s.Idx) :
    v.read Val (v.writes Val f []) y = v.read Val f y := rfl

/-- A load at an index of a 2-dimensional array reads the array there. -/
theorem readAt2 {A B n0 n1 : ℕ} (v : View sig κ sp (⟨2, ![A, B]⟩ : Shape) e) (f : v.ty.Contents Val)
    {off : Fin 2 → ℕ} {o0 o1 : ℕ} (heq : off = ![o0, o1])
    (inb : ∀ a : Fin 2, off a + (![n0, n1] : Fin 2 → ℕ) a ≤ (⟨2, ![A, B]⟩ : Shape).size a)
    (a : Fin n0) (b : Fin n1) (x : Fin A) (y : Fin B) (h0 : x.val = o0 + a.val) (h1 : y.val = o1 + b.val) :
    v.readAt Val (Rect.unit (s := ⟨2, ![A, B]⟩) off ![n0, n1] inb).toLoadRect f (ix2 a b) = v.read Val f (ix2 x y) := by
  subst heq
  refine congrArg (v.read Val f) (funext fun t => Fin.ext ?_)
  fin_cases t
  · exact (congrArg (o0 + ·) (Nat.one_mul _)).trans (by show o0 + a.val = x.val; omega)
  · exact (congrArg (o1 + ·) (Nat.one_mul _)).trans (by show o1 + b.val = y.val; omega)

/-- A load at an index of a 3-dimensional array reads the array there. -/
theorem readAt3 {A B C n0 n1 n2 : ℕ} (v : View sig κ sp (⟨3, ![A, B, C]⟩ : Shape) e) (f : v.ty.Contents Val)
    {off : Fin 3 → ℕ} {o0 o1 o2 : ℕ} (heq : off = ![o0, o1, o2])
    (inb : ∀ a : Fin 3, off a + (![n0, n1, n2] : Fin 3 → ℕ) a ≤ (⟨3, ![A, B, C]⟩ : Shape).size a)
    (a : Fin n0) (b : Fin n1) (c : Fin n2) (x : Fin A) (y : Fin B) (z : Fin C) (h0 : x.val = o0 + a.val) (h1 : y.val = o1 + b.val) (h2 : z.val = o2 + c.val) :
    v.readAt Val (Rect.unit (s := ⟨3, ![A, B, C]⟩) off ![n0, n1, n2] inb).toLoadRect f (ix3 a b c) = v.read Val f (ix3 x y z) := by
  subst heq
  refine congrArg (v.read Val f) (funext fun t => Fin.ext ?_)
  fin_cases t
  · exact (congrArg (o0 + ·) (Nat.one_mul _)).trans (by show o0 + a.val = x.val; omega)
  · exact (congrArg (o1 + ·) (Nat.one_mul _)).trans (by show o1 + b.val = y.val; omega)
  · exact (congrArg (o2 + ·) (Nat.one_mul _)).trans (by show o2 + c.val = z.val; omega)

/-- A load at an index of a 4-dimensional array reads the array there. -/
theorem readAt4 {A B C D n0 n1 n2 n3 : ℕ} (v : View sig κ sp (⟨4, ![A, B, C, D]⟩ : Shape) e) (f : v.ty.Contents Val)
    {off : Fin 4 → ℕ} {o0 o1 o2 o3 : ℕ} (heq : off = ![o0, o1, o2, o3])
    (inb : ∀ a : Fin 4, off a + (![n0, n1, n2, n3] : Fin 4 → ℕ) a ≤ (⟨4, ![A, B, C, D]⟩ : Shape).size a)
    (a : Fin n0) (b : Fin n1) (c : Fin n2) (d : Fin n3) (x : Fin A) (y : Fin B) (z : Fin C) (u : Fin D) (h0 : x.val = o0 + a.val) (h1 : y.val = o1 + b.val) (h2 : z.val = o2 + c.val) (h3 : u.val = o3 + d.val) :
    v.readAt Val (Rect.unit (s := ⟨4, ![A, B, C, D]⟩) off ![n0, n1, n2, n3] inb).toLoadRect f (ix4 a b c d) = v.read Val f (ix4 x y z u) := by
  subst heq
  refine congrArg (v.read Val f) (funext fun t => Fin.ext ?_)
  fin_cases t
  · exact (congrArg (o0 + ·) (Nat.one_mul _)).trans (by show o0 + a.val = x.val; omega)
  · exact (congrArg (o1 + ·) (Nat.one_mul _)).trans (by show o1 + b.val = y.val; omega)
  · exact (congrArg (o2 + ·) (Nat.one_mul _)).trans (by show o2 + c.val = z.val; omega)
  · exact (congrArg (o3 + ·) (Nat.one_mul _)).trans (by show o3 + d.val = u.val; omega)

end Cert.Proof
end
-- ==== Proof.Prep.lean ====
module

public import proofs.«01_k».proof.Proof.Gen.KernelIdeal.Skeleton
public import proofs.«01_k».proof.Proof.Gen.KernelIdeal
public import proofs.«01_k».proof.Proof.Spec
public import Idealize.ShloMosaic.Lib.Pointwise

@[expose] public section
set_option maxRecDepth 16384
noncomputable section
namespace Cert.Proof.KernelIdeal
open Cert.KernelIdeal Cert.KernelIdeal.Gen Cert.Proof.Spec
open Idealize.ShloMosaic

/-- Row `j` of a tile of the residual. -/
abbrev rowX (x : Vec Ideal S1x1x256x256 .f32) (j : Fin 256) : Fin 256 → EReal := fun k => x (ix4 0 0 j k)
abbrev row1 (g : FVec Ideal S1x256 .f32) : Fin 256 → EReal := fun k => g (ix2 0 k)
/-- The query, key and value rows of the fused weights. -/
abbrev wQ (w : Vec Ideal S768x256 .bf16) : Fin 256 → Fin 256 → EReal := fun r k => w (ix2 ⟨r.val, by omega⟩ k)
abbrev wK (w : Vec Ideal S768x256 .bf16) : Fin 256 → Fin 256 → EReal := fun r k => w (ix2 ⟨256 + r.val, by omega⟩ k)
abbrev wV (w : Vec Ideal S768x256 .bf16) : Fin 256 → Fin 256 → EReal := fun r k => w (ix2 ⟨512 + r.val, by omega⟩ k)

theorem pay4_apply (g b : FVec Ideal S1x256 .f32) (x : Vec Ideal S1x1x256x256 .f32) (w : Vec Ideal S768x256 .bf16) (r : Fin 768) (j : Fin 256) :
    k0_pay4 (F := Ideal) g b x w (ix2 r j) = ∑ k, w (ix2 r k) * lnR (row1 g) (row1 b) (rowX x j) k := by
  pointwise [k0_pay4]
  rfl

section
variable (g b : FVec Ideal S1x256 .f32) (x : Vec Ideal S1x1x256x256 .f32) (w : Vec Ideal S768x256 .bf16)

theorem q_apply (r : Fin 256) (j : Fin 256) :
    k0_pay5 (F := Ideal) g b x w (ix2 r j) = prj (wQ w) (lnR (row1 g) (row1 b) (rowX x j)) r := by
  pointwise [k0_pay5]
  simp only [pay4_apply]
  rfl

theorem k_apply (r : Fin 256) (j : Fin 256) :
    k0_pay12 (F := Ideal) (k0_pay4 (F := Ideal) g b x w) (ix2 r j) = prj (wK w) (lnR (row1 g) (row1 b) (rowX x j)) r := by
  pointwise [k0_pay12]
  simp only [pay4_apply]
  rfl

variable (cst : Ideal .f32) (hc : cst = 1)
include hc in
theorem pay9_apply (h : Fin 8) (j : Fin 256) :
    k0_pay9 (F := Ideal) (k0_pay7 (F := Ideal) g b x w) (k0_pay8 (F := Ideal) g b x w) cst (ix2 h j) = ex (prj (wQ w) (lnR (row1 g) (row1 b) (rowX x j))) h := by
  subst hc
  pointwise [k0_pay9, k0_pay7, k0_pay8, k0_pay6]
  simp only [q_apply]
  rfl

theorem pay13_apply (h : Fin 8) (j : Fin 256) :
    k0_pay13 (F := Ideal) (k0_pay4 (F := Ideal) g b x w) (ix2 h j) = ex (prj (wK w) (lnR (row1 g) (row1 b) (rowX x j))) h := by
  pointwise [k0_pay13]
  simp only [k_apply]
  rfl

include hc in
theorem pay10_apply (h : Fin 8) (j : Fin 256) :
    k0_pay10 (F := Ideal) (k0_pay7 (F := Ideal) g b x w) (k0_pay8 (F := Ideal) g b x w) cst (ix2 h j) = sc (prj (wQ w) (lnR (row1 g) (row1 b) (rowX x j))) h := by
  pointwise [k0_pay10]
  rw [pay9_apply g b x w cst hc]
  rfl

theorem pay14_apply (h : Fin 8) (j : Fin 256) :
    k0_pay14 (F := Ideal) (k0_pay4 (F := Ideal) g b x w) (ix2 h j) = sc (prj (wK w) (lnR (row1 g) (row1 b) (rowX x j))) h := by
  pointwise [k0_pay14]
  rw [pay13_apply]
  rfl

include hc in
theorem pay11_apply (r : Fin 256) (j : Fin 256) :
    k0_pay11 (F := Ideal) (k0_pay5 (F := Ideal) g b x w) (k0_pay7 (F := Ideal) g b x w) (k0_pay8 (F := Ideal) g b x w) cst (ix2 r j) = cd (prj (wQ w) (lnR (row1 g) (row1 b) (rowX x j))) r := by
  pointwise [k0_pay11]
  rw [pay9_apply g b x w cst hc, q_apply]
  rfl

theorem pay15_apply (r : Fin 256) (j : Fin 256) :
    k0_pay15 (F := Ideal) (k0_pay4 (F := Ideal) g b x w) (ix2 r j) = cd (prj (wK w) (lnR (row1 g) (row1 b) (rowX x j))) r := by
  pointwise [k0_pay15]
  rw [pay13_apply, k_apply]
  rfl

theorem pay16_apply (r : Fin 256) (j : Fin 256) :
    k0_pay16 (F := Ideal) (k0_pay15 (F := Ideal) (k0_pay4 (F := Ideal) g b x w)) (ix2 r j) = cd (prj (wK w) (lnR (row1 g) (row1 b) (rowX x j))) r := by
  pointwise [k0_pay16]
  rw [pay15_apply]

end

/-- Whether key `j` of the tile that starts at `256 a` is below `n`, as the kernel compares it. -/
def liv (n a : BitVec 32) (j : Fin 256) : Prop := IntOp.cmpi .slt (IntOp.addi (BitVec.ofNat 32 j.val) (Scalar.muli a 256#32)) n = 1#1
instance (n a j) : Decidable (liv n a j) := by unfold liv; infer_instance

theorem pay17_apply (q : FVec Ideal S256x256 .fp8e4m3) (r j : Fin 256) :
    k0_pay17 (F := Ideal) q (ix4 0 0 r j) = q (ix2 r j) := by
  pointwise [k0_pay17]
theorem pay19_apply (q : FVec Ideal S256x256 .fp8e4m3) (r j : Fin 256) :
    k0_pay19 (F := Ideal) q (ix4 0 0 r j) = q (ix2 r j) := by
  pointwise [k0_pay19, k0_pay16]
theorem pay18_apply (q : FVec Ideal S8x256 .f32) (r : Fin 8) (j : Fin 256) :
    k0_pay18 (F := Ideal) q (ix4 0 0 r j) = q (ix2 r j) := by
  pointwise [k0_pay18]
theorem pay20_apply (q : FVec Ideal S8x256 .f32) (r : Fin 8) (j : Fin 256) :
    k0_pay20 (F := Ideal) q (ix4 0 0 r j) = q (ix2 r j) := by
  pointwise [k0_pay20]
theorem pay21_apply (q : FVec Ideal S8x256 .f32) (r : Fin 8) (j : Fin 256) :
    k0_pay21 (F := Ideal) q (ix2 r j) = q (ix2 r j) * kap := by
  pointwise [k0_pay21]
  rfl
theorem pay32_apply (n : Elt Ideal .i32) (a : BitVec 32) (q : FVec Ideal S256x256 .fp8e4m3) (j r : Fin 256) :
    k0_pay32 (F := Ideal) (k0_pay31 (F := Ideal) n a q) (ix2 j r) = if liv n a j then q (ix2 r j) else 0 := by
  pointwise [k0_pay32, k0_pay31, k0_pay30]
  simp only [liv, Scalar.select]
  first | rfl | (split <;> rfl)
theorem pay33_apply (n : Elt Ideal .i32) (a : BitVec 32) (q : FVec Ideal S768x256 .f32) (r j : Fin 256) :
    k0_pay33 (F := Ideal) q (k0_pay30 (F := Ideal) n a) (ix2 r j) = if liv n a j then q (ix2 ⟨512 + r.val, by omega⟩ j) else 0 := by
  pointwise [k0_pay33, k0_pay30]
  simp only [liv, Scalar.select]
  first | rfl | (split <;> rfl)
theorem pay34_apply (n : Elt Ideal .i32) (a : BitVec 32) (r : Fin 16) (j : Fin 256) :
    k0_pay34 (F := Ideal) (k0_pay30 (F := Ideal) n a) (ix2 r j) = if liv n a j then 1 else 0 := by
  pointwise [k0_pay34, k0_pay30]
  simp only [liv, Scalar.select]
  first | rfl | (split <;> rfl)
theorem pay36_apply (n : Elt Ideal .i32) (a : BitVec 32) (r : Fin 16) (j : Fin 256) :
    k0_pay36 (F := Ideal) (k0_pay30 (F := Ideal) n a) (ix3 0 r j) = if liv n a j then 1 else 0 := by
  pointwise [k0_pay36]
  rw [pay34_apply]
theorem pay22_apply (q : FVec Ideal S256x256 .fp8e4m3) (d : Fin 32) (j : Fin 256) :
    k0_pay22 (F := Ideal) q (ix3 0 d j) = q (ix2 (hd 0 d) j) := by
  pointwise [k0_pay22]
  first | done | rfl | exact congrArg (fun i => q (ix2 i j)) (Fin.ext (by simp)) | exact congrArg (fun i => k0_pay33 (F := Ideal) q (k0_pay30 (F := Ideal) n a) (ix2 i j)) (Fin.ext (by simp))
theorem pay23_apply (q : FVec Ideal S256x256 .fp8e4m3) (d : Fin 32) (j : Fin 256) :
    k0_pay23 (F := Ideal) q (ix3 0 d j) = q (ix2 (hd 1 d) j) := by
  pointwise [k0_pay23]
  first | done | rfl | exact congrArg (fun i => q (ix2 i j)) (Fin.ext (by simp)) | exact congrArg (fun i => k0_pay33 (F := Ideal) q (k0_pay30 (F := Ideal) n a) (ix2 i j)) (Fin.ext (by simp))
theorem pay24_apply (q : FVec Ideal S256x256 .fp8e4m3) (d : Fin 32) (j : Fin 256) :
    k0_pay24 (F := Ideal) q (ix3 0 d j) = q (ix2 (hd 2 d) j) := by
  pointwise [k0_pay24]
  first | done | rfl | exact congrArg (fun i => q (ix2 i j)) (Fin.ext (by simp)) | exact congrArg (fun i => k0_pay33 (F := Ideal) q (k0_pay30 (F := Ideal) n a) (ix2 i j)) (Fin.ext (by simp))
theorem pay25_apply (q : FVec Ideal S256x256 .fp8e4m3) (d : Fin 32) (j : Fin 256) :
    k0_pay25 (F := Ideal) q (ix3 0 d j) = q (ix2 (hd 3 d) j) := by
  pointwise [k0_pay25]
  first | done | rfl | exact congrArg (fun i => q (ix2 i j)) (Fin.ext (by simp)) | exact congrArg (fun i => k0_pay33 (F := Ideal) q (k0_pay30 (F := Ideal) n a) (ix2 i j)) (Fin.ext (by simp))
theorem pay26_apply (q : FVec Ideal S256x256 .fp8e4m3) (d : Fin 32) (j : Fin 256) :
    k0_pay26 (F := Ideal) q (ix3 0 d j) = q (ix2 (hd 4 d) j) := by
  pointwise [k0_pay26]
  first | done | rfl | exact congrArg (fun i => q (ix2 i j)) (Fin.ext (by simp)) | exact congrArg (fun i => k0_pay33 (F := Ideal) q (k0_pay30 (F := Ideal) n a) (ix2 i j)) (Fin.ext (by simp))
theorem pay27_apply (q : FVec Ideal S256x256 .fp8e4m3) (d : Fin 32) (j : Fin 256) :
    k0_pay27 (F := Ideal) q (ix3 0 d j) = q (ix2 (hd 5 d) j) := by
  pointwise [k0_pay27]
  first | done | rfl | exact congrArg (fun i => q (ix2 i j)) (Fin.ext (by simp)) | exact congrArg (fun i => k0_pay33 (F := Ideal) q (k0_pay30 (F := Ideal) n a) (ix2 i j)) (Fin.ext (by simp))
theorem pay28_apply (q : FVec Ideal S256x256 .fp8e4m3) (d : Fin 32) (j : Fin 256) :
    k0_pay28 (F := Ideal) q (ix3 0 d j) = q (ix2 (hd 6 d) j) := by
  pointwise [k0_pay28]
  first | done | rfl | exact congrArg (fun i => q (ix2 i j)) (Fin.ext (by simp)) | exact congrArg (fun i => k0_pay33 (F := Ideal) q (k0_pay30 (F := Ideal) n a) (ix2 i j)) (Fin.ext (by simp))
theorem pay29_apply (q : FVec Ideal S256x256 .fp8e4m3) (d : Fin 32) (j : Fin 256) :
    k0_pay29 (F := Ideal) q (ix3 0 d j) = q (ix2 (hd 7 d) j) := by
  pointwise [k0_pay29]
  first | done | rfl | exact congrArg (fun i => q (ix2 i j)) (Fin.ext (by simp)) | exact congrArg (fun i => k0_pay33 (F := Ideal) q (k0_pay30 (F := Ideal) n a) (ix2 i j)) (Fin.ext (by simp))
theorem pay41_apply (q : FVec Ideal S256x256 .bf16) (d : Fin 32) (j : Fin 256) :
    k0_pay41 (F := Ideal) q (ix3 0 d j) = q (ix2 (hd 2 d) j) := by
  pointwise [k0_pay41]
  first | done | rfl | exact congrArg (fun i => q (ix2 i j)) (Fin.ext (by simp)) | exact congrArg (fun i => k0_pay33 (F := Ideal) q (k0_pay30 (F := Ideal) n a) (ix2 i j)) (Fin.ext (by simp))
theorem pay44_apply (q : FVec Ideal S256x256 .bf16) (d : Fin 32) (j : Fin 256) :
    k0_pay44 (F := Ideal) q (ix3 0 d j) = q (ix2 (hd 3 d) j) := by
  pointwise [k0_pay44]
  first | done | rfl | exact congrArg (fun i => q (ix2 i j)) (Fin.ext (by simp)) | exact congrArg (fun i => k0_pay33 (F := Ideal) q (k0_pay30 (F := Ideal) n a) (ix2 i j)) (Fin.ext (by simp))
theorem pay48_apply (q : FVec Ideal S256x256 .bf16) (d : Fin 32) (j : Fin 256) :
    k0_pay48 (F := Ideal) q (ix3 0 d j) = q (ix2 (hd 4 d) j) := by
  pointwise [k0_pay48]
  first | done | rfl | exact congrArg (fun i => q (ix2 i j)) (Fin.ext (by simp)) | exact congrArg (fun i => k0_pay33 (F := Ideal) q (k0_pay30 (F := Ideal) n a) (ix2 i j)) (Fin.ext (by simp))
theorem pay51_apply (q : FVec Ideal S256x256 .bf16) (d : Fin 32) (j : Fin 256) :
    k0_pay51 (F := Ideal) q (ix3 0 d j) = q (ix2 (hd 5 d) j) := by
  pointwise [k0_pay51]
  first | done | rfl | exact congrArg (fun i => q (ix2 i j)) (Fin.ext (by simp)) | exact congrArg (fun i => k0_pay33 (F := Ideal) q (k0_pay30 (F := Ideal) n a) (ix2 i j)) (Fin.ext (by simp))
theorem pay74_apply (q : FVec Ideal S256x256 .bf16) (d : Fin 32) (j : Fin 256) :
    k0_pay74 (F := Ideal) q (ix3 0 d j) = q (ix2 (hd 7 d) j) := by
  pointwise [k0_pay74]
  first | done | rfl | exact congrArg (fun i => q (ix2 i j)) (Fin.ext (by simp)) | exact congrArg (fun i => k0_pay33 (F := Ideal) q (k0_pay30 (F := Ideal) n a) (ix2 i j)) (Fin.ext (by simp))
theorem pay35_apply (n : Elt Ideal .i32) (a : BitVec 32) (q : FVec Ideal S768x256 .f32) (d : Fin 32) (j : Fin 256) :
    k0_pay35 (F := Ideal) q (k0_pay30 (F := Ideal) n a) (ix3 0 d j) = k0_pay33 (F := Ideal) q (k0_pay30 (F := Ideal) n a) (ix2 (hd 0 d) j) := by
  pointwise [k0_pay35]
  first | done | rfl | exact congrArg (fun i => q (ix2 i j)) (Fin.ext (by simp)) | exact congrArg (fun i => k0_pay33 (F := Ideal) q (k0_pay30 (F := Ideal) n a) (ix2 i j)) (Fin.ext (by simp))
theorem pay38_apply (n : Elt Ideal .i32) (a : BitVec 32) (q : FVec Ideal S768x256 .f32) (d : Fin 32) (j : Fin 256) :
    k0_pay38 (F := Ideal) q (k0_pay30 (F := Ideal) n a) (ix3 0 d j) = k0_pay33 (F := Ideal) q (k0_pay30 (F := Ideal) n a) (ix2 (hd 1 d) j) := by
  pointwise [k0_pay38]
  first | done | rfl | exact congrArg (fun i => q (ix2 i j)) (Fin.ext (by simp)) | exact congrArg (fun i => k0_pay33 (F := Ideal) q (k0_pay30 (F := Ideal) n a) (ix2 i j)) (Fin.ext (by simp))
theorem pay71_apply (q : FVec Ideal S256x256 .bf16) (d : Fin 32) (j : Fin 256) :
    k0_pay71 (F := Ideal) (k0_pay54 (F := Ideal) q) (ix3 0 d j) = q (ix2 (hd 6 d) j) := by
  pointwise [k0_pay71, k0_pay54]
  first | done | rfl | exact congrArg (fun i => q (ix2 i j)) (Fin.ext (by simp)) | exact congrArg (fun i => k0_pay33 (F := Ideal) q (k0_pay30 (F := Ideal) n a) (ix2 i j)) (Fin.ext (by simp))
theorem pay39_apply (q : FVec Ideal S16x256 .bf16) (d : Fin 16) (j : Fin 256) :
    k0_pay39 (F := Ideal) q (ix3 0 d j) = q (ix2 d j) := by
  pointwise [k0_pay39]
theorem pay42_apply (q : FVec Ideal S16x256 .bf16) (d : Fin 16) (j : Fin 256) :
    k0_pay42 (F := Ideal) q (ix3 0 d j) = q (ix2 d j) := by
  pointwise [k0_pay42]
theorem pay45_apply (q : FVec Ideal S16x256 .bf16) (d : Fin 16) (j : Fin 256) :
    k0_pay45 (F := Ideal) q (ix3 0 d j) = q (ix2 d j) := by
  pointwise [k0_pay45]
theorem pay49_apply (q : FVec Ideal S16x256 .bf16) (d : Fin 16) (j : Fin 256) :
    k0_pay49 (F := Ideal) q (ix3 0 d j) = q (ix2 d j) := by
  pointwise [k0_pay49]
theorem pay52_apply (q : FVec Ideal S16x256 .bf16) (d : Fin 16) (j : Fin 256) :
    k0_pay52 (F := Ideal) q (ix3 0 d j) = q (ix2 d j) := by
  pointwise [k0_pay52]
theorem pay72_apply (q : FVec Ideal S16x256 .bf16) (d : Fin 16) (j : Fin 256) :
    k0_pay72 (F := Ideal) q (ix3 0 d j) = q (ix2 d j) := by
  pointwise [k0_pay72]
theorem pay75_apply (q : FVec Ideal S16x256 .bf16) (d : Fin 16) (j : Fin 256) :
    k0_pay75 (F := Ideal) q (ix3 0 d j) = q (ix2 d j) := by
  pointwise [k0_pay75]
theorem pay37_apply (q : FVec Ideal S8x256 .f32) (j : Fin 256) (l : Fin 128) :
    k0_pay37 (F := Ideal) q (ix3 0 j l) = q (ix2 0 j) := by
  pointwise [k0_pay37]
  first | done | rfl | exact congrArg (fun i => q (ix2 i j)) (Fin.ext (by simp)) | exact congrArg (fun i => k0_pay33 (F := Ideal) q (k0_pay30 (F := Ideal) n a) (ix2 i j)) (Fin.ext (by simp))
theorem pay40_apply (q : FVec Ideal S8x256 .f32) (j : Fin 256) (l : Fin 128) :
    k0_pay40 (F := Ideal) q (ix3 0 j l) = q (ix2 1 j) := by
  pointwise [k0_pay40]
  first | done | rfl | exact congrArg (fun i => q (ix2 i j)) (Fin.ext (by simp)) | exact congrArg (fun i => k0_pay33 (F := Ideal) q (k0_pay30 (F := Ideal) n a) (ix2 i j)) (Fin.ext (by simp))
theorem pay43_apply (q : FVec Ideal S8x256 .f32) (j : Fin 256) (l : Fin 128) :
    k0_pay43 (F := Ideal) q (ix3 0 j l) = q (ix2 2 j) := by
  pointwise [k0_pay43]
  first | done | rfl | exact congrArg (fun i => q (ix2 i j)) (Fin.ext (by simp)) | exact congrArg (fun i => k0_pay33 (F := Ideal) q (k0_pay30 (F := Ideal) n a) (ix2 i j)) (Fin.ext (by simp))
theorem pay50_apply (q : FVec Ideal S8x256 .f32) (j : Fin 256) (l : Fin 128) :
    k0_pay50 (F := Ideal) q (ix3 0 j l) = q (ix2 4 j) := by
  pointwise [k0_pay50]
  first | done | rfl | exact congrArg (fun i => q (ix2 i j)) (Fin.ext (by simp)) | exact congrArg (fun i => k0_pay33 (F := Ideal) q (k0_pay30 (F := Ideal) n a) (ix2 i j)) (Fin.ext (by simp))
theorem pay53_apply (q : FVec Ideal S8x256 .f32) (j : Fin 256) (l : Fin 128) :
    k0_pay53 (F := Ideal) q (ix3 0 j l) = q (ix2 5 j) := by
  pointwise [k0_pay53]
  first | done | rfl | exact congrArg (fun i => q (ix2 i j)) (Fin.ext (by simp)) | exact congrArg (fun i => k0_pay33 (F := Ideal) q (k0_pay30 (F := Ideal) n a) (ix2 i j)) (Fin.ext (by simp))
theorem pay73_apply (q : FVec Ideal S8x256 .f32) (j : Fin 256) (l : Fin 128) :
    k0_pay73 (F := Ideal) q (ix3 0 j l) = q (ix2 6 j) := by
  pointwise [k0_pay73]
  first | done | rfl | exact congrArg (fun i => q (ix2 i j)) (Fin.ext (by simp)) | exact congrArg (fun i => k0_pay33 (F := Ideal) q (k0_pay30 (F := Ideal) n a) (ix2 i j)) (Fin.ext (by simp))
theorem pay76_apply (q : FVec Ideal S8x256 .f32) (j : Fin 256) (l : Fin 128) :
    k0_pay76 (F := Ideal) q (ix3 0 j l) = q (ix2 7 j) := by
  pointwise [k0_pay76]
  first | done | rfl | exact congrArg (fun i => q (ix2 i j)) (Fin.ext (by simp)) | exact congrArg (fun i => k0_pay33 (F := Ideal) q (k0_pay30 (F := Ideal) n a) (ix2 i j)) (Fin.ext (by simp))
theorem pay47_apply (q : FVec Ideal S8x256 .f32) (j : Fin 256) (l : Fin 128) :
    k0_pay47 (F := Ideal) (k0_pay46 (F := Ideal) q) (ix3 0 j l) = q (ix2 3 j) := by
  pointwise [k0_pay47, k0_pay46]
  first | done | rfl | exact congrArg (fun i => q (ix2 i j)) (Fin.ext (by simp)) | exact congrArg (fun i => k0_pay33 (F := Ideal) q (k0_pay30 (F := Ideal) n a) (ix2 i j)) (Fin.ext (by simp))
end Cert.Proof.KernelIdeal
-- ==== Proof.PrepStep.lean ====
module

public import proofs.«01_k».proof.Proof.Gen.KernelIdeal.Skeleton
public import proofs.«01_k».proof.Proof.Gen.KernelIdeal
public import proofs.«01_k».proof.Proof.Spec
public import proofs.«01_k».proof.Proof.Read
public import proofs.«01_k».proof.Proof.Prep

@[expose] public section
set_option maxRecDepth 16384
noncomputable section
namespace Cert.Proof.KernelIdeal
open Cert.KernelIdeal Cert.KernelIdeal.Gen Cert.Proof.Spec
open Idealize.ShloMosaic

/-- A feature of the point, by its trip. -/
abbrev fe (k1 : Fin k0_t1_loop.trips) : Fin 2 := ⟨k1.val, k1.isLt⟩
/-- Row `j` of tile `k`, of the feature's rows. -/
abbrev rw256 (k : ℕ) (hk : k < 4) (j : Fin 256) : Fin 1024 := ⟨256 * k + j.val, by omega⟩

/-- Results written by feature and tile: all of the features below `p`, and the first `k` tiles of feature `p`. -/
def B4 {R : ℕ} (rd : Fin 2 → Fin R → Fin 1024 → EReal) (val : Fin 2 → Fin 1024 → Fin R → EReal) (p k : ℕ) : Prop :=
  ∀ p' r s, (p'.val < p ∨ p'.val = p ∧ s.val < 256 * k) → rd p' r s = val p' s r

/-- The query codes, each head's rows in a plane of its own and zero elsewhere. -/
def P14 (rd : Fin 8 → Fin 256 → Fin 1024 → EReal) (Q : Fin 1024 → Fin 256 → EReal) (k : ℕ) : Prop :=
  (∀ h r s, s.val < 256 * k → headOf r = h → rd h r s = cd (Q s) r) ∧ ∀ h r s, headOf r ≠ h → rd h r s = 0

/-- The key codes, zero at the dead keys. -/
def P15 (rd : Fin 1024 → Fin 256 → EReal) (K : Fin 1024 → Fin 256 → EReal) (n k : ℕ) : Prop :=
  ∀ s r, s.val < 256 * k → rd s r = if s.val < n then cd (K s) r else 0

/-- The values over rows of ones, both zero at the dead keys. -/
def P16 (rd : Fin 8 → Fin 48 → Fin 1024 → EReal) (V : Fin 1024 → Fin 256 → EReal) (n k : ℕ) : Prop :=
  ∀ h r s, s.val < 256 * k → rd h r s = if s.val < n then (if hr : r.val < 32 then V s (hd h ⟨r.val, hr⟩) else 1) else 0

/-- The query scales times the factor of the scores. -/
def P17 (rd : Fin 8 → Fin 1024 → EReal) (Q : Fin 1024 → Fin 256 → EReal) (k : ℕ) : Prop :=
  ∀ h s, s.val < 256 * k → rd h s = sc (Q s) h * kap

/-- The key scales, over the lanes. -/
def P18 (rd : Fin 8 → Fin 1024 → Fin 128 → EReal) (K : Fin 1024 → Fin 256 → EReal) (k : ℕ) : Prop :=
  ∀ h s l, s.val < 256 * k → rd h s l = sc (K s) h

variable {sp : Space}

theorem step10 (v : View sig .tc sp S1x2x256x1024 .fp8e4m3) (f : v.ty.Contents (Elt Ideal)) (k1 : Fin k0_t1_loop.trips) (k : Fin k0_t2_loop.trips)
    (val : Fin 2 → Fin 1024 → Fin 256 → EReal) (w : S1x1x256x256.Idx → EReal)
    (hw : ∀ r j, w (ix4 0 0 r j) = val (fe k1) (rw256 k.val k.isLt j) r)
    (h : B4 (fun p r s => v.read (Elt Ideal) f (ix4 0 p r s)) val k1.val k.val) :
    B4 (fun p r s => v.read (Elt Ideal) (v.writes (Elt Ideal) f [⟨Rect.unit (s := S1x2x256x1024) (k0_off3 k1 k) S1x1x256x256.size (k0_off3_inb k1 k), w⟩]) (ix4 0 p r s)) val k1.val (k.val + 1) := by
  intro p r s hs
  show v.read (Elt Ideal) _ _ = _
  rw [read_piece4 v f (k0_off3_eq k1 k)]
  split
  · rename_i hin
    have hp : p = fe k1 := Fin.ext (by show p.val = k1.val; omega)
    subst hp
    have e1 : ∀ (a b : Fin 1) (r' : Fin 256) (j : Fin 256), r'.val = r.val → 256 * k.val + j.val = s.val → w (ix4 a b r' j) = val (fe k1) s r := by
      intro a b r' j hr hj
      obtain rfl : a = 0 := Subsingleton.elim _ _
      obtain rfl : b = 0 := Subsingleton.elim _ _
      obtain rfl : r' = r := Fin.ext hr
      rw [hw]
      exact congrArg (fun s => val (fe k1) s r') (Fin.ext hj)
    exact e1 _ _ _ _ (by simp) (by simp only []; omega)
  · rename_i hin
    rw [read_piece_nil]
    apply h
    simp only [Fin.val_zero] at hin
    omega

theorem step11 (v : View sig .tc sp S1x2x8x1024 .f32) (f : v.ty.Contents (Elt Ideal)) (k1 : Fin k0_t1_loop.trips) (k : Fin k0_t2_loop.trips)
    (val : Fin 2 → Fin 1024 → Fin 8 → EReal) (w : S1x1x8x256.Idx → EReal)
    (hw : ∀ r j, w (ix4 0 0 r j) = val (fe k1) (rw256 k.val k.isLt j) r)
    (h : B4 (fun p r s => v.read (Elt Ideal) f (ix4 0 p r s)) val k1.val k.val) :
    B4 (fun p r s => v.read (Elt Ideal) (v.writes (Elt Ideal) f [⟨Rect.unit (s := S1x2x8x1024) (k0_off4 k1 k) S1x1x8x256.size (k0_off4_inb k1 k), w⟩]) (ix4 0 p r s)) val k1.val (k.val + 1) := by
  intro p r s hs
  show v.read (Elt Ideal) _ _ = _
  rw [read_piece4 v f (k0_off4_eq k1 k)]
  split
  · rename_i hin
    have hp : p = fe k1 := Fin.ext (by show p.val = k1.val; omega)
    subst hp
    have e1 : ∀ (a b : Fin 1) (r' : Fin 8) (j : Fin 256), r'.val = r.val → 256 * k.val + j.val = s.val → w (ix4 a b r' j) = val (fe k1) s r := by
      intro a b r' j hr hj
      obtain rfl : a = 0 := Subsingleton.elim _ _
      obtain rfl : b = 0 := Subsingleton.elim _ _
      obtain rfl : r' = r := Fin.ext hr
      rw [hw]
      exact congrArg (fun s => val (fe k1) s r') (Fin.ext hj)
    exact e1 _ _ _ _ (by simp) (by simp only []; omega)
  · rename_i hin
    rw [read_piece_nil]
    apply h
    simp only [Fin.val_zero] at hin
    omega

theorem step15 (v : View sig .tc sp S1024x256 .fp8e4m3) (f : v.ty.Contents (Elt Ideal)) (k : Fin k0_t2_loop.trips)
    (K : Fin 1024 → Fin 256 → EReal) (n : ℕ) (w : S256x256.Idx → EReal)
    (hw : ∀ j r, w (ix2 j r) = if (rw256 k.val k.isLt j).val < n then cd (K (rw256 k.val k.isLt j)) r else 0)
    (h : P15 (fun s r => v.read (Elt Ideal) f (ix2 s r)) K n k.val) :
    P15 (fun s r => v.read (Elt Ideal) (v.writes (Elt Ideal) f [⟨Rect.unit (s := S1024x256) (k0_off14 k) S256x256.size (k0_off14_inb k), w⟩]) (ix2 s r)) K n (k.val + 1) := by
  intro s r hs
  show v.read (Elt Ideal) _ _ = _
  rw [read_piece2 v f (k0_off14_eq k)]
  split
  · rename_i hin
    have e1 : ∀ (r' : Fin 256) (j : Fin 256), r'.val = r.val → 256 * k.val + j.val = s.val → w (ix2 j r') = if s.val < n then cd (K s) r else 0 := by
      intro r' j hr hj
      obtain rfl : r' = r := Fin.ext hr
      obtain rfl : rw256 k.val k.isLt j = s := Fin.ext hj
      rw [hw]
    exact e1 _ _ (by simp) (by simp only []; omega)
  · rename_i hin
    rw [read_piece_nil]
    apply h
    omega

theorem step17 (v : View sig .tc sp S8x1024 .f32) (f : v.ty.Contents (Elt Ideal)) (k : Fin k0_t2_loop.trips)
    (Q : Fin 1024 → Fin 256 → EReal) (w : S8x256.Idx → EReal)
    (hw : ∀ r j, w (ix2 r j) = sc (Q (rw256 k.val k.isLt j)) r * kap)
    (h : P17 (fun s r => v.read (Elt Ideal) f (ix2 s r)) Q k.val) :
    P17 (fun s r => v.read (Elt Ideal) (v.writes (Elt Ideal) f [⟨Rect.unit (s := S8x1024) (k0_off5 k) S8x256.size (k0_off5_inb k), w⟩]) (ix2 s r)) Q (k.val + 1) := by
  intro r s hs
  show v.read (Elt Ideal) _ _ = _
  rw [read_piece2 v f (k0_off5_eq k)]
  split
  · rename_i hin
    have e1 : ∀ (r' : Fin 8) (j : Fin 256), r'.val = r.val → 256 * k.val + j.val = s.val → w (ix2 r' j) = sc (Q s) r * kap := by
      intro r' j hr hj
      obtain rfl : r' = r := Fin.ext hr
      obtain rfl : rw256 k.val k.isLt j = s := Fin.ext hj
      rw [hw]
    exact e1 _ _ (by simp) (by simp only []; omega)
  · rename_i hin
    rw [read_piece_nil]
    apply h
    omega

theorem step14 (v : View sig .tc sp S8x256x1024 .fp8e4m3) (f : v.ty.Contents (Elt Ideal)) (k : Fin k0_t2_loop.trips)
    (Q : Fin 1024 → Fin 256 → EReal) (w7 w6 w5 w4 w3 w2 w1 w0 : S1x32x256.Idx → EReal)
    (hw7 : ∀ d j, w7 (ix3 0 d j) = cd (Q (rw256 k.val k.isLt j)) (hd 7 d))
    (hw6 : ∀ d j, w6 (ix3 0 d j) = cd (Q (rw256 k.val k.isLt j)) (hd 6 d))
    (hw5 : ∀ d j, w5 (ix3 0 d j) = cd (Q (rw256 k.val k.isLt j)) (hd 5 d))
    (hw4 : ∀ d j, w4 (ix3 0 d j) = cd (Q (rw256 k.val k.isLt j)) (hd 4 d))
    (hw3 : ∀ d j, w3 (ix3 0 d j) = cd (Q (rw256 k.val k.isLt j)) (hd 3 d))
    (hw2 : ∀ d j, w2 (ix3 0 d j) = cd (Q (rw256 k.val k.isLt j)) (hd 2 d))
    (hw1 : ∀ d j, w1 (ix3 0 d j) = cd (Q (rw256 k.val k.isLt j)) (hd 1 d))
    (hw0 : ∀ d j, w0 (ix3 0 d j) = cd (Q (rw256 k.val k.isLt j)) (hd 0 d))
    (h : P14 (fun h r s => v.read (Elt Ideal) f (ix3 h r s)) Q k.val) :
    P14 (fun h r s => v.read (Elt Ideal) (v.writes (Elt Ideal) f [⟨Rect.unit (s := S8x256x1024) (k0_off13 k) S1x32x256.size (k0_off13_inb k), w7⟩, ⟨Rect.unit (s := S8x256x1024) (k0_off12 k) S1x32x256.size (k0_off12_inb k), w6⟩, ⟨Rect.unit (s := S8x256x1024) (k0_off11 k) S1x32x256.size (k0_off11_inb k), w5⟩, ⟨Rect.unit (s := S8x256x1024) (k0_off10 k) S1x32x256.size (k0_off10_inb k), w4⟩, ⟨Rect.unit (s := S8x256x1024) (k0_off9 k) S1x32x256.size (k0_off9_inb k), w3⟩, ⟨Rect.unit (s := S8x256x1024) (k0_off8 k) S1x32x256.size (k0_off8_inb k), w2⟩, ⟨Rect.unit (s := S8x256x1024) (k0_off7 k) S1x32x256.size (k0_off7_inb k), w1⟩, ⟨Rect.unit (s := S8x256x1024) (k0_off6 k) S1x32x256.size (k0_off6_inb k), w0⟩]) (ix3 h r s)) Q (k.val + 1) := by
  have main : ∀ (g : Fin 8) (r : Fin 256) (s : Fin 1024),
      v.read (Elt Ideal) (v.writes (Elt Ideal) f [⟨Rect.unit (s := S8x256x1024) (k0_off13 k) S1x32x256.size (k0_off13_inb k), w7⟩, ⟨Rect.unit (s := S8x256x1024) (k0_off12 k) S1x32x256.size (k0_off12_inb k), w6⟩, ⟨Rect.unit (s := S8x256x1024) (k0_off11 k) S1x32x256.size (k0_off11_inb k), w5⟩, ⟨Rect.unit (s := S8x256x1024) (k0_off10 k) S1x32x256.size (k0_off10_inb k), w4⟩, ⟨Rect.unit (s := S8x256x1024) (k0_off9 k) S1x32x256.size (k0_off9_inb k), w3⟩, ⟨Rect.unit (s := S8x256x1024) (k0_off8 k) S1x32x256.size (k0_off8_inb k), w2⟩, ⟨Rect.unit (s := S8x256x1024) (k0_off7 k) S1x32x256.size (k0_off7_inb k), w1⟩, ⟨Rect.unit (s := S8x256x1024) (k0_off6 k) S1x32x256.size (k0_off6_inb k), w0⟩]) (ix3 g r s)
        = if headOf r = g ∧ 256 * k.val ≤ s.val ∧ s.val < 256 * k.val + 256 then cd (Q s) r else v.read (Elt Ideal) f (ix3 g r s) := by
    intro g r s
    have key : ∀ (h : Fin 8) (w : S1x32x256.Idx → EReal) (hw : ∀ d j, w (ix3 0 d j) = cd (Q (rw256 k.val k.isLt j)) (hd h d))
        (a : Fin 1) (d : Fin 32) (j : Fin 256), h.val = g.val → h.val * 32 + d.val = r.val → 256 * k.val + j.val = s.val →
        w (ix3 a d j) = if headOf r = g ∧ 256 * k.val ≤ s.val ∧ s.val < 256 * k.val + 256 then cd (Q s) r else v.read (Elt Ideal) f (ix3 g r s) := by
      intro h w hw a d j hg hr hj
      obtain rfl : a = 0 := Subsingleton.elim _ _
      obtain rfl : h = g := Fin.ext hg
      obtain rfl : hd h d = r := Fin.ext hr
      obtain rfl : rw256 k.val k.isLt j = s := Fin.ext hj
      rw [hw, if_pos]
      refine ⟨Fin.ext (by show (h.val * 32 + d.val) / 32 = h.val; omega), by show 256 * k.val ≤ 256 * k.val + j.val; omega, by show 256 * k.val + j.val < _; omega⟩
    rw [read_piece3 v f (k0_off13_eq k)]
    split
    · rename_i hin; exact key 7 w7 hw7 _ _ _ (by simp <;> omega) (by simp <;> omega) (by simp <;> omega)
    rename_i n7
    rw [read_piece3 v f (k0_off12_eq k)]
    split
    · rename_i hin; exact key 6 w6 hw6 _ _ _ (by simp <;> omega) (by simp <;> omega) (by simp <;> omega)
    rename_i n6
    rw [read_piece3 v f (k0_off11_eq k)]
    split
    · rename_i hin; exact key 5 w5 hw5 _ _ _ (by simp <;> omega) (by simp <;> omega) (by simp <;> omega)
    rename_i n5
    rw [read_piece3 v f (k0_off10_eq k)]
    split
    · rename_i hin; exact key 4 w4 hw4 _ _ _ (by simp <;> omega) (by simp <;> omega) (by simp <;> omega)
    rename_i n4
    rw [read_piece3 v f (k0_off9_eq k)]
    split
    · rename_i hin; exact key 3 w3 hw3 _ _ _ (by simp <;> omega) (by simp <;> omega) (by simp <;> omega)
    rename_i n3
    rw [read_piece3 v f (k0_off8_eq k)]
    split
    · rename_i hin; exact key 2 w2 hw2 _ _ _ (by simp <;> omega) (by simp <;> omega) (by simp <;> omega)
    rename_i n2
    rw [read_piece3 v f (k0_off7_eq k)]
    split
    · rename_i hin; exact key 1 w1 hw1 _ _ _ (by simp <;> omega) (by simp <;> omega) (by simp <;> omega)
    rename_i n1
    rw [read_piece3 v f (k0_off6_eq k)]
    split
    · rename_i hin; exact key 0 w0 hw0 _ _ _ (by simp <;> omega) (by simp <;> omega) (by simp <;> omega)
    rename_i n0
    rw [read_piece_nil, if_neg]
    rintro ⟨hg, hs0, hs1⟩
    have hg' : r.val / 32 = g.val := congrArg Fin.val hg
    omega
  constructor
  · intro g r s hs hg
    show v.read (Elt Ideal) _ _ = _
    rw [main]
    split
    · rfl
    · rename_i hn
      exact h.1 g r s (by have : ¬ (256 * k.val ≤ s.val ∧ s.val < 256 * k.val + 256) := fun hh => hn ⟨hg, hh⟩
                          omega) hg
  · intro g r s hg
    show v.read (Elt Ideal) _ _ = _
    rw [main, if_neg (fun hh => hg hh.1)]
    exact h.2 g r s hg

theorem step16 (v : View sig .tc sp S8x48x1024 .bf16) (f : v.ty.Contents (Elt Ideal)) (k : Fin k0_t2_loop.trips)
    (V : Fin 1024 → Fin 256 → EReal) (n : ℕ) (u0 u1 u2 u3 u4 u5 u6 u7 : S1x16x256.Idx → EReal) (w0 w1 w2 w3 w4 w5 w6 w7 : S1x32x256.Idx → EReal)
    (hu7 : ∀ d j, u7 (ix3 0 d j) = if (rw256 k.val k.isLt j).val < n then 1 else 0)
    (hu6 : ∀ d j, u6 (ix3 0 d j) = if (rw256 k.val k.isLt j).val < n then 1 else 0)
    (hu5 : ∀ d j, u5 (ix3 0 d j) = if (rw256 k.val k.isLt j).val < n then 1 else 0)
    (hu4 : ∀ d j, u4 (ix3 0 d j) = if (rw256 k.val k.isLt j).val < n then 1 else 0)
    (hu3 : ∀ d j, u3 (ix3 0 d j) = if (rw256 k.val k.isLt j).val < n then 1 else 0)
    (hu2 : ∀ d j, u2 (ix3 0 d j) = if (rw256 k.val k.isLt j).val < n then 1 else 0)
    (hu1 : ∀ d j, u1 (ix3 0 d j) = if (rw256 k.val k.isLt j).val < n then 1 else 0)
    (hu0 : ∀ d j, u0 (ix3 0 d j) = if (rw256 k.val k.isLt j).val < n then 1 else 0)
    (hw7 : ∀ d j, w7 (ix3 0 d j) = if (rw256 k.val k.isLt j).val < n then V (rw256 k.val k.isLt j) (hd 7 d) else 0)
    (hw6 : ∀ d j, w6 (ix3 0 d j) = if (rw256 k.val k.isLt j).val < n then V (rw256 k.val k.isLt j) (hd 6 d) else 0)
    (hw5 : ∀ d j, w5 (ix3 0 d j) = if (rw256 k.val k.isLt j).val < n then V (rw256 k.val k.isLt j) (hd 5 d) else 0)
    (hw4 : ∀ d j, w4 (ix3 0 d j) = if (rw256 k.val k.isLt j).val < n then V (rw256 k.val k.isLt j) (hd 4 d) else 0)
    (hw3 : ∀ d j, w3 (ix3 0 d j) = if (rw256 k.val k.isLt j).val < n then V (rw256 k.val k.isLt j) (hd 3 d) else 0)
    (hw2 : ∀ d j, w2 (ix3 0 d j) = if (rw256 k.val k.isLt j).val < n then V (rw256 k.val k.isLt j) (hd 2 d) else 0)
    (hw1 : ∀ d j, w1 (ix3 0 d j) = if (rw256 k.val k.isLt j).val < n then V (rw256 k.val k.isLt j) (hd 1 d) else 0)
    (hw0 : ∀ d j, w0 (ix3 0 d j) = if (rw256 k.val k.isLt j).val < n then V (rw256 k.val k.isLt j) (hd 0 d) else 0)
    (h : P16 (fun h r s => v.read (Elt Ideal) f (ix3 h r s)) V n k.val) :
    P16 (fun h r s => v.read (Elt Ideal) (v.writes (Elt Ideal) f [⟨Rect.unit (s := S8x48x1024) (k0_off37 k) S1x16x256.size (k0_off37_inb k), u7⟩, ⟨Rect.unit (s := S8x48x1024) (k0_off36 k) S1x32x256.size (k0_off36_inb k), w7⟩, ⟨Rect.unit (s := S8x48x1024) (k0_off34 k) S1x16x256.size (k0_off34_inb k), u6⟩, ⟨Rect.unit (s := S8x48x1024) (k0_off33 k) S1x32x256.size (k0_off33_inb k), w6⟩, ⟨Rect.unit (s := S8x48x1024) (k0_off31 k) S1x16x256.size (k0_off31_inb k), u5⟩, ⟨Rect.unit (s := S8x48x1024) (k0_off30 k) S1x32x256.size (k0_off30_inb k), w5⟩, ⟨Rect.unit (s := S8x48x1024) (k0_off28 k) S1x16x256.size (k0_off28_inb k), u4⟩, ⟨Rect.unit (s := S8x48x1024) (k0_off27 k) S1x32x256.size (k0_off27_inb k), w4⟩, ⟨Rect.unit (s := S8x48x1024) (k0_off25 k) S1x16x256.size (k0_off25_inb k), u3⟩, ⟨Rect.unit (s := S8x48x1024) (k0_off24 k) S1x32x256.size (k0_off24_inb k), w3⟩, ⟨Rect.unit (s := S8x48x1024) (k0_off22 k) S1x16x256.size (k0_off22_inb k), u2⟩, ⟨Rect.unit (s := S8x48x1024) (k0_off21 k) S1x32x256.size (k0_off21_inb k), w2⟩, ⟨Rect.unit (s := S8x48x1024) (k0_off19 k) S1x16x256.size (k0_off19_inb k), u1⟩, ⟨Rect.unit (s := S8x48x1024) (k0_off18 k) S1x32x256.size (k0_off18_inb k), w1⟩, ⟨Rect.unit (s := S8x48x1024) (k0_off16 k) S1x16x256.size (k0_off16_inb k), u0⟩, ⟨Rect.unit (s := S8x48x1024) (k0_off15 k) S1x32x256.size (k0_off15_inb k), w0⟩]) (ix3 h r s)) V n (k.val + 1) := by
  intro g r s hs
  show v.read (Elt Ideal) _ _ = _
  have keyw : ∀ (h : Fin 8) (w : S1x32x256.Idx → EReal) (hw : ∀ d j, w (ix3 0 d j) = if (rw256 k.val k.isLt j).val < n then V (rw256 k.val k.isLt j) (hd h d) else 0)
      (a : Fin 1) (d : Fin 32) (j : Fin 256), h.val = g.val → d.val = r.val → 256 * k.val + j.val = s.val →
      w (ix3 a d j) = if s.val < n then (if hr : r.val < 32 then V s (hd g ⟨r.val, hr⟩) else 1) else 0 := by
    intro h w hw a d j hg hr hj
    obtain rfl : a = 0 := Subsingleton.elim _ _
    obtain rfl : h = g := Fin.ext hg
    obtain rfl : rw256 k.val k.isLt j = s := Fin.ext hj
    have hr' : r.val < 32 := by omega
    obtain rfl : d = ⟨r.val, hr'⟩ := Fin.ext hr
    rw [hw, dif_pos hr']
  have keyu : ∀ (h : Fin 8) (w : S1x16x256.Idx → EReal) (hw : ∀ d j, w (ix3 0 d j) = if (rw256 k.val k.isLt j).val < n then 1 else 0)
      (a : Fin 1) (d : Fin 16) (j : Fin 256), h.val = g.val → 32 + d.val = r.val → 256 * k.val + j.val = s.val →
      w (ix3 a d j) = if s.val < n then (if hr : r.val < 32 then V s (hd g ⟨r.val, hr⟩) else 1) else 0 := by
    intro h w hw a d j hg hr hj
    obtain rfl : a = 0 := Subsingleton.elim _ _
    obtain rfl : rw256 k.val k.isLt j = s := Fin.ext hj
    have hr' : ¬ r.val < 32 := by omega
    rw [hw, dif_neg hr']
  rw [read_piece3 v f (k0_off37_eq k)]
  split
  · rename_i hin; exact keyu 7 u7 hu7 _ _ _ (by simp <;> omega) (by simp <;> omega) (by simp <;> omega)
  rename_i m7
  rw [read_piece3 v f (k0_off36_eq k)]
  split
  · rename_i hin; exact keyw 7 w7 hw7 _ _ _ (by simp <;> omega) (by simp) (by simp <;> omega)
  rename_i n7
  rw [read_piece3 v f (k0_off34_eq k)]
  split
  · rename_i hin; exact keyu 6 u6 hu6 _ _ _ (by simp <;> omega) (by simp <;> omega) (by simp <;> omega)
  rename_i m6
  rw [read_piece3 v f (k0_off33_eq k)]
  split
  · rename_i hin; exact keyw 6 w6 hw6 _ _ _ (by simp <;> omega) (by simp) (by simp <;> omega)
  rename_i n6
  rw [read_piece3 v f (k0_off31_eq k)]
  split
  · rename_i hin; exact keyu 5 u5 hu5 _ _ _ (by simp <;> omega) (by simp <;> omega) (by simp <;> omega)
  rename_i m5
  rw [read_piece3 v f (k0_off30_eq k)]
  split
  · rename_i hin; exact keyw 5 w5 hw5 _ _ _ (by simp <;> omega) (by simp) (by simp <;> omega)
  rename_i n5
  rw [read_piece3 v f (k0_off28_eq k)]
  split
  · rename_i hin; exact keyu 4 u4 hu4 _ _ _ (by simp <;> omega) (by simp <;> omega) (by simp <;> omega)
  rename_i m4
  rw [read_piece3 v f (k0_off27_eq k)]
  split
  · rename_i hin; exact keyw 4 w4 hw4 _ _ _ (by simp <;> omega) (by simp) (by simp <;> omega)
  rename_i n4
  rw [read_piece3 v f (k0_off25_eq k)]
  split
  · rename_i hin; exact keyu 3 u3 hu3 _ _ _ (by simp <;> omega) (by simp <;> omega) (by simp <;> omega)
  rename_i m3
  rw [read_piece3 v f (k0_off24_eq k)]
  split
  · rename_i hin; exact keyw 3 w3 hw3 _ _ _ (by simp <;> omega) (by simp) (by simp <;> omega)
  rename_i n3
  rw [read_piece3 v f (k0_off22_eq k)]
  split
  · rename_i hin; exact keyu 2 u2 hu2 _ _ _ (by simp <;> omega) (by simp <;> omega) (by simp <;> omega)
  rename_i m2
  rw [read_piece3 v f (k0_off21_eq k)]
  split
  · rename_i hin; exact keyw 2 w2 hw2 _ _ _ (by simp <;> omega) (by simp) (by simp <;> omega)
  rename_i n2
  rw [read_piece3 v f (k0_off19_eq k)]
  split
  · rename_i hin; exact keyu 1 u1 hu1 _ _ _ (by simp <;> omega) (by simp <;> omega) (by simp <;> omega)
  rename_i m1
  rw [read_piece3 v f (k0_off18_eq k)]
  split
  · rename_i hin; exact keyw 1 w1 hw1 _ _ _ (by simp <;> omega) (by simp) (by simp <;> omega)
  rename_i n1
  rw [read_piece3 v f (k0_off16_eq k)]
  split
  · rename_i hin; exact keyu 0 u0 hu0 _ _ _ (by simp <;> omega) (by simp <;> omega) (by simp <;> omega)
  rename_i m0
  rw [read_piece3 v f (k0_off15_eq k)]
  split
  · rename_i hin; exact keyw 0 w0 hw0 _ _ _ (by simp <;> omega) (by simp) (by simp <;> omega)
  rename_i n0
  rw [read_piece_nil]
  apply h
  omega

theorem step18 (v : View sig .tc sp S8x1024x128 .f32) (f : v.ty.Contents (Elt Ideal)) (k : Fin k0_t2_loop.trips)
    (K : Fin 1024 → Fin 256 → EReal) (w0 w1 w2 w3 w4 w5 w6 w7 : S1x256x128.Idx → EReal)
    (hw7 : ∀ j l, w7 (ix3 0 j l) = sc (K (rw256 k.val k.isLt j)) 7)
    (hw6 : ∀ j l, w6 (ix3 0 j l) = sc (K (rw256 k.val k.isLt j)) 6)
    (hw5 : ∀ j l, w5 (ix3 0 j l) = sc (K (rw256 k.val k.isLt j)) 5)
    (hw4 : ∀ j l, w4 (ix3 0 j l) = sc (K (rw256 k.val k.isLt j)) 4)
    (hw3 : ∀ j l, w3 (ix3 0 j l) = sc (K (rw256 k.val k.isLt j)) 3)
    (hw2 : ∀ j l, w2 (ix3 0 j l) = sc (K (rw256 k.val k.isLt j)) 2)
    (hw1 : ∀ j l, w1 (ix3 0 j l) = sc (K (rw256 k.val k.isLt j)) 1)
    (hw0 : ∀ j l, w0 (ix3 0 j l) = sc (K (rw256 k.val k.isLt j)) 0)
    (h : P18 (fun h r s => v.read (Elt Ideal) f (ix3 h r s)) K k.val) :
    P18 (fun h r s => v.read (Elt Ideal) (v.writes (Elt Ideal) f [⟨Rect.unit (s := S8x1024x128) (k0_off38 k) S1x256x128.size (k0_off38_inb k), w7⟩, ⟨Rect.unit (s := S8x1024x128) (k0_off35 k) S1x256x128.size (k0_off35_inb k), w6⟩, ⟨Rect.unit (s := S8x1024x128) (k0_off32 k) S1x256x128.size (k0_off32_inb k), w5⟩, ⟨Rect.unit (s := S8x1024x128) (k0_off29 k) S1x256x128.size (k0_off29_inb k), w4⟩, ⟨Rect.unit (s := S8x1024x128) (k0_off26 k) S1x256x128.size (k0_off26_inb k), w3⟩, ⟨Rect.unit (s := S8x1024x128) (k0_off23 k) S1x256x128.size (k0_off23_inb k), w2⟩, ⟨Rect.unit (s := S8x1024x128) (k0_off20 k) S1x256x128.size (k0_off20_inb k), w1⟩, ⟨Rect.unit (s := S8x1024x128) (k0_off17 k) S1x256x128.size (k0_off17_inb k), w0⟩]) (ix3 h r s)) K (k.val + 1) := by
  intro g s l hs
  show v.read (Elt Ideal) _ _ = _
  have key : ∀ (h : Fin 8) (w : S1x256x128.Idx → EReal) (hw : ∀ j l, w (ix3 0 j l) = sc (K (rw256 k.val k.isLt j)) h)
      (a : Fin 1) (j : Fin 256) (l' : Fin 128), h.val = g.val → 256 * k.val + j.val = s.val → w (ix3 a j l') = sc (K s) g := by
    intro h w hw a j l' hg hj
    obtain rfl : a = 0 := Subsingleton.elim _ _
    obtain rfl : h = g := Fin.ext hg
    obtain rfl : rw256 k.val k.isLt j = s := Fin.ext hj
    rw [hw]
  rw [read_piece3 v f (k0_off38_eq k)]
  split
  · rename_i hin; exact key 7 w7 hw7 _ _ _ (by simp <;> omega) (by simp <;> omega)
  rename_i n7
  rw [read_piece3 v f (k0_off35_eq k)]
  split
  · rename_i hin; exact key 6 w6 hw6 _ _ _ (by simp <;> omega) (by simp <;> omega)
  rename_i n6
  rw [read_piece3 v f (k0_off32_eq k)]
  split
  · rename_i hin; exact key 5 w5 hw5 _ _ _ (by simp <;> omega) (by simp <;> omega)
  rename_i n5
  rw [read_piece3 v f (k0_off29_eq k)]
  split
  · rename_i hin; exact key 4 w4 hw4 _ _ _ (by simp <;> omega) (by simp <;> omega)
  rename_i n4
  rw [read_piece3 v f (k0_off26_eq k)]
  split
  · rename_i hin; exact key 3 w3 hw3 _ _ _ (by simp <;> omega) (by simp <;> omega)
  rename_i n3
  rw [read_piece3 v f (k0_off23_eq k)]
  split
  · rename_i hin; exact key 2 w2 hw2 _ _ _ (by simp <;> omega) (by simp <;> omega)
  rename_i n2
  rw [read_piece3 v f (k0_off20_eq k)]
  split
  · rename_i hin; exact key 1 w1 hw1 _ _ _ (by simp <;> omega) (by simp <;> omega)
  rename_i n1
  rw [read_piece3 v f (k0_off17_eq k)]
  split
  · rename_i hin; exact key 0 w0 hw0 _ _ _ (by simp <;> omega) (by simp <;> omega)
  rename_i n0
  rw [read_piece_nil]
  apply h
  omega

end Cert.Proof.KernelIdeal
-- ==== Proof.PrepWord.lean ====
/-
  The conditionals of the row-attention body as triples over any contents: whichever way a condition
  goes, the buffers its loop touches are handed back at some contents.
-/
module

public import proofs.«01_k».proof.Proof.Gen.KernelIdeal.Frame
public import proofs.«01_k».proof.Proof.Gen.KernelIdeal.Skeleton
public import proofs.«01_k».proof.Proof.PrepStep
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec
abbrev 𝒱₁ : Variants := Variants.none

/-- The residual of the point's two features. -/
abbrev Xv (arg3 : Memref sig .tc .vmem S1x2x1024x256 .f32) (f3 : BufTy.Contents (Elt Ideal) arg3.view.ty) : Fin 2 → Fin 1024 → Fin 256 → EReal :=
  fun p s c => arg3.view.read (Elt Ideal) f3 (ix4 0 p s c)
/-- The query, key and value projections of a feature's rows. -/
abbrev Qv (g b : FVec Ideal S1x256 .f32) (X : Fin 2 → Fin 1024 → Fin 256 → EReal) (w : Vec Ideal S768x256 .bf16) (p : Fin 2) (s : Fin 1024) : Fin 256 → EReal :=
  prj (wQ w) (lnR (row1 g) (row1 b) (X p s))
abbrev Kv (g b : FVec Ideal S1x256 .f32) (X : Fin 2 → Fin 1024 → Fin 256 → EReal) (w : Vec Ideal S768x256 .bf16) (p : Fin 2) (s : Fin 1024) : Fin 256 → EReal :=
  prj (wK w) (lnR (row1 g) (row1 b) (X p s))
abbrev Vv (g b : FVec Ideal S1x256 .f32) (X : Fin 2 → Fin 1024 → Fin 256 → EReal) (w : Vec Ideal S768x256 .bf16) (p : Fin 2) (s : Fin 1024) : Fin 256 → EReal :=
  prj (wV w) (lnR (row1 g) (row1 b) (X p s))

/-- The constant one of the kernel's select. -/
theorem one_cst : (Scalar.ofBits .f32 0x3F800000#32 : Ideal .f32) = 1 := by
  exact Ideal.ofBits_one_f32

theorem liv_iff (n : BitVec 32) (hn : n.toNat < 2 ^ 31) (k : Fin k0_t2_loop.trips) (j : Fin 256) :
    liv n (Scf.iv 0#32 1#32 k.val) j ↔ (rw256 k.val k.isLt j).val < n.toNat := by
  have hk : k.val < 4 := k.isLt
  unfold liv IntOp.cmpi
  have e : (IntOp.addi (BitVec.ofNat 32 j.val) (Scalar.muli (Scf.iv 0#32 1#32 k.val) 256#32)).toNat = 256 * k.val + j.val := by
    simp [IntOp.addi, Scalar.muli, IntOp.muli, Scf.iv, BitVec.toNat_add, BitVec.toNat_mul]
    omega
  have e2 : (IntOp.addi (BitVec.ofNat 32 j.val) (Scalar.muli (Scf.iv 0#32 1#32 k.val) 256#32)).slt n = decide (256 * k.val + j.val < n.toNat) := by
    rw [BitVec.slt_eq_ult, BitVec.ult, e]
    have h1 : n.msb = false := by rw [BitVec.msb_eq_false_iff_two_mul_lt]; omega
    have h2 : (IntOp.addi (BitVec.ofNat 32 j.val) (Scalar.muli (Scf.iv 0#32 1#32 k.val) 256#32)).msb = false := by
      rw [BitVec.msb_eq_false_iff_two_mul_lt, e]; omega
    rw [h1, h2]; simp
  show BitVec.ofBool _ = 1#1 ↔ 256 * k.val + j.val < n.toNat
  rw [e2]
  by_cases h : 256 * k.val + j.val < n.toNat <;> simp [h]

section
variable (arg3 : Memref sig .tc .vmem S1x2x1024x256 .f32) (arg6 : Memref sig .tc .vmem S768x256 .bf16)
  (f3 : BufTy.Contents (Elt Ideal) arg3.view.ty) (f6 : BufTy.Contents (Elt Ideal) arg6.view.ty)
  (v1 : Elt Ideal .i32) (hn : v1.toNat < 2 ^ 31) (v22 : FVec Ideal S1x256 .f32) (v24 : FVec Ideal S1x256 .f32) (k1 : Fin k0_t1_loop.trips) (k : Fin k0_t2_loop.trips)

theorem tile_row (j : Fin 256) : rowX (arg3.view.readAt (Elt Ideal) (Rect.unit (s := S1x2x1024x256) (k0_off2 k1 k) S1x1x256x256.size (k0_off2_inb k1 k)).toLoadRect f3) j = Xv arg3 f3 (fe k1) (rw256 k.val k.isLt j) := by
  funext c
  exact readAt4 arg3.view f3 (k0_off2_eq k1 k) _ _ _ _ _ _ _ _ _ (by simp) (by simp) (by simp) (by simp)

theorem w_all : (arg6.view.readAt (Elt Ideal) (Rect.unit (s := S768x256) ![0, 0] S768x256.size inb_S768x256_S768x256_0_0).toLoadRect f6) = arg6.view.read (Elt Ideal) f6 :=
  View.readAt_full _ _ _

theorem e10 (r j : Fin 256) : k0_pay17 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix4 0 0 r j) = cd (Qv v22 v24 (Xv arg3 f3) (arg6.view.read (Elt Ideal) f6) (fe k1) (rw256 k.val k.isLt j)) r := by
  rw [pay17_apply, pay11_apply _ _ _ _ _ one_cst, tile_row, w_all]

theorem e11 (r : Fin 8) (j : Fin 256) : k0_pay18 (F := Ideal) (k0_pay10 (F := Ideal) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix4 0 0 r j) = sc (Qv v22 v24 (Xv arg3 f3) (arg6.view.read (Elt Ideal) f6) (fe k1) (rw256 k.val k.isLt j)) r := by
  rw [pay18_apply, pay10_apply _ _ _ _ _ one_cst, tile_row, w_all]

theorem e12 (r j : Fin 256) : k0_pay19 (F := Ideal) (k0_pay15 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix4 0 0 r j) = cd (Kv v22 v24 (Xv arg3 f3) (arg6.view.read (Elt Ideal) f6) (fe k1) (rw256 k.val k.isLt j)) r := by
  rw [pay19_apply, pay15_apply, tile_row, w_all]

theorem e13 (r : Fin 8) (j : Fin 256) : k0_pay20 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix4 0 0 r j) = sc (Kv v22 v24 (Xv arg3 f3) (arg6.view.read (Elt Ideal) f6) (fe k1) (rw256 k.val k.isLt j)) r := by
  rw [pay20_apply, pay14_apply, tile_row, w_all]

theorem e14_0 (d : Fin 32) (j : Fin 256) : k0_pay22 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 0 d) := by
  rw [pay22_apply, pay11_apply _ _ _ _ _ one_cst, tile_row, w_all]

theorem e14_1 (d : Fin 32) (j : Fin 256) : k0_pay23 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 1 d) := by
  rw [pay23_apply, pay11_apply _ _ _ _ _ one_cst, tile_row, w_all]

theorem e14_2 (d : Fin 32) (j : Fin 256) : k0_pay24 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 2 d) := by
  rw [pay24_apply, pay11_apply _ _ _ _ _ one_cst, tile_row, w_all]

theorem e14_3 (d : Fin 32) (j : Fin 256) : k0_pay25 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 3 d) := by
  rw [pay25_apply, pay11_apply _ _ _ _ _ one_cst, tile_row, w_all]

theorem e14_4 (d : Fin 32) (j : Fin 256) : k0_pay26 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 4 d) := by
  rw [pay26_apply, pay11_apply _ _ _ _ _ one_cst, tile_row, w_all]

theorem e14_5 (d : Fin 32) (j : Fin 256) : k0_pay27 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 5 d) := by
  rw [pay27_apply, pay11_apply _ _ _ _ _ one_cst, tile_row, w_all]

theorem e14_6 (d : Fin 32) (j : Fin 256) : k0_pay28 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 6 d) := by
  rw [pay28_apply, pay11_apply _ _ _ _ _ one_cst, tile_row, w_all]

theorem e14_7 (d : Fin 32) (j : Fin 256) : k0_pay29 (F := Ideal) (k0_pay11 (F := Ideal) (k0_pay5 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix3 0 d j) = cd (Qv v22 v24 (Xv arg3 f3) (arg6.view.read (Elt Ideal) f6) (fe k1) (rw256 k.val k.isLt j)) (hd 7 d) := by
  rw [pay29_apply, pay11_apply _ _ _ _ _ one_cst, tile_row, w_all]

include hn in
theorem e15 (j r : Fin 256) : k0_pay32 (F := Ideal) (k0_pay31 (F := Ideal) v1 (Scf.iv 0#32 1#32 k.val) (k0_pay16 (F := Ideal) (k0_pay15 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))))) (ix2 j r) = if (rw256 k.val k.isLt j).val < v1.toNat then cd (Kv v22 v24 (Xv arg3 f3) (arg6.view.read (Elt Ideal) f6) (fe k1) (rw256 k.val k.isLt j)) r else 0 := by
  rw [pay32_apply, pay16_apply, tile_row, w_all]; exact if_congr (liv_iff v1 hn k j) rfl rfl

include hn in
theorem e33 (r j : Fin 256) : k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val)) (ix2 r j) = if (rw256 k.val k.isLt j).val < v1.toNat then (Vv v22 v24 (Xv arg3 f3) (arg6.view.read (Elt Ideal) f6) (fe k1) (rw256 k.val k.isLt j)) r else 0 := by
  rw [pay33_apply, pay4_apply, tile_row, w_all]; exact if_congr (liv_iff v1 hn k j) rfl rfl

include hn in
theorem e16v_0 (d : Fin 32) (j : Fin 256) : k0_pay35 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val)) (ix3 0 d j) = if (rw256 k.val k.isLt j).val < v1.toNat then (Vv v22 v24 (Xv arg3 f3) (arg6.view.read (Elt Ideal) f6) (fe k1) (rw256 k.val k.isLt j)) (hd 0 d) else 0 := by
  rw [pay35_apply, e33 arg3 arg6 f3 f6 v1 hn]

include hn in
theorem e16u_0 (d : Fin 16) (j : Fin 256) : k0_pay36 (F := Ideal) (k0_pay30 (F := Ideal) v1 (Scf.iv 0#32 1#32 k.val)) (ix3 0 d j) = if (rw256 k.val k.isLt j).val < v1.toNat then (1 : EReal) else 0 := by
  rw [pay36_apply]; simp only [liv_iff v1 hn]

theorem e18_0 (j : Fin 256) (l : Fin 128) : k0_pay37 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 0 := by
  rw [pay37_apply, pay14_apply, tile_row, w_all]

include hn in
theorem e16v_1 (d : Fin 32) (j : Fin 256) : k0_pay38 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val)) (ix3 0 d j) = if (rw256 k.val k.isLt j).val < v1.toNat then (Vv v22 v24 (Xv arg3 f3) (arg6.view.read (Elt Ideal) f6) (fe k1) (rw256 k.val k.isLt j)) (hd 1 d) else 0 := by
  rw [pay38_apply, e33 arg3 arg6 f3 f6 v1 hn]

include hn in
theorem e16u_1 (d : Fin 16) (j : Fin 256) : k0_pay39 (F := Ideal) (k0_pay34 (F := Ideal) (k0_pay30 (F := Ideal) v1 (Scf.iv 0#32 1#32 k.val))) (ix3 0 d j) = if (rw256 k.val k.isLt j).val < v1.toNat then (1 : EReal) else 0 := by
  rw [pay39_apply, pay34_apply]; simp only [liv_iff v1 hn]

theorem e18_1 (j : Fin 256) (l : Fin 128) : k0_pay40 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 1 := by
  rw [pay40_apply, pay14_apply, tile_row, w_all]

include hn in
theorem e16v_2 (d : Fin 32) (j : Fin 256) : k0_pay41 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val))) (ix3 0 d j) = if (rw256 k.val k.isLt j).val < v1.toNat then (Vv v22 v24 (Xv arg3 f3) (arg6.view.read (Elt Ideal) f6) (fe k1) (rw256 k.val k.isLt j)) (hd 2 d) else 0 := by
  rw [pay41_apply, e33 arg3 arg6 f3 f6 v1 hn]

include hn in
theorem e16u_2 (d : Fin 16) (j : Fin 256) : k0_pay42 (F := Ideal) (k0_pay34 (F := Ideal) (k0_pay30 (F := Ideal) v1 (Scf.iv 0#32 1#32 k.val))) (ix3 0 d j) = if (rw256 k.val k.isLt j).val < v1.toNat then (1 : EReal) else 0 := by
  rw [pay42_apply, pay34_apply]; simp only [liv_iff v1 hn]

theorem e18_2 (j : Fin 256) (l : Fin 128) : k0_pay43 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 2 := by
  rw [pay43_apply, pay14_apply, tile_row, w_all]

include hn in
theorem e16v_3 (d : Fin 32) (j : Fin 256) : k0_pay44 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val))) (ix3 0 d j) = if (rw256 k.val k.isLt j).val < v1.toNat then (Vv v22 v24 (Xv arg3 f3) (arg6.view.read (Elt Ideal) f6) (fe k1) (rw256 k.val k.isLt j)) (hd 3 d) else 0 := by
  rw [pay44_apply, e33 arg3 arg6 f3 f6 v1 hn]

include hn in
theorem e16u_3 (d : Fin 16) (j : Fin 256) : k0_pay45 (F := Ideal) (k0_pay34 (F := Ideal) (k0_pay30 (F := Ideal) v1 (Scf.iv 0#32 1#32 k.val))) (ix3 0 d j) = if (rw256 k.val k.isLt j).val < v1.toNat then (1 : EReal) else 0 := by
  rw [pay45_apply, pay34_apply]; simp only [liv_iff v1 hn]

theorem e18_3 (j : Fin 256) (l : Fin 128) : k0_pay47 (F := Ideal) (k0_pay46 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)))) (ix3 0 j l) = sc (Kv v22 v24 (Xv arg3 f3) (arg6.view.read (Elt Ideal) f6) (fe k1) (rw256 k.val k.isLt j)) 3 := by
  rw [pay47_apply, pay14_apply, tile_row, w_all]

include hn in
theorem e16v_4 (d : Fin 32) (j : Fin 256) : k0_pay48 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val))) (ix3 0 d j) = if (rw256 k.val k.isLt j).val < v1.toNat then (Vv v22 v24 (Xv arg3 f3) (arg6.view.read (Elt Ideal) f6) (fe k1) (rw256 k.val k.isLt j)) (hd 4 d) else 0 := by
  rw [pay48_apply, e33 arg3 arg6 f3 f6 v1 hn]

include hn in
theorem e16u_4 (d : Fin 16) (j : Fin 256) : k0_pay49 (F := Ideal) (k0_pay34 (F := Ideal) (k0_pay30 (F := Ideal) v1 (Scf.iv 0#32 1#32 k.val))) (ix3 0 d j) = if (rw256 k.val k.isLt j).val < v1.toNat then (1 : EReal) else 0 := by
  rw [pay49_apply, pay34_apply]; simp only [liv_iff v1 hn]

theorem e18_4 (j : Fin 256) (l : Fin 128) : k0_pay50 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 4 := by
  rw [pay50_apply, pay14_apply, tile_row, w_all]

include hn in
theorem e16v_5 (d : Fin 32) (j : Fin 256) : k0_pay51 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val))) (ix3 0 d j) = if (rw256 k.val k.isLt j).val < v1.toNat then (Vv v22 v24 (Xv arg3 f3) (arg6.view.read (Elt Ideal) f6) (fe k1) (rw256 k.val k.isLt j)) (hd 5 d) else 0 := by
  rw [pay51_apply, e33 arg3 arg6 f3 f6 v1 hn]

include hn in
theorem e16u_5 (d : Fin 16) (j : Fin 256) : k0_pay52 (F := Ideal) (k0_pay34 (F := Ideal) (k0_pay30 (F := Ideal) v1 (Scf.iv 0#32 1#32 k.val))) (ix3 0 d j) = if (rw256 k.val k.isLt j).val < v1.toNat then (1 : EReal) else 0 := by
  rw [pay52_apply, pay34_apply]; simp only [liv_iff v1 hn]

theorem e18_5 (j : Fin 256) (l : Fin 128) : k0_pay53 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 5 := by
  rw [pay53_apply, pay14_apply, tile_row, w_all]

include hn in
theorem e16v_6 (d : Fin 32) (j : Fin 256) : k0_pay71 (F := Ideal) (k0_pay54 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val)))) (ix3 0 d j) = if (rw256 k.val k.isLt j).val < v1.toNat then (Vv v22 v24 (Xv arg3 f3) (arg6.view.read (Elt Ideal) f6) (fe k1) (rw256 k.val k.isLt j)) (hd 6 d) else 0 := by
  rw [pay71_apply, e33 arg3 arg6 f3 f6 v1 hn]

include hn in
theorem e16u_6 (d : Fin 16) (j : Fin 256) : k0_pay72 (F := Ideal) (k0_pay34 (F := Ideal) (k0_pay30 (F := Ideal) v1 (Scf.iv 0#32 1#32 k.val))) (ix3 0 d j) = if (rw256 k.val k.isLt j).val < v1.toNat then (1 : EReal) else 0 := by
  rw [pay72_apply, pay34_apply]; simp only [liv_iff v1 hn]

theorem e18_6 (j : Fin 256) (l : Fin 128) : k0_pay73 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 6 := by
  rw [pay73_apply, pay14_apply, tile_row, w_all]

include hn in
theorem e16v_7 (d : Fin 32) (j : Fin 256) : k0_pay74 (F := Ideal) (k0_pay33 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay30 (F := Ideal) v1 (Scf.iv 0#32 1#32 k.val))) (ix3 0 d j) = if (rw256 k.val k.isLt j).val < v1.toNat then (Vv v22 v24 (Xv arg3 f3) (arg6.view.read (Elt Ideal) f6) (fe k1) (rw256 k.val k.isLt j)) (hd 7 d) else 0 := by
  rw [pay74_apply, e33 arg3 arg6 f3 f6 v1 hn]

include hn in
theorem e16u_7 (d : Fin 16) (j : Fin 256) : k0_pay75 (F := Ideal) (k0_pay34 (F := Ideal) (k0_pay30 (F := Ideal) v1 (Scf.iv 0#32 1#32 k.val))) (ix3 0 d j) = if (rw256 k.val k.isLt j).val < v1.toNat then (1 : EReal) else 0 := by
  rw [pay75_apply, pay34_apply]; simp only [liv_iff v1 hn]

theorem e18_7 (j : Fin 256) (l : Fin 128) : k0_pay76 (F := Ideal) (k0_pay14 (F := Ideal) (k0_pay4 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6))) (ix3 0 j l) = sc (Kv v22 v24 (Xv arg3 f3) (arg6.view.read (Elt Ideal) f6) (fe k1) (rw256 k.val k.isLt j)) 7 := by
  rw [pay76_apply, pay14_apply, tile_row, w_all]

theorem e17 (r : Fin 8) (j : Fin 256) : k0_pay21 (F := Ideal) (k0_pay10 (F := Ideal) (k0_pay7 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (k0_pay8 (F := Ideal) v22 v24 (arg3.view.readAt (Elt Ideal) (Rect.unit (s := S1x2x1024x256) (k0_off2 k1 k) S1x1x256x256.size (k0_off2_inb k1 k)).toLoadRect f3) (arg6.view.readAt (Elt Ideal) (Rect.unit (s := S768x256) ![0, 0] S768x256.size inb_S768x256_S768x256_0_0).toLoadRect f6)) (Scalar.ofBits .f32 0x3F800000#32)) (ix2 r j) = sc (Qv v22 v24 (Xv arg3 f3) (arg6.view.read (Elt Ideal) f6) (fe k1) (rw256 k.val k.isLt j)) r * kap := by
  rw [pay21_apply, pay10_apply _ _ _ _ _ one_cst, tile_row, w_all]

end
end Cert.Proof.KernelIdeal
end
-- ==== Proof.PrepTrip.lean ====
/-
  The conditionals of the row-attention body as triples over any contents: whichever way a condition
  goes, the buffers its loop touches are handed back at some contents.
-/
module

public import proofs.«01_k».proof.Proof.Gen.KernelIdeal.Frame
public import proofs.«01_k».proof.Proof.Gen.KernelIdeal.Skeleton
public import proofs.«01_k».proof.Proof.PrepWord
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec

theorem trip_t2 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt Ideal .i32) (v20 : BitVec 32) (v22 : FVec Ideal S1x256 .f32) (v24 : FVec Ideal S1x256 .f32) (k1 : Fin k0_t1_loop.trips) (arg24 : BitVec 32) (f3 : BufTy.Contents (Elt Ideal) arg3.view.ty) (f6 : BufTy.Contents (Elt Ideal) arg6.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (k : Fin k0_t2_loop.trips)
    (hn : v1.toNat < 2 ^ 31)
    (h10 : B4 (fun p r s => arg10.view.read (Elt Ideal) f10 (ix4 0 p r s)) (fun p s r => cd ((Qv v22 v24 (Xv arg3 f3) (arg6.view.read (Elt Ideal) f6)) p s) r) k1.val k.val)
    (h11 : B4 (fun p r s => arg11.view.read (Elt Ideal) f11 (ix4 0 p r s)) (fun p s h => sc ((Qv v22 v24 (Xv arg3 f3) (arg6.view.read (Elt Ideal) f6)) p s) h) k1.val k.val)
    (h12 : B4 (fun p r s => arg12.view.read (Elt Ideal) f12 (ix4 0 p r s)) (fun p s r => cd ((Kv v22 v24 (Xv arg3 f3) (arg6.view.read (Elt Ideal) f6)) p s) r) k1.val k.val)
    (h13 : B4 (fun p r s => arg13.view.read (Elt Ideal) f13 (ix4 0 p r s)) (fun p s h => sc ((Kv v22 v24 (Xv arg3 f3) (arg6.view.read (Elt Ideal) f6)) p s) h) k1.val k.val)
    (h14 : P14 (fun h r s => arg14.view.read (Elt Ideal) f14 (ix3 h r s)) ((Qv v22 v24 (Xv arg3 f3) (arg6.view.read (Elt Ideal) f6)) (fe k1)) k.val)
    (h15 : P15 (fun r s => arg15.view.read (Elt Ideal) f15 (ix2 r s)) ((Kv v22 v24 (Xv arg3 f3) (arg6.view.read (Elt Ideal) f6)) (fe k1)) v1.toNat k.val)
    (h16 : P16 (fun h r s => arg16.view.read (Elt Ideal) f16 (ix3 h r s)) ((Vv v22 v24 (Xv arg3 f3) (arg6.view.read (Elt Ideal) f6)) (fe k1)) v1.toNat k.val)
    (h17 : P17 (fun r s => arg17.view.read (Elt Ideal) f17 (ix2 r s)) ((Qv v22 v24 (Xv arg3 f3) (arg6.view.read (Elt Ideal) f6)) (fe k1)) k.val)
    (h18 : P18 (fun h r s => arg18.view.read (Elt Ideal) f18 (ix3 h r s)) ((Kv v22 v24 (Xv arg3 f3) (arg6.view.read (Elt Ideal) f6)) (fe k1)) k.val) :
    (iprop((arg3.view.loc (c : Thread nD τ) ↦[arg3.view.set]{fullShare} f3) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)) : sProp 𝕄) ⊢ wp frame (wpE (defs₀ (F := Ideal)) 𝒱₁ (c : Thread nD τ) none) Set.univ (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 0#32 1#32 k1 arg24 k PUnit.unit)
     (fun _ => iprop((arg3.view.loc (c : Thread nD τ) ↦[arg3.view.set]{fullShare} f3) ∗ (arg6.view.loc (c : Thread nD τ) ↦[arg6.view.set]{fullShare} f6) ∗ (∃ g10, (arg10.view.loc (c : Thread nD τ) ↦[arg10.view.set]{fullShare} g10) ∗ ⌜B4 (fun p r s => arg10.view.read (Elt Ideal) g10 (ix4 0 p r s)) (fun p s r => cd ((Qv v22 v24 (Xv arg3 f3) (arg6.view.read (Elt Ideal) f6)) p s) r) k1.val (k.val + 1)⌝) ∗ (∃ g11, (arg11.view.loc (c : Thread nD τ) ↦[arg11.view.set]{fullShare} g11) ∗ ⌜B4 (fun p r s => arg11.view.read (Elt Ideal) g11 (ix4 0 p r s)) (fun p s h => sc ((Qv v22 v24 (Xv arg3 f3) (arg6.view.read (Elt Ideal) f6)) p s) h) k1.val (k.val + 1)⌝) ∗ (∃ g12, (arg12.view.loc (c : Thread nD τ) ↦[arg12.view.set]{fullShare} g12) ∗ ⌜B4 (fun p r s => arg12.view.read (Elt Ideal) g12 (ix4 0 p r s)) (fun p s r => cd ((Kv v22 v24 (Xv arg3 f3) (arg6.view.read (Elt Ideal) f6)) p s) r) k1.val (k.val + 1)⌝) ∗ (∃ g13, (arg13.view.loc (c : Thread nD τ) ↦[arg13.view.set]{fullShare} g13) ∗ ⌜B4 (fun p r s => arg13.view.read (Elt Ideal) g13 (ix4 0 p r s)) (fun p s h => sc ((Kv v22 v24 (Xv arg3 f3) (arg6.view.read (Elt Ideal) f6)) p s) h) k1.val (k.val + 1)⌝) ∗ (∃ g14, (arg14.view.loc (c : Thread nD τ) ↦[arg14.view.set]{fullShare} g14) ∗ ⌜P14 (fun h r s => arg14.view.read (Elt Ideal) g14 (ix3 h r s)) ((Qv v22 v24 (Xv arg3 f3) (arg6.view.read (Elt Ideal) f6)) (fe k1)) (k.val + 1)⌝) ∗ (∃ g15, (arg15.view.loc (c : Thread nD τ) ↦[arg15.view.set]{fullShare} g15) ∗ ⌜P15 (fun r s => arg15.view.read (Elt Ideal) g15 (ix2 r s)) ((Kv v22 v24 (Xv arg3 f3) (arg6.view.read (Elt Ideal) f6)) (fe k1)) v1.toNat (k.val + 1)⌝) ∗ (∃ g16, (arg16.view.loc (c : Thread nD τ) ↦[arg16.view.set]{fullShare} g16) ∗ ⌜P16 (fun h r s => arg16.view.read (Elt Ideal) g16 (ix3 h r s)) ((Vv v22 v24 (Xv arg3 f3) (arg6.view.read (Elt Ideal) f6)) (fe k1)) v1.toNat (k.val + 1)⌝) ∗ (∃ g17, (arg17.view.loc (c : Thread nD τ) ↦[arg17.view.set]{fullShare} g17) ∗ ⌜P17 (fun r s => arg17.view.read (Elt Ideal) g17 (ix2 r s)) ((Qv v22 v24 (Xv arg3 f3) (arg6.view.read (Elt Ideal) f6)) (fe k1)) (k.val + 1)⌝) ∗ (∃ g18, (arg18.view.loc (c : Thread nD τ) ↦[arg18.view.set]{fullShare} g18) ∗ ⌜P18 (fun h r s => arg18.view.read (Elt Ideal) g18 (ix3 h r s)) ((Kv v22 v24 (Xv arg3 f3) (arg6.view.read (Elt Ideal) f6)) (fe k1)) (k.val + 1)⌝))) := by
  unfold k0_t2_body
  iintro ⟨H3, H6, H10, H11, H12, H13, H14, H15, H16, H17, H18⟩
  sl_exec
  sl_step
  isplitl [H3]; · iexact H3
  isplitl [H6]; · iexact H6
  isplitl [H10]
  · iexists _; isplitl [H10]; · iexact H10
    ipureintro
    exact step10 arg10.view f10 k1 k _ _ (e10 arg3 arg6 f3 f6 v22 v24 k1 k) h10
  isplitl [H11]
  · iexists _; isplitl [H11]; · iexact H11
    ipureintro
    exact step11 arg11.view f11 k1 k _ _ (e11 arg3 arg6 f3 f6 v22 v24 k1 k) h11
  isplitl [H12]
  · iexists _; isplitl [H12]; · iexact H12
    ipureintro
    exact step10 arg12.view f12 k1 k _ _ (e12 arg3 arg6 f3 f6 v22 v24 k1 k) h12
  isplitl [H13]
  · iexists _; isplitl [H13]; · iexact H13
    ipureintro
    exact step11 arg13.view f13 k1 k _ _ (e13 arg3 arg6 f3 f6 v22 v24 k1 k) h13
  isplitl [H14]
  · iexists _; isplitl [H14]; · iexact H14
    ipureintro
    exact step14 arg14.view f14 k _ _ _ _ _ _ _ _ _ (e14_7 arg3 arg6 f3 f6 v22 v24 k1 k) (e14_6 arg3 arg6 f3 f6 v22 v24 k1 k) (e14_5 arg3 arg6 f3 f6 v22 v24 k1 k) (e14_4 arg3 arg6 f3 f6 v22 v24 k1 k) (e14_3 arg3 arg6 f3 f6 v22 v24 k1 k) (e14_2 arg3 arg6 f3 f6 v22 v24 k1 k) (e14_1 arg3 arg6 f3 f6 v22 v24 k1 k) (e14_0 arg3 arg6 f3 f6 v22 v24 k1 k) h14
  isplitl [H15]
  · iexists _; isplitl [H15]; · iexact H15
    ipureintro
    exact step15 arg15.view f15 k _ _ _ (e15 arg3 arg6 f3 f6 v1 hn v22 v24 k1 k) h15
  isplitl [H16]
  · iexists _; isplitl [H16]; · iexact H16
    ipureintro
    exact step16 arg16.view f16 k _ _ _ _ _ _ _ _ _ _ _ _ _ _ _ _ _ _ (e16u_7 v1 hn k) (e16u_6 v1 hn k) (e16u_5 v1 hn k) (e16u_4 v1 hn k) (e16u_3 v1 hn k) (e16u_2 v1 hn k) (e16u_1 v1 hn k) (e16u_0 v1 hn k) (e16v_7 arg3 arg6 f3 f6 v1 hn v22 v24 k1 k) (e16v_6 arg3 arg6 f3 f6 v1 hn v22 v24 k1 k) (e16v_5 arg3 arg6 f3 f6 v1 hn v22 v24 k1 k) (e16v_4 arg3 arg6 f3 f6 v1 hn v22 v24 k1 k) (e16v_3 arg3 arg6 f3 f6 v1 hn v22 v24 k1 k) (e16v_2 arg3 arg6 f3 f6 v1 hn v22 v24 k1 k) (e16v_1 arg3 arg6 f3 f6 v1 hn v22 v24 k1 k) (e16v_0 arg3 arg6 f3 f6 v1 hn v22 v24 k1 k) h16
  isplitl [H17]
  · iexists _; isplitl [H17]; · iexact H17
    ipureintro
    exact step17 arg17.view f17 k _ _ (e17 arg3 arg6 f3 f6 v22 v24 k1 k) h17
  iexists _; isplitl [H18]; · iexact H18
  ipureintro
  exact step18 arg18.view f18 k _ _ _ _ _ _ _ _ _ (e18_7 arg3 arg6 f3 f6 v22 v24 k1 k) (e18_6 arg3 arg6 f3 f6 v22 v24 k1 k) (e18_5 arg3 arg6 f3 f6 v22 v24 k1 k) (e18_4 arg3 arg6 f3 f6 v22 v24 k1 k) (e18_3 arg3 arg6 f3 f6 v22 v24 k1 k) (e18_2 arg3 arg6 f3 f6 v22 v24 k1 k) (e18_1 arg3 arg6 f3 f6 v22 v24 k1 k) (e18_0 arg3 arg6 f3 f6 v22 v24 k1 k) h18

end Cert.Proof.KernelIdeal
end
-- ==== Proof.AttMath.lean ====
/-
  The arithmetic of one attention row over the extended reals: scores are always real numbers, so a
  common factor of the weights cancels, whether the weights are shifted by their maximum or not.
-/
module

public import Idealize.ShloMosaic.Lib.Pointwise
public import Idealize.ShloMosaic.Lib.IdealHost
public import proofs.«01_k».proof.Proof.Spec

@[expose] public section
noncomputable section
namespace Cert.Proof.Spec
open Idealize.ShloMosaic

theorem c448 : Ideal.ofBits .f32 1138753536#32 = ((448 : ℝ) : EReal) := by
  simp [Ideal.ofBits, Ideal.ieee, -EReal.coe_mul]; norm_num
theorem cn448 : Ideal.ofBits .f32 3286237184#32 = ((-448 : ℝ) : EReal) := by
  simp [Ideal.ofBits, Ideal.ieee, -EReal.coe_mul]; norm_num
theorem cbot : Ideal.ofBits .f32 4286578688#32 = (⊥ : EReal) := by
  simp [Ideal.ofBits, Ideal.ieee]

/-- A number clipped to a real interval is real. -/
theorem clip_real (a b : ℝ) (x : EReal) : ∃ r : ℝ, min (a : EReal) (max (b : EReal) x) = r := by
  induction x using EReal.rec with
  | bot => exact ⟨min a b, by rw [max_eq_left bot_le]; exact (EReal.coe_strictMono.monotone.map_min).symm⟩
  | top => exact ⟨a, by rw [max_eq_right le_top, min_eq_left le_top]⟩
  | coe x => exact ⟨min a (max b x), by
      rw [EReal.coe_strictMono.monotone.map_min, EReal.coe_strictMono.monotone.map_max]⟩

theorem cd_real (V : Fin 256 → EReal) (r : Fin 256) : ∃ x : ℝ, cd V r = x := by
  unfold cd; rw [c448, cn448]; exact clip_real _ _ _

theorem headOf_hd (h : Fin 8) (d : Fin 32) : headOf (hd h d) = h :=
  Fin.ext (by show (h.val * 32 + d.val) / 32 = h.val; omega)
theorem chanOf_hd (h : Fin 8) (d : Fin 32) : chanOf (hd h d) = d :=
  Fin.ext (by show (h.val * 32 + d.val) % 32 = d.val; omega)
theorem hd_headOf (r : Fin 256) : hd (headOf r) (chanOf r) = r :=
  Fin.ext (by show r.val / 32 * 32 + r.val % 32 = r.val; omega)

/-- A head's scale is real, or it is infinite and every code of the head is zero. -/
theorem quant_cases (V : Fin 256 → EReal) (h : Fin 8) :
    (∃ s : ℝ, sc V h = s) ∨ ∀ d, cd V (hd h d) = 0 := by
  have key : ∀ e : EReal, ex V h = e → (∃ s : ℝ, sc V h = s) ∨ ∀ d, cd V (hd h d) = 0 := by
    intro e
    induction e using EReal.rec with
    | bot => intro he; exact .inl ⟨0, by unfold sc; rw [he]; rfl⟩
    | coe e => intro he; exact .inl ⟨Real.rpow 2 e, by unfold sc; rw [he]; rfl⟩
    | top =>
      intro he
      refine .inr fun d => ?_
      unfold cd
      rw [headOf_hd, he, show (0 - ⊤ : EReal) = ⊥ from by simp,
        show Ideal.exp2 ⊥ = 0 from rfl, mul_zero, c448, cn448]
      rw [← EReal.coe_zero, ← EReal.coe_strictMono.monotone.map_max, ← EReal.coe_strictMono.monotone.map_min]
      norm_num
  exact key _ rfl

/-- The reference's score, in base e. -/
def Sr (Q K : Fin 1024 → Fin 256 → EReal) (h : Fin 8) (i j : Fin 1024) : EReal :=
  (∑ d : Fin 32, cd (Q i) (hd h d) * cd (K j) (hd h d)) *
    (sc (Q i) h * Ideal.div (sc (K j) h) (Ideal.sqrt ((32 : ℝ) : EReal)))

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Both scores are real, and the kernel's is the reference's over the natural logarithm of two. -/
theorem scores_real (Q K : Fin 1024 → Fin 256 → EReal) (h : Fin 8) (i j : Fin 1024) :
    ∃ r : ℝ, Sr Q K h i j = r ∧ S Q K h i j = ((r * (Real.log 2)⁻¹ : ℝ) : EReal) := by
  have hsum : ∑ d : Fin 32, cd (K j) (hd h d) * cd (Q i) (hd h d) = ∑ d : Fin 32, cd (Q i) (hd h d) * cd (K j) (hd h d) :=
    Finset.sum_congr rfl fun d _ => mul_comm _ _
  by_cases hz : ∑ d : Fin 32, cd (Q i) (hd h d) * cd (K j) (hd h d) = 0
  · refine ⟨0, ?_, ?_⟩
    · unfold Sr; rw [hz, zero_mul]; rfl
    · unfold S; rw [hsum, hz, zero_mul, zero_mul, zero_mul]; rfl
  · obtain ⟨a, ha⟩ : ∃ a : ℝ, sc (Q i) h = a := (quant_cases (Q i) h).resolve_right fun h0 =>
      hz (Finset.sum_eq_zero fun d _ => by rw [h0, zero_mul])
    obtain ⟨b, hb⟩ : ∃ b : ℝ, sc (K j) h = b := (quant_cases (K j) h).resolve_right fun h0 =>
      hz (Finset.sum_eq_zero fun d _ => by rw [h0, mul_zero])
    choose q hq using fun d : Fin 32 => cd_real (Q i) (hd h d)
    choose k hk using fun d : Fin 32 => cd_real (K j) (hd h d)
    have hs : ∑ d : Fin 32, cd (Q i) (hd h d) * cd (K j) (hd h d) = ((∑ d, q d * k d : ℝ) : EReal) := by
      rw [coe_sum]; exact Finset.sum_congr rfl fun d _ => by rw [hq, hk, EReal.coe_mul]
    have h32 : (Real.sqrt 32) ≠ 0 := by positivity
    have hdiv : Ideal.div (b : EReal) (Ideal.sqrt ((32 : ℝ) : EReal)) = ((b * (Real.sqrt 32)⁻¹ : ℝ) : EReal) := by
      show Ideal.div (b : EReal) (if (32 : ℝ) < 0 then ⊥ else (Real.sqrt 32 : EReal)) = _
      rw [if_neg (by norm_num), Ideal.div, if_neg (by exact_mod_cast h32), ← EReal.coe_inv, EReal.coe_mul]
    refine ⟨(∑ d, q d * k d) * (a * (b * (Real.sqrt 32)⁻¹)), ?_, ?_⟩
    · unfold Sr; rw [hs, ha, hb, hdiv]; simp only [EReal.coe_mul]
    · unfold S kap; rw [hsum, hs, ha, hb]; simp only [← EReal.coe_mul]
      congr 1; rw [mul_inv]; ring

/-- A contraction over all rows, against rows that are zero outside head `h`, is one over the head's channels. -/
theorem contract_head (A : Fin 256 → EReal) (B : Fin 256 → EReal) (h : Fin 8) :
    (∑ r : Fin 256, A r * (if headOf r = h then B r else 0)) = ∑ d : Fin 32, A (hd h d) * B (hd h d) := by
  rw [← Finset.sum_subset (Finset.subset_univ (Finset.univ.image (hd h))) ?_, Finset.sum_image ?_]
  · exact Finset.sum_congr rfl fun d _ => by rw [if_pos (headOf_hd h d)]
  · intro a _ b _ hab
    have := congrArg chanOf hab
    rwa [chanOf_hd, chanOf_hd] at this
  · intro r _ hr
    rw [if_neg, mul_zero]
    intro hh
    exact hr (Finset.mem_image.mpr ⟨chanOf r, Finset.mem_univ _, by rw [← hh, hd_headOf]⟩)

/-- A sum over rows is one over heads and channels. -/
theorem sum_heads (f : Fin 256 → EReal) : ∑ r : Fin 256, f r = ∑ h : Fin 8, ∑ d : Fin 32, f (hd h d) := by
  rw [← Finset.sum_product', Finset.sum_bij' (fun r _ => (headOf r, chanOf r)) (fun p _ => hd p.1 p.2)]
  · intro _ _; exact Finset.mem_univ _
  · intro _ _; exact Finset.mem_univ _
  · intro r _; exact hd_headOf r
  · rintro ⟨a, b⟩ _; exact Prod.ext (headOf_hd a b) (chanOf_hd a b)
  · intro r _; rw [hd_headOf]

/-- A sum over the first `m` keys that is zero past `n` is the sum over the live keys of all. -/
theorem sum_live (m n : ℕ) (hm : m ≤ 1024) (hn : n ≤ m) (f : Fin m → EReal) (g : Fin 1024 → EReal)
    (hf : ∀ t : Fin m, f t = if t.val < n then g ⟨t.val, by omega⟩ else 0) :
    ∑ t, f t = ∑ j : Fin 1024, if j.val < n then g j else 0 := by
  let G : ℕ → EReal := fun t => if h : t < 1024 then (if t < n then g ⟨t, h⟩ else 0) else 0
  have h1 : ∑ t, f t = ∑ t ∈ Finset.range m, G t := by
    rw [Finset.sum_range]
    exact Finset.sum_congr rfl fun t _ => by
      rw [hf]; show _ = dite (t.val < 1024) _ _; rw [dif_pos (show t.val < 1024 by omega)]
  have h2 : (∑ j : Fin 1024, if j.val < n then g j else 0) = ∑ t ∈ Finset.range 1024, G t := by
    rw [Finset.sum_range]
    exact Finset.sum_congr rfl fun t _ => by
      show _ = dite (t.val < 1024) _ _; rw [dif_pos t.isLt]
  rw [h1, h2]
  refine Finset.sum_subset (Finset.range_subset_range.mpr hm) fun t _ ht => ?_
  have : ¬ t < n := fun h => ht (Finset.mem_range.mpr (by omega))
  show (if h : t < 1024 then _ else _) = _
  split
  · first | rfl | rw [if_neg this]
  · rfl

/-- A real factor distributes over a sum. -/
theorem sum_mul_real {ι : Type} (s : Finset ι) (f : ι → EReal) (c : ℝ) (hc : 0 ≤ c) :
    (∑ i ∈ s, f i) * (c : EReal) = ∑ i ∈ s, f i * (c : EReal) := by
  induction s using Finset.cons_induction with
  | empty => simp
  | cons a s ha ih =>
    rw [Finset.sum_cons, Finset.sum_cons, ← ih]
    exact EReal.right_distrib_of_nonneg_of_ne_top (by exact_mod_cast hc) (EReal.coe_ne_top c) _ _

theorem exp2_real (r : ℝ) : Ideal.exp2 (r : EReal) = ((Real.rpow 2 r : ℝ) : EReal) := rfl

/-- The sum of the weights is real and positive. -/
theorem T_real (n : ℕ) (hn : 1 ≤ n) (Q K : Fin 1024 → Fin 256 → EReal) (h : Fin 8) (i : Fin 1024) :
    ∃ t : ℝ, 0 < t ∧ T n Q K h i = t := by
  choose r _ hr using fun j => scores_real Q K h i j
  refine ⟨∑ j : Fin 1024, if j.val < n then Real.rpow 2 (r j * (Real.log 2)⁻¹) else 0, ?_, ?_⟩
  · refine Finset.sum_pos' (fun j _ => ?_) ⟨0, Finset.mem_univ _, ?_⟩
    · split
      · exact (Real.rpow_pos_of_pos two_pos _).le
      · exact le_rfl
    · rw [if_pos (by show 0 < n; omega)]; exact Real.rpow_pos_of_pos two_pos _
  · unfold T; rw [coe_sum]
    exact Finset.sum_congr rfl fun j _ => by
      split
      · rw [hr]; rfl
      · rfl

/-- Multiplying every weight by one positive real leaves the weighted mean. -/
theorem div_common (X : EReal) (t c : ℝ) (ht : 0 < t) (hc : 0 < c) :
    Ideal.div (X * c) ((t : EReal) * c) = Ideal.div X (t : EReal) := by
  rw [← EReal.coe_mul, Ideal.div, Ideal.div, if_neg (by exact_mod_cast (mul_pos ht hc).ne'),
    if_neg (by exact_mod_cast ht.ne'), ← EReal.coe_inv, ← EReal.coe_inv, mul_assoc, ← EReal.coe_mul]
  congr 2; field_simp

/-- The largest of the live scores is real. -/
theorem fold_max_real {ι : Type} [Fintype ι] (p : ι → Prop) [DecidablePred p] (f : ι → ℝ) (i0 : ι) (h0 : p i0) :
    ∃ M : ℝ, Finset.fold max (⊥ : EReal) (fun i => if p i then (f i : EReal) else ⊥) Finset.univ = M := by
  have h : Finset.fold max (⊥ : EReal) (fun i => if p i then (f i : EReal) else ⊥) Finset.univ
      = Finset.univ.sup (fun i => if p i then (f i : EReal) else ⊥) := rfl
  rw [h]
  have hlt : Finset.univ.sup (fun i => if p i then (f i : EReal) else ⊥) ≠ ⊤ := by
    refine ne_of_lt ((Finset.sup_lt_iff (by exact bot_lt_top)).mpr fun i _ => ?_)
    split
    · exact EReal.coe_lt_top _
    · exact bot_lt_top
  have hgt : Finset.univ.sup (fun i => if p i then (f i : EReal) else ⊥) ≠ ⊥ := by
    intro hb
    have := Finset.le_sup (f := fun i => if p i then (f i : EReal) else ⊥) (Finset.mem_univ i0)
    rw [hb] at this
    simp only [h0, if_true] at this
    exact absurd (le_bot_iff.mp this) (EReal.coe_ne_bot _)
  exact ⟨_, (EReal.coe_toReal hlt hgt).symm⟩

/-- One row of the kernel's attention, weights unshifted, over the first `m` keys. -/
theorem att_row (m n : ℕ) (hm : m ≤ 1024) (hn : n ≤ m) (Q K V : Fin 1024 → Fin 256 → EReal) (h : Fin 8) (d : Fin 32) (i : Fin 1024)
    (A : Fin m → Fin 256 → EReal) (hA : ∀ t r, A t r = if t.val < n then cd (K ⟨t.val, by omega⟩) r else 0)
    (B : Fin 256 → EReal) (hB : ∀ r, B r = if headOf r = h then cd (Q i) r else 0)
    (C : Fin m → EReal) (hC : ∀ t, C t = sc (K ⟨t.val, by omega⟩) h) (q : EReal) (hq : q = sc (Q i) h * kap)
    (v : Fin m → EReal) (hv : ∀ t, v t = if t.val < n then V ⟨t.val, by omega⟩ (hd h d) else 0)
    (u : Fin m → EReal) (hu : ∀ t, u t = if t.val < n then 1 else 0) :
    Ideal.div (∑ t, v t * Ideal.exp2 ((∑ r, A t r * B r) * C t * q)) (∑ t, u t * Ideal.exp2 ((∑ r, A t r * B r) * C t * q))
      = O n Q K V h d i := by
  have hs : ∀ t : Fin m, t.val < n → (∑ r, A t r * B r) * C t * q = S Q K h i ⟨t.val, by omega⟩ := by
    intro t ht
    unfold S
    rw [hC, hq, ← contract_head]
    refine congrArg (fun x => x * _ * _) (Finset.sum_congr rfl fun r _ => ?_)
    rw [hA, hB, if_pos ht]
  unfold O T
  rw [sum_live m n hm hn _ (fun j => V j (hd h d) * Ideal.exp2 (S Q K h i j)),
    sum_live m n hm hn _ (fun j => Ideal.exp2 (S Q K h i j))]
  · intro t; rw [hu]; split
    · rename_i ht; rw [hs t ht, one_mul]
    · rw [zero_mul]
  · intro t; rw [hv]; split
    · rename_i ht; rw [hs t ht]
    · rw [zero_mul]

/-- The same with the weights shifted by the largest live score. -/
theorem att_row_shifted (m n : ℕ) (hm : m ≤ 1024) (hn : n ≤ m) (hn1 : 1 ≤ n) (Q K V : Fin 1024 → Fin 256 → EReal) (h : Fin 8) (d : Fin 32) (i : Fin 1024)
    (A : Fin m → Fin 256 → EReal) (hA : ∀ t r, A t r = if t.val < n then cd (K ⟨t.val, by omega⟩) r else 0)
    (B : Fin 256 → EReal) (hB : ∀ r, B r = if headOf r = h then cd (Q i) r else 0)
    (C : Fin m → EReal) (hC : ∀ t, C t = sc (K ⟨t.val, by omega⟩) h) (q : EReal) (hq : q = sc (Q i) h * kap)
    (v : Fin m → EReal) (hv : ∀ t, v t = if t.val < n then V ⟨t.val, by omega⟩ (hd h d) else 0)
    (u : Fin m → EReal) (hu : ∀ t, u t = if t.val < n then 1 else 0)
    (x : Fin m → EReal) (hx : ∀ t, x t = (∑ r, A t r * B r) * C t * q)
    (M : EReal) (hM : M = Finset.fold max (⊥ : EReal) (fun t : Fin m => if t.val < n then x t else ⊥) Finset.univ)
    (w : Fin m → EReal) (hw : ∀ t, w t = Ideal.exp2 (if t.val < n then x t - M else 0)) :
    Ideal.div (∑ t, v t * w t) (∑ t, u t * w t) = O n Q K V h d i := by
  have hs : ∀ t : Fin m, t.val < n → x t = S Q K h i ⟨t.val, by omega⟩ := by
    intro t ht
    unfold S
    rw [hx, hC, hq, ← contract_head]
    refine congrArg (fun x => x * _ * _) (Finset.sum_congr rfl fun r _ => ?_)
    rw [hA, hB, if_pos ht]
  choose r _ hr using fun j => scores_real Q K h i j
  obtain ⟨M', hM'⟩ : ∃ M' : ℝ, M = M' := by
    obtain ⟨M', h'⟩ := fold_max_real (fun t : Fin m => t.val < n) (fun t => r ⟨t.val, by omega⟩ * (Real.log 2)⁻¹) ⟨0, by omega⟩ (by show 0 < n; omega)
    refine ⟨M', ?_⟩
    rw [hM, ← h']
    refine congrArg (fun f => Finset.fold max (⊥ : EReal) f Finset.univ) (funext fun t => ?_)
    split
    · rename_i ht; rw [hs t ht, hr]
    · rfl
  have hc : 0 < Real.rpow 2 (-M') := Real.rpow_pos_of_pos two_pos _
  have hwt : ∀ t : Fin m, t.val < n → w t = Ideal.exp2 (S Q K h i ⟨t.val, by omega⟩) * ((Real.rpow 2 (-M') : ℝ) : EReal) := by
    intro t ht
    rw [hw, if_pos ht, hs t ht, hM', hr, ← EReal.coe_sub, exp2_real, exp2_real, ← EReal.coe_mul]
    congr 1
    exact (congrArg _ (sub_eq_add_neg _ _)).trans (Real.rpow_add two_pos _ _)
  obtain ⟨t0, ht0, hT⟩ := T_real n hn1 Q K h i
  unfold O
  rw [hT, ← div_common _ t0 _ ht0 hc, ← hT]
  unfold T
  rw [sum_mul_real _ _ _ hc.le, sum_mul_real _ _ _ hc.le]
  simp only [ite_mul, zero_mul]
  rw [sum_live m n hm hn _ (fun j => V j (hd h d) * Ideal.exp2 (S Q K h i j) * ((Real.rpow 2 (-M') : ℝ) : EReal)),
    sum_live m n hm hn _ (fun j => Ideal.exp2 (S Q K h i j) * ((Real.rpow 2 (-M') : ℝ) : EReal))]
  · intro t; rw [hu]; split
    · rename_i ht; rw [hwt t ht, one_mul]
    · rw [zero_mul]
  · intro t; rw [hv]; split
    · rename_i ht; rw [hwt t ht, mul_assoc]
    · rw [zero_mul]

end Cert.Proof.Spec
end
-- ==== Proof.AttPay.lean ====
/-
  The attend payloads read at an index.
-/
module

public import proofs.«01_k».proof.Proof.Gen.KernelIdeal.Skeleton
public import proofs.«01_k».proof.Proof.Gen.KernelIdeal
public import proofs.«01_k».proof.Proof.AttMath
public import Idealize.ShloMosaic.Lib.Pointwise

@[expose] public section
set_option maxRecDepth 16384
noncomputable section
namespace Cert.Proof.KernelIdeal
open Cert.KernelIdeal Cert.KernelIdeal.Gen Cert.Proof.Spec
open Idealize.ShloMosaic

/-- The lane of a query in the replicated key scales. -/
abbrev lane (j : Fin 256) : Fin 128 := ⟨j.val % 128, by omega⟩

theorem pay55_apply (v159 : Vec Ideal S128x256 .fp8e4m3) (v162 : Vec Ideal S1x256x256 .fp8e4m3) (t : Fin 128) (j : Fin 256) :
    k0_pay55 (F := Ideal) v159 v162 (ix2 t j) = ∑ r : Fin 256, v159 (ix2 t r) * v162 (ix3 0 r j) := by
  pointwise [k0_pay55]

theorem pay56_apply (v166 : Vec Ideal S1x128x128 .f32) (t : Fin 128) (j : Fin 256) :
    k0_pay56 (F := Ideal) v166 (ix2 t j) = v166 (ix3 0 t (lane j)) := by
  pointwise [k0_pay56]
  split
  · exact congrArg v166 (congrArg (ix3 0 t) (Fin.ext (by show j.val = j.val % 128; omega)))
  · exact congrArg v166 (congrArg (ix3 0 t) (Fin.ext (by show j.val - 128 = j.val % 128; omega)))

theorem pay79_apply (v164 v168 : FVec Ideal S128x256 .f32) (v172 : Vec Ideal S1x256 .f32) (v178 : Vec Ideal S1x48x128 .bf16) (r : Fin 48) (j : Fin 256) :
    k0_pay79 (F := Ideal) v164 v168 v172 v178 (ix2 r j)
      = ∑ t : Fin 128, v178 (ix3 0 r t) * Ideal.exp2 (v164 (ix2 t j) * v168 (ix2 t j) * v172 (ix2 0 j)) := by
  pointwise [k0_pay79]
  rfl

theorem pay83_apply (v164 v168 : FVec Ideal S128x256 .f32) (v172 : Vec Ideal S1x256 .f32) (v178 : Vec Ideal S1x48x128 .bf16) (d : Fin 32) (j : Fin 256) :
    k0_pay83 (F := Ideal) v164 v168 v172 v178 (ix2 d j)
      = Ideal.div (k0_pay79 (F := Ideal) v164 v168 v172 v178 (ix2 ⟨d.val, by omega⟩ j)) (k0_pay79 (F := Ideal) v164 v168 v172 v178 (ix2 32 j)) := by
  pointwise [k0_pay83, k0_pay80]

theorem pay57_apply (v159 : Vec Ideal S256x256 .fp8e4m3) (v162 : Vec Ideal S1x256x256 .fp8e4m3) (t : Fin 256) (j : Fin 256) :
    k0_pay57 (F := Ideal) v159 v162 (ix2 t j) = ∑ r : Fin 256, v159 (ix2 t r) * v162 (ix3 0 r j) := by
  pointwise [k0_pay57]

theorem pay58_apply (v166 : Vec Ideal S1x256x128 .f32) (t : Fin 256) (j : Fin 256) :
    k0_pay58 (F := Ideal) v166 (ix2 t j) = v166 (ix3 0 t (lane j)) := by
  pointwise [k0_pay58]
  split
  · exact congrArg v166 (congrArg (ix3 0 t) (Fin.ext (by show j.val = j.val % 128; omega)))
  · exact congrArg v166 (congrArg (ix3 0 t) (Fin.ext (by show j.val - 128 = j.val % 128; omega)))

theorem pay84_apply (v164 v168 : FVec Ideal S256x256 .f32) (v172 : Vec Ideal S1x256 .f32) (v178 : Vec Ideal S1x48x256 .bf16) (r : Fin 48) (j : Fin 256) :
    k0_pay84 (F := Ideal) v164 v168 v172 v178 (ix2 r j)
      = ∑ t : Fin 256, v178 (ix3 0 r t) * Ideal.exp2 (v164 (ix2 t j) * v168 (ix2 t j) * v172 (ix2 0 j)) := by
  pointwise [k0_pay84]
  rfl

theorem pay88_apply (v164 v168 : FVec Ideal S256x256 .f32) (v172 : Vec Ideal S1x256 .f32) (v178 : Vec Ideal S1x48x256 .bf16) (d : Fin 32) (j : Fin 256) :
    k0_pay88 (F := Ideal) v164 v168 v172 v178 (ix2 d j)
      = Ideal.div (k0_pay84 (F := Ideal) v164 v168 v172 v178 (ix2 ⟨d.val, by omega⟩ j)) (k0_pay84 (F := Ideal) v164 v168 v172 v178 (ix2 32 j)) := by
  pointwise [k0_pay88, k0_pay85]

theorem pay59_apply (v159 : Vec Ideal S384x256 .fp8e4m3) (v162 : Vec Ideal S1x256x256 .fp8e4m3) (t : Fin 384) (j : Fin 256) :
    k0_pay59 (F := Ideal) v159 v162 (ix2 t j) = ∑ r : Fin 256, v159 (ix2 t r) * v162 (ix3 0 r j) := by
  pointwise [k0_pay59]

theorem pay60_apply (v166 : Vec Ideal S1x384x128 .f32) (t : Fin 384) (j : Fin 256) :
    k0_pay60 (F := Ideal) v166 (ix2 t j) = v166 (ix3 0 t (lane j)) := by
  pointwise [k0_pay60]
  split
  · exact congrArg v166 (congrArg (ix3 0 t) (Fin.ext (by show j.val = j.val % 128; omega)))
  · exact congrArg v166 (congrArg (ix3 0 t) (Fin.ext (by show j.val - 128 = j.val % 128; omega)))

theorem pay89_apply (v164 v168 : FVec Ideal S384x256 .f32) (v172 : Vec Ideal S1x256 .f32) (v178 : Vec Ideal S1x48x384 .bf16) (r : Fin 48) (j : Fin 256) :
    k0_pay89 (F := Ideal) v164 v168 v172 v178 (ix2 r j)
      = ∑ t : Fin 384, v178 (ix3 0 r t) * Ideal.exp2 (v164 (ix2 t j) * v168 (ix2 t j) * v172 (ix2 0 j)) := by
  pointwise [k0_pay89]
  rfl

theorem pay93_apply (v164 v168 : FVec Ideal S384x256 .f32) (v172 : Vec Ideal S1x256 .f32) (v178 : Vec Ideal S1x48x384 .bf16) (d : Fin 32) (j : Fin 256) :
    k0_pay93 (F := Ideal) v164 v168 v172 v178 (ix2 d j)
      = Ideal.div (k0_pay89 (F := Ideal) v164 v168 v172 v178 (ix2 ⟨d.val, by omega⟩ j)) (k0_pay89 (F := Ideal) v164 v168 v172 v178 (ix2 32 j)) := by
  pointwise [k0_pay93, k0_pay90]

theorem pay61_apply (v159 : Vec Ideal S512x256 .fp8e4m3) (v162 : Vec Ideal S1x256x256 .fp8e4m3) (t : Fin 512) (j : Fin 256) :
    k0_pay61 (F := Ideal) v159 v162 (ix2 t j) = ∑ r : Fin 256, v159 (ix2 t r) * v162 (ix3 0 r j) := by
  pointwise [k0_pay61]

theorem pay62_apply (v166 : Vec Ideal S1x512x128 .f32) (t : Fin 512) (j : Fin 256) :
    k0_pay62 (F := Ideal) v166 (ix2 t j) = v166 (ix3 0 t (lane j)) := by
  pointwise [k0_pay62]
  split
  · exact congrArg v166 (congrArg (ix3 0 t) (Fin.ext (by show j.val = j.val % 128; omega)))
  · exact congrArg v166 (congrArg (ix3 0 t) (Fin.ext (by show j.val - 128 = j.val % 128; omega)))

theorem pay94_apply (v164 v168 : FVec Ideal S512x256 .f32) (v172 : Vec Ideal S1x256 .f32) (v178 : Vec Ideal S1x48x512 .bf16) (r : Fin 48) (j : Fin 256) :
    k0_pay94 (F := Ideal) v164 v168 v172 v178 (ix2 r j)
      = ∑ t : Fin 512, v178 (ix3 0 r t) * Ideal.exp2 (v164 (ix2 t j) * v168 (ix2 t j) * v172 (ix2 0 j)) := by
  pointwise [k0_pay94]
  rfl

theorem pay98_apply (v164 v168 : FVec Ideal S512x256 .f32) (v172 : Vec Ideal S1x256 .f32) (v178 : Vec Ideal S1x48x512 .bf16) (d : Fin 32) (j : Fin 256) :
    k0_pay98 (F := Ideal) v164 v168 v172 v178 (ix2 d j)
      = Ideal.div (k0_pay94 (F := Ideal) v164 v168 v172 v178 (ix2 ⟨d.val, by omega⟩ j)) (k0_pay94 (F := Ideal) v164 v168 v172 v178 (ix2 32 j)) := by
  pointwise [k0_pay98, k0_pay95]

theorem pay63_apply (v159 : Vec Ideal S640x256 .fp8e4m3) (v162 : Vec Ideal S1x256x256 .fp8e4m3) (t : Fin 640) (j : Fin 256) :
    k0_pay63 (F := Ideal) v159 v162 (ix2 t j) = ∑ r : Fin 256, v159 (ix2 t r) * v162 (ix3 0 r j) := by
  pointwise [k0_pay63]

theorem pay64_apply (v166 : Vec Ideal S1x640x128 .f32) (t : Fin 640) (j : Fin 256) :
    k0_pay64 (F := Ideal) v166 (ix2 t j) = v166 (ix3 0 t (lane j)) := by
  pointwise [k0_pay64]
  split
  · exact congrArg v166 (congrArg (ix3 0 t) (Fin.ext (by show j.val = j.val % 128; omega)))
  · exact congrArg v166 (congrArg (ix3 0 t) (Fin.ext (by show j.val - 128 = j.val % 128; omega)))

theorem pay99_apply (v164 v168 : FVec Ideal S640x256 .f32) (v172 : Vec Ideal S1x256 .f32) (v178 : Vec Ideal S1x48x640 .bf16) (r : Fin 48) (j : Fin 256) :
    k0_pay99 (F := Ideal) v164 v168 v172 v178 (ix2 r j)
      = ∑ t : Fin 640, v178 (ix3 0 r t) * Ideal.exp2 (v164 (ix2 t j) * v168 (ix2 t j) * v172 (ix2 0 j)) := by
  pointwise [k0_pay99]
  rfl

theorem pay103_apply (v164 v168 : FVec Ideal S640x256 .f32) (v172 : Vec Ideal S1x256 .f32) (v178 : Vec Ideal S1x48x640 .bf16) (d : Fin 32) (j : Fin 256) :
    k0_pay103 (F := Ideal) v164 v168 v172 v178 (ix2 d j)
      = Ideal.div (k0_pay99 (F := Ideal) v164 v168 v172 v178 (ix2 ⟨d.val, by omega⟩ j)) (k0_pay99 (F := Ideal) v164 v168 v172 v178 (ix2 32 j)) := by
  pointwise [k0_pay103, k0_pay100]

theorem pay65_apply (v159 : Vec Ideal S768x256 .fp8e4m3) (v162 : Vec Ideal S1x256x256 .fp8e4m3) (t : Fin 768) (j : Fin 256) :
    k0_pay65 (F := Ideal) v159 v162 (ix2 t j) = ∑ r : Fin 256, v159 (ix2 t r) * v162 (ix3 0 r j) := by
  pointwise [k0_pay65]

theorem pay66_apply (v166 : Vec Ideal S1x768x128 .f32) (t : Fin 768) (j : Fin 256) :
    k0_pay66 (F := Ideal) v166 (ix2 t j) = v166 (ix3 0 t (lane j)) := by
  pointwise [k0_pay66]
  split
  · exact congrArg v166 (congrArg (ix3 0 t) (Fin.ext (by show j.val = j.val % 128; omega)))
  · exact congrArg v166 (congrArg (ix3 0 t) (Fin.ext (by show j.val - 128 = j.val % 128; omega)))

theorem pay110_apply (v164 v168 : FVec Ideal S768x256 .f32) (v172 : Vec Ideal S1x256 .f32) (v178 : Vec Ideal S1x48x768 .bf16) (r : Fin 48) (j : Fin 256) :
    k0_pay110 (F := Ideal) v164 v168 v172 v178 (ix2 r j)
      = ∑ t : Fin 768, v178 (ix3 0 r t) * Ideal.exp2 (v164 (ix2 t j) * v168 (ix2 t j) * v172 (ix2 0 j)) := by
  pointwise [k0_pay110]
  rfl

theorem pay114_apply (v164 v168 : FVec Ideal S768x256 .f32) (v172 : Vec Ideal S1x256 .f32) (v178 : Vec Ideal S1x48x768 .bf16) (d : Fin 32) (j : Fin 256) :
    k0_pay114 (F := Ideal) v164 v168 v172 v178 (ix2 d j)
      = Ideal.div (k0_pay110 (F := Ideal) v164 v168 v172 v178 (ix2 ⟨d.val, by omega⟩ j)) (k0_pay110 (F := Ideal) v164 v168 v172 v178 (ix2 32 j)) := by
  pointwise [k0_pay114, k0_pay111]

theorem pay67_apply (v159 : Vec Ideal S896x256 .fp8e4m3) (v162 : Vec Ideal S1x256x256 .fp8e4m3) (t : Fin 896) (j : Fin 256) :
    k0_pay67 (F := Ideal) v159 v162 (ix2 t j) = ∑ r : Fin 256, v159 (ix2 t r) * v162 (ix3 0 r j) := by
  pointwise [k0_pay67]

theorem pay68_apply (v166 : Vec Ideal S1x896x128 .f32) (t : Fin 896) (j : Fin 256) :
    k0_pay68 (F := Ideal) v166 (ix2 t j) = v166 (ix3 0 t (lane j)) := by
  pointwise [k0_pay68]
  split
  · exact congrArg v166 (congrArg (ix3 0 t) (Fin.ext (by show j.val = j.val % 128; omega)))
  · exact congrArg v166 (congrArg (ix3 0 t) (Fin.ext (by show j.val - 128 = j.val % 128; omega)))

theorem pay115_apply (v164 v168 : FVec Ideal S896x256 .f32) (v172 : Vec Ideal S1x256 .f32) (v178 : Vec Ideal S1x48x896 .bf16) (r : Fin 48) (j : Fin 256) :
    k0_pay115 (F := Ideal) v164 v168 v172 v178 (ix2 r j)
      = ∑ t : Fin 896, v178 (ix3 0 r t) * Ideal.exp2 (v164 (ix2 t j) * v168 (ix2 t j) * v172 (ix2 0 j)) := by
  pointwise [k0_pay115]
  rfl

theorem pay119_apply (v164 v168 : FVec Ideal S896x256 .f32) (v172 : Vec Ideal S1x256 .f32) (v178 : Vec Ideal S1x48x896 .bf16) (d : Fin 32) (j : Fin 256) :
    k0_pay119 (F := Ideal) v164 v168 v172 v178 (ix2 d j)
      = Ideal.div (k0_pay115 (F := Ideal) v164 v168 v172 v178 (ix2 ⟨d.val, by omega⟩ j)) (k0_pay115 (F := Ideal) v164 v168 v172 v178 (ix2 32 j)) := by
  pointwise [k0_pay119, k0_pay116]

theorem pay69_apply (v159 : Vec Ideal S896x256 .fp8e4m3) (v162 : Vec Ideal S1x256x256 .fp8e4m3) (t : Fin 896) (j : Fin 256) :
    k0_pay69 (F := Ideal) v159 v162 (ix2 t j) = ∑ r : Fin 256, v159 (ix2 t r) * v162 (ix3 0 r j) := by
  pointwise [k0_pay69]

theorem pay70_apply (v166 : Vec Ideal S1x896x128 .f32) (t : Fin 896) (j : Fin 256) :
    k0_pay70 (F := Ideal) v166 (ix2 t j) = v166 (ix3 0 t (lane j)) := by
  pointwise [k0_pay70]
  split
  · exact congrArg v166 (congrArg (ix3 0 t) (Fin.ext (by show j.val = j.val % 128; omega)))
  · exact congrArg v166 (congrArg (ix3 0 t) (Fin.ext (by show j.val - 128 = j.val % 128; omega)))

/-- The shifted score at a key: its difference from the largest live score, zero at dead keys. -/
abbrev top (v1 : Elt Ideal .i32) (x : Fin 896 → EReal) : EReal :=
  Finset.fold max (⊥ : EReal) (fun t : Fin 896 => if t.val < v1.toNat then x t else ⊥) Finset.univ

theorem slt_iff (v1 : BitVec 32) (hn : v1.toNat < 2 ^ 31) (t : Fin 896) : IntOp.cmpi .slt (BitVec.ofNat 32 t.val) v1 = 1#1 ↔ t.val < v1.toNat := by
  have e : (BitVec.ofNat 32 t.val).toNat = t.val := by simp; omega
  have e1 : (BitVec.ofNat 32 t.val).toInt = t.val := by rw [BitVec.toInt_eq_toNat_of_lt (by omega), e]
  have e2 : v1.toInt = v1.toNat := BitVec.toInt_eq_toNat_of_lt (by omega)
  unfold IntOp.cmpi
  simp only [BitVec.slt, e1, e2]
  by_cases h : t.val < v1.toNat <;> simp [h]

theorem sel_slt (v1 : BitVec 32) (hn : v1.toNat < 2 ^ 31) (t : Fin 896) (a b : EReal) :
    Scalar.select (IntOp.cmpi .slt (BitVec.ofNat 32 t.val) v1) a b = if t.val < v1.toNat then a else b := by
  unfold Scalar.select
  exact if_congr (slt_iff v1 hn t) rfl rfl

theorem pay122_apply (v1 : Elt Ideal .i32) (hn : v1.toNat < 2 ^ 31) (v164 v168 : FVec Ideal S896x256 .f32) (v172 : Vec Ideal S1x256 .f32) (v191 : Vec Ideal S1x48x896 .bf16) (d : Fin 32) (j : Fin 256) :
    k0_pay122 (F := Ideal) v1 v164 v168 v172 v191 (ix2 d j) =
      Ideal.div (∑ t : Fin 896, v191 (ix3 0 ⟨d.val, by omega⟩ t) * Ideal.exp2 (if t.val < v1.toNat then v164 (ix2 t j) * v168 (ix2 t j) * v172 (ix2 0 j) - top v1 (fun t => v164 (ix2 t j) * v168 (ix2 t j) * v172 (ix2 0 j)) else 0))
        (∑ t : Fin 896, v191 (ix3 0 32 t) * Ideal.exp2 (if t.val < v1.toNat then v164 (ix2 t j) * v168 (ix2 t j) * v172 (ix2 0 j) - top v1 (fun t => v164 (ix2 t j) * v168 (ix2 t j) * v172 (ix2 0 j)) else 0)) := by
  pointwise [k0_pay122]
  simp only [sel_slt v1 hn, cbot]
  rfl

end Cert.Proof.KernelIdeal
end
-- ==== Proof.AttWord.lean ====
/-
  What one item of an attend loop stores: a head's attention over a block of queries.
-/
module

public import proofs.«01_k».proof.Proof.PrepStep
public import proofs.«01_k».proof.Proof.AttPay

@[expose] public section
set_option maxRecDepth 16384
noncomputable section
namespace Cert.Proof.KernelIdeal
open Cert.KernelIdeal Cert.KernelIdeal.Gen Cert.Proof.Spec
open Idealize.ShloMosaic

/-- The head of an item and the row of its query `j`. -/
abbrev itH (k : ℕ) (hk : k < 32) : Fin 8 := ⟨k / 4, by omega⟩
abbrev itR (k : ℕ) (j : Fin 256) : Fin 1024 := ⟨256 * (k % 4) + j.val, by omega⟩

/-- The heads' attention, at the first `it` items. -/
def PO (rd : Fin 256 → Fin 1024 → EReal) (n : ℕ) (Q K V : Fin 1024 → Fin 256 → EReal) (it : ℕ) : Prop :=
  ∀ r s, r.val / 32 * 4 + s.val / 256 < it → rd r s = O n Q K V (headOf r) (chanOf r) s

variable {sp : Space}

theorem stepO (v : View sig .tc sp S256x1024 .bf16) (f : v.ty.Contents (Elt Ideal)) (k : ℕ) (hk : k < 32)
    {off : Fin 2 → ℕ} (heq : off = ![32 * (k / 4), 256 * (k % 4)]) (inb : ∀ a, off a + S32x256.size a ≤ S256x1024.size a)
    (n : ℕ) (Q K V : Fin 1024 → Fin 256 → EReal) (w : S32x256.Idx → EReal)
    (hw : ∀ d j, w (ix2 d j) = O n Q K V (itH k hk) d (itR k j))
    (h : PO (fun r s => v.read (Elt Ideal) f (ix2 r s)) n Q K V k) :
    PO (fun r s => v.read (Elt Ideal) (v.writes (Elt Ideal) f [⟨Rect.unit (s := S256x1024) off S32x256.size inb, w⟩]) (ix2 r s)) n Q K V (k + 1) := by
  intro r s hs
  show v.read (Elt Ideal) _ _ = _
  rw [read_piece2 v f heq]
  split
  · rename_i hin
    have e1 : ∀ (d : Fin 32) (j : Fin 256), 32 * (k / 4) + d.val = r.val → 256 * (k % 4) + j.val = s.val → w (ix2 d j) = O n Q K V (headOf r) (chanOf r) s := by
      intro d j hr hj
      obtain rfl : itR k j = s := Fin.ext hj
      rw [hw]
      rw [show headOf r = itH k hk from Fin.ext (by show r.val / 32 = k / 4; omega), show chanOf r = d from Fin.ext (by show r.val % 32 = d.val; omega)]
    exact e1 _ _ (by simp only []; omega) (by simp only []; omega)
  · rename_i hin
    rw [read_piece_nil]
    apply h
    omega

theorem off39_eq : ∀ k : Fin k0_t3_loop.trips, k0_off39 k = ![k.val / 4, 0, 256 * (k.val % 4)] := by decide +kernel
theorem off40_eq : ∀ k : Fin k0_t3_loop.trips, k0_off40 k = ![k.val / 4, 0, 0] := by decide +kernel
theorem off41_eq : ∀ k : Fin k0_t3_loop.trips, k0_off41 k = ![k.val / 4, 256 * (k.val % 4)] := by decide +kernel
theorem off42_eq : ∀ k : Fin k0_t3_loop.trips, k0_off42 k = ![k.val / 4, 0, 0] := by decide +kernel
theorem off43_eq : ∀ k : Fin k0_t3_loop.trips, k0_off43 k = ![32 * (k.val / 4), 256 * (k.val % 4)] := by decide +kernel

theorem w_t3 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 128) (k : Fin k0_t3_loop.trips) (d : Fin 32) (j : Fin 256) :
    k0_pay83 (F := Ideal) (k0_pay55 (F := Ideal) (arg15.view.readAt (Elt Ideal) (Rect.unit (s := S1024x256) ![0, 0] S128x256.size inb_S1024x256_S128x256_0_0).toLoadRect f15)
        (arg14.view.readAt (Elt Ideal) (Rect.unit (s := S8x256x1024) (k0_off39 k) S1x256x256.size (k0_off39_inb k)).toLoadRect f14))
      (k0_pay56 (F := Ideal) (arg18.view.readAt (Elt Ideal) (Rect.unit (s := S8x1024x128) (k0_off40 k) S1x128x128.size (k0_off40_inb k)).toLoadRect f18))
      (arg17.view.readAt (Elt Ideal) (Rect.unit (s := S8x1024) (k0_off41 k) S1x256.size (k0_off41_inb k)).toLoadRect f17)
      (arg16.view.readAt (Elt Ideal) (Rect.unit (s := S8x48x1024) (k0_off42 k) S1x48x128.size (k0_off42_inb k)).toLoadRect f16) (ix2 d j)
      = O v1.toNat Q K V (itH k.val k.isLt) d (itR k.val j) := by
  have hk : k.val < 32 := k.isLt
  rw [pay83_apply, pay79_apply, pay79_apply]
  simp only [pay55_apply, pay56_apply]
  refine att_row 128 v1.toNat (by omega) hn Q K V (itH k.val hk) d (itR k.val j)
    (fun t r => arg15.view.readAt (Elt Ideal) (Rect.unit (s := S1024x256) ![0, 0] S128x256.size inb_S1024x256_S128x256_0_0).toLoadRect f15 (ix2 t r)) ?_
    (fun r => arg14.view.readAt (Elt Ideal) (Rect.unit (s := S8x256x1024) (k0_off39 k) S1x256x256.size (k0_off39_inb k)).toLoadRect f14 (ix3 0 r j)) ?_
    (fun t => arg18.view.readAt (Elt Ideal) (Rect.unit (s := S8x1024x128) (k0_off40 k) S1x128x128.size (k0_off40_inb k)).toLoadRect f18 (ix3 0 t (lane j))) ?_
    _ ?_ (fun t => arg16.view.readAt (Elt Ideal) (Rect.unit (s := S8x48x1024) (k0_off42 k) S1x48x128.size (k0_off42_inb k)).toLoadRect f16 (ix3 0 ⟨d.val, by omega⟩ t)) ?_
    (fun t => arg16.view.readAt (Elt Ideal) (Rect.unit (s := S8x48x1024) (k0_off42 k) S1x48x128.size (k0_off42_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off39_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off40_eq k) _ 0 t (lane j) (itH k.val hk) ⟨t.val, by omega⟩ (lane j) (by simp) (by simp) (by simp)).trans (h18 _ _ _ (by show t.val < 1024; omega))
  · exact (readAt2 arg17.view f17 (off41_eq k) _ 0 j (itH k.val hk) (itR k.val j) (by simp) rfl).trans (h17 _ _ (by show 256 * (k.val % 4) + j.val < 1024; omega))
  · intro t
    refine (readAt3 arg16.view f16 (off42_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off42_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off44_eq : ∀ k : Fin k0_t4_loop.trips, k0_off44 k = ![k.val / 4, 0, 256 * (k.val % 4)] := by decide +kernel
theorem off45_eq : ∀ k : Fin k0_t4_loop.trips, k0_off45 k = ![k.val / 4, 0, 0] := by decide +kernel
theorem off46_eq : ∀ k : Fin k0_t4_loop.trips, k0_off46 k = ![k.val / 4, 256 * (k.val % 4)] := by decide +kernel
theorem off47_eq : ∀ k : Fin k0_t4_loop.trips, k0_off47 k = ![k.val / 4, 0, 0] := by decide +kernel
theorem off48_eq : ∀ k : Fin k0_t4_loop.trips, k0_off48 k = ![32 * (k.val / 4), 256 * (k.val % 4)] := by decide +kernel

theorem w_t4 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 256) (k : Fin k0_t4_loop.trips) (d : Fin 32) (j : Fin 256) :
    k0_pay88 (F := Ideal) (k0_pay57 (F := Ideal) (arg15.view.readAt (Elt Ideal) (Rect.unit (s := S1024x256) ![0, 0] S256x256.size inb_S1024x256_S256x256_0_0).toLoadRect f15)
        (arg14.view.readAt (Elt Ideal) (Rect.unit (s := S8x256x1024) (k0_off44 k) S1x256x256.size (k0_off44_inb k)).toLoadRect f14))
      (k0_pay58 (F := Ideal) (arg18.view.readAt (Elt Ideal) (Rect.unit (s := S8x1024x128) (k0_off45 k) S1x256x128.size (k0_off45_inb k)).toLoadRect f18))
      (arg17.view.readAt (Elt Ideal) (Rect.unit (s := S8x1024) (k0_off46 k) S1x256.size (k0_off46_inb k)).toLoadRect f17)
      (arg16.view.readAt (Elt Ideal) (Rect.unit (s := S8x48x1024) (k0_off47 k) S1x48x256.size (k0_off47_inb k)).toLoadRect f16) (ix2 d j)
      = O v1.toNat Q K V (itH k.val k.isLt) d (itR k.val j) := by
  have hk : k.val < 32 := k.isLt
  rw [pay88_apply, pay84_apply, pay84_apply]
  simp only [pay57_apply, pay58_apply]
  refine att_row 256 v1.toNat (by omega) hn Q K V (itH k.val hk) d (itR k.val j)
    (fun t r => arg15.view.readAt (Elt Ideal) (Rect.unit (s := S1024x256) ![0, 0] S256x256.size inb_S1024x256_S256x256_0_0).toLoadRect f15 (ix2 t r)) ?_
    (fun r => arg14.view.readAt (Elt Ideal) (Rect.unit (s := S8x256x1024) (k0_off44 k) S1x256x256.size (k0_off44_inb k)).toLoadRect f14 (ix3 0 r j)) ?_
    (fun t => arg18.view.readAt (Elt Ideal) (Rect.unit (s := S8x1024x128) (k0_off45 k) S1x256x128.size (k0_off45_inb k)).toLoadRect f18 (ix3 0 t (lane j))) ?_
    _ ?_ (fun t => arg16.view.readAt (Elt Ideal) (Rect.unit (s := S8x48x1024) (k0_off47 k) S1x48x256.size (k0_off47_inb k)).toLoadRect f16 (ix3 0 ⟨d.val, by omega⟩ t)) ?_
    (fun t => arg16.view.readAt (Elt Ideal) (Rect.unit (s := S8x48x1024) (k0_off47 k) S1x48x256.size (k0_off47_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off44_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off45_eq k) _ 0 t (lane j) (itH k.val hk) ⟨t.val, by omega⟩ (lane j) (by simp) (by simp) (by simp)).trans (h18 _ _ _ (by show t.val < 1024; omega))
  · exact (readAt2 arg17.view f17 (off46_eq k) _ 0 j (itH k.val hk) (itR k.val j) (by simp) rfl).trans (h17 _ _ (by show 256 * (k.val % 4) + j.val < 1024; omega))
  · intro t
    refine (readAt3 arg16.view f16 (off47_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off47_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off49_eq : ∀ k : Fin k0_t5_loop.trips, k0_off49 k = ![k.val / 4, 0, 256 * (k.val % 4)] := by decide +kernel
theorem off50_eq : ∀ k : Fin k0_t5_loop.trips, k0_off50 k = ![k.val / 4, 0, 0] := by decide +kernel
theorem off51_eq : ∀ k : Fin k0_t5_loop.trips, k0_off51 k = ![k.val / 4, 256 * (k.val % 4)] := by decide +kernel
theorem off52_eq : ∀ k : Fin k0_t5_loop.trips, k0_off52 k = ![k.val / 4, 0, 0] := by decide +kernel
theorem off53_eq : ∀ k : Fin k0_t5_loop.trips, k0_off53 k = ![32 * (k.val / 4), 256 * (k.val % 4)] := by decide +kernel

theorem w_t5 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 384) (k : Fin k0_t5_loop.trips) (d : Fin 32) (j : Fin 256) :
    k0_pay93 (F := Ideal) (k0_pay59 (F := Ideal) (arg15.view.readAt (Elt Ideal) (Rect.unit (s := S1024x256) ![0, 0] S384x256.size inb_S1024x256_S384x256_0_0).toLoadRect f15)
        (arg14.view.readAt (Elt Ideal) (Rect.unit (s := S8x256x1024) (k0_off49 k) S1x256x256.size (k0_off49_inb k)).toLoadRect f14))
      (k0_pay60 (F := Ideal) (arg18.view.readAt (Elt Ideal) (Rect.unit (s := S8x1024x128) (k0_off50 k) S1x384x128.size (k0_off50_inb k)).toLoadRect f18))
      (arg17.view.readAt (Elt Ideal) (Rect.unit (s := S8x1024) (k0_off51 k) S1x256.size (k0_off51_inb k)).toLoadRect f17)
      (arg16.view.readAt (Elt Ideal) (Rect.unit (s := S8x48x1024) (k0_off52 k) S1x48x384.size (k0_off52_inb k)).toLoadRect f16) (ix2 d j)
      = O v1.toNat Q K V (itH k.val k.isLt) d (itR k.val j) := by
  have hk : k.val < 32 := k.isLt
  rw [pay93_apply, pay89_apply, pay89_apply]
  simp only [pay59_apply, pay60_apply]
  refine att_row 384 v1.toNat (by omega) hn Q K V (itH k.val hk) d (itR k.val j)
    (fun t r => arg15.view.readAt (Elt Ideal) (Rect.unit (s := S1024x256) ![0, 0] S384x256.size inb_S1024x256_S384x256_0_0).toLoadRect f15 (ix2 t r)) ?_
    (fun r => arg14.view.readAt (Elt Ideal) (Rect.unit (s := S8x256x1024) (k0_off49 k) S1x256x256.size (k0_off49_inb k)).toLoadRect f14 (ix3 0 r j)) ?_
    (fun t => arg18.view.readAt (Elt Ideal) (Rect.unit (s := S8x1024x128) (k0_off50 k) S1x384x128.size (k0_off50_inb k)).toLoadRect f18 (ix3 0 t (lane j))) ?_
    _ ?_ (fun t => arg16.view.readAt (Elt Ideal) (Rect.unit (s := S8x48x1024) (k0_off52 k) S1x48x384.size (k0_off52_inb k)).toLoadRect f16 (ix3 0 ⟨d.val, by omega⟩ t)) ?_
    (fun t => arg16.view.readAt (Elt Ideal) (Rect.unit (s := S8x48x1024) (k0_off52 k) S1x48x384.size (k0_off52_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off49_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off50_eq k) _ 0 t (lane j) (itH k.val hk) ⟨t.val, by omega⟩ (lane j) (by simp) (by simp) (by simp)).trans (h18 _ _ _ (by show t.val < 1024; omega))
  · exact (readAt2 arg17.view f17 (off51_eq k) _ 0 j (itH k.val hk) (itR k.val j) (by simp) rfl).trans (h17 _ _ (by show 256 * (k.val % 4) + j.val < 1024; omega))
  · intro t
    refine (readAt3 arg16.view f16 (off52_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off52_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off54_eq : ∀ k : Fin k0_t6_loop.trips, k0_off54 k = ![k.val / 4, 0, 256 * (k.val % 4)] := by decide +kernel
theorem off55_eq : ∀ k : Fin k0_t6_loop.trips, k0_off55 k = ![k.val / 4, 0, 0] := by decide +kernel
theorem off56_eq : ∀ k : Fin k0_t6_loop.trips, k0_off56 k = ![k.val / 4, 256 * (k.val % 4)] := by decide +kernel
theorem off57_eq : ∀ k : Fin k0_t6_loop.trips, k0_off57 k = ![k.val / 4, 0, 0] := by decide +kernel
theorem off58_eq : ∀ k : Fin k0_t6_loop.trips, k0_off58 k = ![32 * (k.val / 4), 256 * (k.val % 4)] := by decide +kernel

theorem w_t6 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 512) (k : Fin k0_t6_loop.trips) (d : Fin 32) (j : Fin 256) :
    k0_pay98 (F := Ideal) (k0_pay61 (F := Ideal) (arg15.view.readAt (Elt Ideal) (Rect.unit (s := S1024x256) ![0, 0] S512x256.size inb_S1024x256_S512x256_0_0).toLoadRect f15)
        (arg14.view.readAt (Elt Ideal) (Rect.unit (s := S8x256x1024) (k0_off54 k) S1x256x256.size (k0_off54_inb k)).toLoadRect f14))
      (k0_pay62 (F := Ideal) (arg18.view.readAt (Elt Ideal) (Rect.unit (s := S8x1024x128) (k0_off55 k) S1x512x128.size (k0_off55_inb k)).toLoadRect f18))
      (arg17.view.readAt (Elt Ideal) (Rect.unit (s := S8x1024) (k0_off56 k) S1x256.size (k0_off56_inb k)).toLoadRect f17)
      (arg16.view.readAt (Elt Ideal) (Rect.unit (s := S8x48x1024) (k0_off57 k) S1x48x512.size (k0_off57_inb k)).toLoadRect f16) (ix2 d j)
      = O v1.toNat Q K V (itH k.val k.isLt) d (itR k.val j) := by
  have hk : k.val < 32 := k.isLt
  rw [pay98_apply, pay94_apply, pay94_apply]
  simp only [pay61_apply, pay62_apply]
  refine att_row 512 v1.toNat (by omega) hn Q K V (itH k.val hk) d (itR k.val j)
    (fun t r => arg15.view.readAt (Elt Ideal) (Rect.unit (s := S1024x256) ![0, 0] S512x256.size inb_S1024x256_S512x256_0_0).toLoadRect f15 (ix2 t r)) ?_
    (fun r => arg14.view.readAt (Elt Ideal) (Rect.unit (s := S8x256x1024) (k0_off54 k) S1x256x256.size (k0_off54_inb k)).toLoadRect f14 (ix3 0 r j)) ?_
    (fun t => arg18.view.readAt (Elt Ideal) (Rect.unit (s := S8x1024x128) (k0_off55 k) S1x512x128.size (k0_off55_inb k)).toLoadRect f18 (ix3 0 t (lane j))) ?_
    _ ?_ (fun t => arg16.view.readAt (Elt Ideal) (Rect.unit (s := S8x48x1024) (k0_off57 k) S1x48x512.size (k0_off57_inb k)).toLoadRect f16 (ix3 0 ⟨d.val, by omega⟩ t)) ?_
    (fun t => arg16.view.readAt (Elt Ideal) (Rect.unit (s := S8x48x1024) (k0_off57 k) S1x48x512.size (k0_off57_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off54_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off55_eq k) _ 0 t (lane j) (itH k.val hk) ⟨t.val, by omega⟩ (lane j) (by simp) (by simp) (by simp)).trans (h18 _ _ _ (by show t.val < 1024; omega))
  · exact (readAt2 arg17.view f17 (off56_eq k) _ 0 j (itH k.val hk) (itR k.val j) (by simp) rfl).trans (h17 _ _ (by show 256 * (k.val % 4) + j.val < 1024; omega))
  · intro t
    refine (readAt3 arg16.view f16 (off57_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off57_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off59_eq : ∀ k : Fin k0_t7_loop.trips, k0_off59 k = ![k.val / 4, 0, 256 * (k.val % 4)] := by decide +kernel
theorem off60_eq : ∀ k : Fin k0_t7_loop.trips, k0_off60 k = ![k.val / 4, 0, 0] := by decide +kernel
theorem off61_eq : ∀ k : Fin k0_t7_loop.trips, k0_off61 k = ![k.val / 4, 256 * (k.val % 4)] := by decide +kernel
theorem off62_eq : ∀ k : Fin k0_t7_loop.trips, k0_off62 k = ![k.val / 4, 0, 0] := by decide +kernel
theorem off63_eq : ∀ k : Fin k0_t7_loop.trips, k0_off63 k = ![32 * (k.val / 4), 256 * (k.val % 4)] := by decide +kernel

theorem w_t7 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 640) (k : Fin k0_t7_loop.trips) (d : Fin 32) (j : Fin 256) :
    k0_pay103 (F := Ideal) (k0_pay63 (F := Ideal) (arg15.view.readAt (Elt Ideal) (Rect.unit (s := S1024x256) ![0, 0] S640x256.size inb_S1024x256_S640x256_0_0).toLoadRect f15)
        (arg14.view.readAt (Elt Ideal) (Rect.unit (s := S8x256x1024) (k0_off59 k) S1x256x256.size (k0_off59_inb k)).toLoadRect f14))
      (k0_pay64 (F := Ideal) (arg18.view.readAt (Elt Ideal) (Rect.unit (s := S8x1024x128) (k0_off60 k) S1x640x128.size (k0_off60_inb k)).toLoadRect f18))
      (arg17.view.readAt (Elt Ideal) (Rect.unit (s := S8x1024) (k0_off61 k) S1x256.size (k0_off61_inb k)).toLoadRect f17)
      (arg16.view.readAt (Elt Ideal) (Rect.unit (s := S8x48x1024) (k0_off62 k) S1x48x640.size (k0_off62_inb k)).toLoadRect f16) (ix2 d j)
      = O v1.toNat Q K V (itH k.val k.isLt) d (itR k.val j) := by
  have hk : k.val < 32 := k.isLt
  rw [pay103_apply, pay99_apply, pay99_apply]
  simp only [pay63_apply, pay64_apply]
  refine att_row 640 v1.toNat (by omega) hn Q K V (itH k.val hk) d (itR k.val j)
    (fun t r => arg15.view.readAt (Elt Ideal) (Rect.unit (s := S1024x256) ![0, 0] S640x256.size inb_S1024x256_S640x256_0_0).toLoadRect f15 (ix2 t r)) ?_
    (fun r => arg14.view.readAt (Elt Ideal) (Rect.unit (s := S8x256x1024) (k0_off59 k) S1x256x256.size (k0_off59_inb k)).toLoadRect f14 (ix3 0 r j)) ?_
    (fun t => arg18.view.readAt (Elt Ideal) (Rect.unit (s := S8x1024x128) (k0_off60 k) S1x640x128.size (k0_off60_inb k)).toLoadRect f18 (ix3 0 t (lane j))) ?_
    _ ?_ (fun t => arg16.view.readAt (Elt Ideal) (Rect.unit (s := S8x48x1024) (k0_off62 k) S1x48x640.size (k0_off62_inb k)).toLoadRect f16 (ix3 0 ⟨d.val, by omega⟩ t)) ?_
    (fun t => arg16.view.readAt (Elt Ideal) (Rect.unit (s := S8x48x1024) (k0_off62 k) S1x48x640.size (k0_off62_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off59_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off60_eq k) _ 0 t (lane j) (itH k.val hk) ⟨t.val, by omega⟩ (lane j) (by simp) (by simp) (by simp)).trans (h18 _ _ _ (by show t.val < 1024; omega))
  · exact (readAt2 arg17.view f17 (off61_eq k) _ 0 j (itH k.val hk) (itR k.val j) (by simp) rfl).trans (h17 _ _ (by show 256 * (k.val % 4) + j.val < 1024; omega))
  · intro t
    refine (readAt3 arg16.view f16 (off62_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off62_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off64_eq : ∀ k : Fin k0_t8_loop.trips, k0_off64 k = ![k.val / 4, 0, 256 * (k.val % 4)] := by decide +kernel
theorem off65_eq : ∀ k : Fin k0_t8_loop.trips, k0_off65 k = ![k.val / 4, 0, 0] := by decide +kernel
theorem off66_eq : ∀ k : Fin k0_t8_loop.trips, k0_off66 k = ![k.val / 4, 256 * (k.val % 4)] := by decide +kernel
theorem off67_eq : ∀ k : Fin k0_t8_loop.trips, k0_off67 k = ![k.val / 4, 0, 0] := by decide +kernel
theorem off68_eq : ∀ k : Fin k0_t8_loop.trips, k0_off68 k = ![32 * (k.val / 4), 256 * (k.val % 4)] := by decide +kernel

theorem w_t8 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 768) (k : Fin k0_t8_loop.trips) (d : Fin 32) (j : Fin 256) :
    k0_pay114 (F := Ideal) (k0_pay65 (F := Ideal) (arg15.view.readAt (Elt Ideal) (Rect.unit (s := S1024x256) ![0, 0] S768x256.size inb_S1024x256_S768x256_0_0).toLoadRect f15)
        (arg14.view.readAt (Elt Ideal) (Rect.unit (s := S8x256x1024) (k0_off64 k) S1x256x256.size (k0_off64_inb k)).toLoadRect f14))
      (k0_pay66 (F := Ideal) (arg18.view.readAt (Elt Ideal) (Rect.unit (s := S8x1024x128) (k0_off65 k) S1x768x128.size (k0_off65_inb k)).toLoadRect f18))
      (arg17.view.readAt (Elt Ideal) (Rect.unit (s := S8x1024) (k0_off66 k) S1x256.size (k0_off66_inb k)).toLoadRect f17)
      (arg16.view.readAt (Elt Ideal) (Rect.unit (s := S8x48x1024) (k0_off67 k) S1x48x768.size (k0_off67_inb k)).toLoadRect f16) (ix2 d j)
      = O v1.toNat Q K V (itH k.val k.isLt) d (itR k.val j) := by
  have hk : k.val < 32 := k.isLt
  rw [pay114_apply, pay110_apply, pay110_apply]
  simp only [pay65_apply, pay66_apply]
  refine att_row 768 v1.toNat (by omega) hn Q K V (itH k.val hk) d (itR k.val j)
    (fun t r => arg15.view.readAt (Elt Ideal) (Rect.unit (s := S1024x256) ![0, 0] S768x256.size inb_S1024x256_S768x256_0_0).toLoadRect f15 (ix2 t r)) ?_
    (fun r => arg14.view.readAt (Elt Ideal) (Rect.unit (s := S8x256x1024) (k0_off64 k) S1x256x256.size (k0_off64_inb k)).toLoadRect f14 (ix3 0 r j)) ?_
    (fun t => arg18.view.readAt (Elt Ideal) (Rect.unit (s := S8x1024x128) (k0_off65 k) S1x768x128.size (k0_off65_inb k)).toLoadRect f18 (ix3 0 t (lane j))) ?_
    _ ?_ (fun t => arg16.view.readAt (Elt Ideal) (Rect.unit (s := S8x48x1024) (k0_off67 k) S1x48x768.size (k0_off67_inb k)).toLoadRect f16 (ix3 0 ⟨d.val, by omega⟩ t)) ?_
    (fun t => arg16.view.readAt (Elt Ideal) (Rect.unit (s := S8x48x1024) (k0_off67 k) S1x48x768.size (k0_off67_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off64_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off65_eq k) _ 0 t (lane j) (itH k.val hk) ⟨t.val, by omega⟩ (lane j) (by simp) (by simp) (by simp)).trans (h18 _ _ _ (by show t.val < 1024; omega))
  · exact (readAt2 arg17.view f17 (off66_eq k) _ 0 j (itH k.val hk) (itR k.val j) (by simp) rfl).trans (h17 _ _ (by show 256 * (k.val % 4) + j.val < 1024; omega))
  · intro t
    refine (readAt3 arg16.view f16 (off67_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off67_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off69_eq : ∀ k : Fin k0_t9_loop.trips, k0_off69 k = ![k.val / 4, 0, 256 * (k.val % 4)] := by decide +kernel
theorem off70_eq : ∀ k : Fin k0_t9_loop.trips, k0_off70 k = ![k.val / 4, 0, 0] := by decide +kernel
theorem off71_eq : ∀ k : Fin k0_t9_loop.trips, k0_off71 k = ![k.val / 4, 256 * (k.val % 4)] := by decide +kernel
theorem off72_eq : ∀ k : Fin k0_t9_loop.trips, k0_off72 k = ![k.val / 4, 0, 0] := by decide +kernel
theorem off73_eq : ∀ k : Fin k0_t9_loop.trips, k0_off73 k = ![32 * (k.val / 4), 256 * (k.val % 4)] := by decide +kernel

theorem w_t9 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn : v1.toNat ≤ 896) (k : Fin k0_t9_loop.trips) (d : Fin 32) (j : Fin 256) :
    k0_pay119 (F := Ideal) (k0_pay67 (F := Ideal) (arg15.view.readAt (Elt Ideal) (Rect.unit (s := S1024x256) ![0, 0] S896x256.size inb_S1024x256_S896x256_0_0).toLoadRect f15)
        (arg14.view.readAt (Elt Ideal) (Rect.unit (s := S8x256x1024) (k0_off69 k) S1x256x256.size (k0_off69_inb k)).toLoadRect f14))
      (k0_pay68 (F := Ideal) (arg18.view.readAt (Elt Ideal) (Rect.unit (s := S8x1024x128) (k0_off70 k) S1x896x128.size (k0_off70_inb k)).toLoadRect f18))
      (arg17.view.readAt (Elt Ideal) (Rect.unit (s := S8x1024) (k0_off71 k) S1x256.size (k0_off71_inb k)).toLoadRect f17)
      (arg16.view.readAt (Elt Ideal) (Rect.unit (s := S8x48x1024) (k0_off72 k) S1x48x896.size (k0_off72_inb k)).toLoadRect f16) (ix2 d j)
      = O v1.toNat Q K V (itH k.val k.isLt) d (itR k.val j) := by
  have hk : k.val < 32 := k.isLt
  rw [pay119_apply, pay115_apply, pay115_apply]
  simp only [pay67_apply, pay68_apply]
  refine att_row 896 v1.toNat (by omega) hn Q K V (itH k.val hk) d (itR k.val j)
    (fun t r => arg15.view.readAt (Elt Ideal) (Rect.unit (s := S1024x256) ![0, 0] S896x256.size inb_S1024x256_S896x256_0_0).toLoadRect f15 (ix2 t r)) ?_
    (fun r => arg14.view.readAt (Elt Ideal) (Rect.unit (s := S8x256x1024) (k0_off69 k) S1x256x256.size (k0_off69_inb k)).toLoadRect f14 (ix3 0 r j)) ?_
    (fun t => arg18.view.readAt (Elt Ideal) (Rect.unit (s := S8x1024x128) (k0_off70 k) S1x896x128.size (k0_off70_inb k)).toLoadRect f18 (ix3 0 t (lane j))) ?_
    _ ?_ (fun t => arg16.view.readAt (Elt Ideal) (Rect.unit (s := S8x48x1024) (k0_off72 k) S1x48x896.size (k0_off72_inb k)).toLoadRect f16 (ix3 0 ⟨d.val, by omega⟩ t)) ?_
    (fun t => arg16.view.readAt (Elt Ideal) (Rect.unit (s := S8x48x1024) (k0_off72 k) S1x48x896.size (k0_off72_inb k)).toLoadRect f16 (ix3 0 32 t)) ?_
  · intro t r
    exact (readAt2 arg15.view f15 (off := ![0, 0]) rfl _ t r ⟨t.val, by omega⟩ r (by simp) (by simp)).trans (h15 _ _ (by show t.val < 1024; omega))
  · intro r
    refine (readAt3 arg14.view f14 (off69_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off70_eq k) _ 0 t (lane j) (itH k.val hk) ⟨t.val, by omega⟩ (lane j) (by simp) (by simp) (by simp)).trans (h18 _ _ _ (by show t.val < 1024; omega))
  · exact (readAt2 arg17.view f17 (off71_eq k) _ 0 j (itH k.val hk) (itR k.val j) (by simp) rfl).trans (h17 _ _ (by show 256 * (k.val % 4) + j.val < 1024; omega))
  · intro t
    refine (readAt3 arg16.view f16 (off72_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off72_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

theorem off74_eq : ∀ k : Fin k0_t10_loop.trips, k0_off74 k = ![k.val / 4, 0, 256 * (k.val % 4)] := by decide +kernel
theorem off75_eq : ∀ k : Fin k0_t10_loop.trips, k0_off75 k = ![k.val / 4, 0, 0] := by decide +kernel
theorem off76_eq : ∀ k : Fin k0_t10_loop.trips, k0_off76 k = ![k.val / 4, 256 * (k.val % 4)] := by decide +kernel
theorem off77_eq : ∀ k : Fin k0_t10_loop.trips, k0_off77 k = ![k.val / 4, 0, 0] := by decide +kernel
theorem off78_eq : ∀ k : Fin k0_t10_loop.trips, k0_off78 k = ![32 * (k.val / 4), 256 * (k.val % 4)] := by decide +kernel

theorem w_t10 (arg14 : Memref sig .tc .vmem S8x256x1024 .fp8e4m3) (arg15 : Memref sig .tc .vmem S1024x256 .fp8e4m3) (arg16 : Memref sig .tc .vmem S8x48x1024 .bf16) (arg17 : Memref sig .tc .vmem S8x1024 .f32) (arg18 : Memref sig .tc .vmem S8x1024x128 .f32)
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)
    (hn1 : 1 ≤ v1.toNat) (hn : v1.toNat ≤ 896) (k : Fin k0_t10_loop.trips) (d : Fin 32) (j : Fin 256) :
    k0_pay122 (F := Ideal) v1 (k0_pay69 (F := Ideal) (arg15.view.readAt (Elt Ideal) (Rect.unit (s := S1024x256) ![0, 0] S896x256.size inb_S1024x256_S896x256_0_0).toLoadRect f15)
        (arg14.view.readAt (Elt Ideal) (Rect.unit (s := S8x256x1024) (k0_off74 k) S1x256x256.size (k0_off74_inb k)).toLoadRect f14))
      (k0_pay70 (F := Ideal) (arg18.view.readAt (Elt Ideal) (Rect.unit (s := S8x1024x128) (k0_off75 k) S1x896x128.size (k0_off75_inb k)).toLoadRect f18))
      (arg17.view.readAt (Elt Ideal) (Rect.unit (s := S8x1024) (k0_off76 k) S1x256.size (k0_off76_inb k)).toLoadRect f17)
      (arg16.view.readAt (Elt Ideal) (Rect.unit (s := S8x48x1024) (k0_off77 k) S1x48x896.size (k0_off77_inb k)).toLoadRect f16) (ix2 d j)
      = O v1.toNat Q K V (itH k.val k.isLt) d (itR k.val j) := by
  have hk : k.val < 32 := k.isLt
  rw [pay122_apply v1 (by omega)]
  simp only [pay69_apply, pay70_apply]
  refine att_row_shifted 896 v1.toNat (by omega) hn hn1 Q K V (itH k.val hk) d (itR k.val j)
    (fun t r => arg15.view.readAt (Elt Ideal) (Rect.unit (s := S1024x256) ![0, 0] S896x256.size inb_S1024x256_S896x256_0_0).toLoadRect f15 (ix2 t r)) ?_
    (fun r => arg14.view.readAt (Elt Ideal) (Rect.unit (s := S8x256x1024) (k0_off74 k) S1x256x256.size (k0_off74_inb k)).toLoadRect f14 (ix3 0 r j)) ?_
    (fun t => arg18.view.readAt (Elt Ideal) (Rect.unit (s := S8x1024x128) (k0_off75 k) S1x896x128.size (k0_off75_inb k)).toLoadRect f18 (ix3 0 t (lane j))) ?_
    _ ?_ (fun t => arg16.view.readAt (Elt Ideal) (Rect.unit (s := S8x48x1024) (k0_off77 k) S1x48x896.size (k0_off77_inb k)).toLoadRect f16 (ix3 0 ⟨d.val, by omega⟩ t)) ?_
    (fun t => arg16.view.readAt (Elt Ideal) (Rect.unit (s := S8x48x1024) (k0_off77 k) S1x48x896.size (k0_off77_inb k)).toLoadRect f16 (ix3 0 32 t)) ?_ _ (fun t => rfl) _ rfl _ (fun t => rfl)
  · intro t r
    exact (readAt2 arg15.view f15 (off := ![0, 0]) rfl _ t r ⟨t.val, by omega⟩ r (by simp) (by simp)).trans (h15 _ _ (by show t.val < 1024; omega))
  · intro r
    refine (readAt3 arg14.view f14 (off74_eq k) _ 0 r j (itH k.val hk) r (itR k.val j) (by simp) (by simp) rfl).trans ?_
    split
    · rename_i hh; exact h14.1 _ _ _ (by show 256 * (k.val % 4) + j.val < 1024; omega) hh
    · rename_i hh; exact h14.2 _ _ _ hh
  · intro t
    exact (readAt3 arg18.view f18 (off75_eq k) _ 0 t (lane j) (itH k.val hk) ⟨t.val, by omega⟩ (lane j) (by simp) (by simp) (by simp)).trans (h18 _ _ _ (by show t.val < 1024; omega))
  · exact (readAt2 arg17.view f17 (off76_eq k) _ 0 j (itH k.val hk) (itR k.val j) (by simp) rfl).trans (h17 _ _ (by show 256 * (k.val % 4) + j.val < 1024; omega))
  · intro t
    refine (readAt3 arg16.view f16 (off77_eq k) _ 0 ⟨d.val, by omega⟩ t (itH k.val hk) ⟨d.val, by omega⟩ ⟨t.val, by omega⟩ (by simp) (by simp) (by simp)).trans ((h16 _ _ _ (by show t.val < 1024; omega)).trans ?_)
    rw [dif_pos (show d.val < 32 from d.isLt)]
  · intro t
    refine (readAt3 arg16.view f16 (off77_eq k) _ 0 32 t (itH k.val hk) 32 ⟨t.val, by omega⟩ (by simp) (by simp) (by simp)).trans ((h16 _ _ _ (by show t.val < 1024; omega)).trans ?_)
    rw [dif_neg (show ¬ (32 : Fin 48).val < 32 by decide)]

end Cert.Proof.KernelIdeal
end
-- ==== Proof.AttTrip.lean ====
/-
  The attend loops with what they compute: after the loop that runs, the head outputs are the attention.
-/
module

public import proofs.«01_k».proof.Proof.Gen.KernelIdeal.Frame
public import proofs.«01_k».proof.Proof.Gen.KernelIdeal.Skeleton
public import proofs.«01_k».proof.Proof.PrepWord
public import proofs.«01_k».proof.Proof.AttWord
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec

theorem trip_t3 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 128) (v20 : BitVec 32) (v22 : FVec Ideal S1x256 .f32) (v24 : FVec Ideal S1x256 .f32) (c0_i32_12 : BitVec 32) (c1_i32_13 : BitVec 32) (k0_t1 : Fin k0_t1_loop.trips) (k : Fin k0_t3_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t3_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off43_eq k) _ _ _ _ _ _ (w_t3 arg14 arg15 arg16 arg17 arg18 f14 f15 f16 f17 f18 v1 Q K V h14 h15 h16 h17 h18 hn k) h19
  iexists _; iexact H23

theorem vwhen_t3 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (v20 : BitVec 32) (v22 : FVec Ideal S1x256 .f32) (v24 : FVec Ideal S1x256 .f32) (c0_i32_12 : BitVec 32) (c1_i32_13 : BitVec 32) (k0_t1 : Fin k0_t1_loop.trips) (b : BitVec 1) (hb : b = 1#1 → v1.toNat ≤ 128) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t3_loop k0_t3_ok ⟨⟩ (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t3_loop.lb k0_t3_loop.ub k0_t3_loop.st k0_t3_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h) v20 v22 v24 c0_i32_12 c1_i32_13 k0_t1 k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t4 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 256) (v20 : BitVec 32) (v22 : FVec Ideal S1x256 .f32) (v24 : FVec Ideal S1x256 .f32) (c0_i32_12 : BitVec 32) (c1_i32_13 : BitVec 32) (k0_t1 : Fin k0_t1_loop.trips) (k : Fin k0_t4_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t4_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off48_eq k) _ _ _ _ _ _ (w_t4 arg14 arg15 arg16 arg17 arg18 f14 f15 f16 f17 f18 v1 Q K V h14 h15 h16 h17 h18 hn k) h19
  iexists _; iexact H23

theorem vwhen_t4 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (v20 : BitVec 32) (v22 : FVec Ideal S1x256 .f32) (v24 : FVec Ideal S1x256 .f32) (c0_i32_12 : BitVec 32) (c1_i32_13 : BitVec 32) (k0_t1 : Fin k0_t1_loop.trips) (b : BitVec 1) (hb : b = 1#1 → v1.toNat ≤ 256) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t4_loop k0_t4_ok ⟨⟩ (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t4_loop.lb k0_t4_loop.ub k0_t4_loop.st k0_t4_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h) v20 v22 v24 c0_i32_12 c1_i32_13 k0_t1 k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t5 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 384) (v20 : BitVec 32) (v22 : FVec Ideal S1x256 .f32) (v24 : FVec Ideal S1x256 .f32) (c0_i32_12 : BitVec 32) (c1_i32_13 : BitVec 32) (k0_t1 : Fin k0_t1_loop.trips) (k : Fin k0_t5_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t5_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off53_eq k) _ _ _ _ _ _ (w_t5 arg14 arg15 arg16 arg17 arg18 f14 f15 f16 f17 f18 v1 Q K V h14 h15 h16 h17 h18 hn k) h19
  iexists _; iexact H23

theorem vwhen_t5 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (v20 : BitVec 32) (v22 : FVec Ideal S1x256 .f32) (v24 : FVec Ideal S1x256 .f32) (c0_i32_12 : BitVec 32) (c1_i32_13 : BitVec 32) (k0_t1 : Fin k0_t1_loop.trips) (b : BitVec 1) (hb : b = 1#1 → v1.toNat ≤ 384) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t5_loop k0_t5_ok ⟨⟩ (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t5_loop.lb k0_t5_loop.ub k0_t5_loop.st k0_t5_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h) v20 v22 v24 c0_i32_12 c1_i32_13 k0_t1 k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t6 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 512) (v20 : BitVec 32) (v22 : FVec Ideal S1x256 .f32) (v24 : FVec Ideal S1x256 .f32) (c0_i32_12 : BitVec 32) (c1_i32_13 : BitVec 32) (k0_t1 : Fin k0_t1_loop.trips) (k : Fin k0_t6_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t6_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off58_eq k) _ _ _ _ _ _ (w_t6 arg14 arg15 arg16 arg17 arg18 f14 f15 f16 f17 f18 v1 Q K V h14 h15 h16 h17 h18 hn k) h19
  iexists _; iexact H23

theorem vwhen_t6 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (v20 : BitVec 32) (v22 : FVec Ideal S1x256 .f32) (v24 : FVec Ideal S1x256 .f32) (c0_i32_12 : BitVec 32) (c1_i32_13 : BitVec 32) (k0_t1 : Fin k0_t1_loop.trips) (b : BitVec 1) (hb : b = 1#1 → v1.toNat ≤ 512) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t6_loop k0_t6_ok ⟨⟩ (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t6_loop.lb k0_t6_loop.ub k0_t6_loop.st k0_t6_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h) v20 v22 v24 c0_i32_12 c1_i32_13 k0_t1 k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t7 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 640) (v20 : BitVec 32) (v22 : FVec Ideal S1x256 .f32) (v24 : FVec Ideal S1x256 .f32) (c0_i32_12 : BitVec 32) (c1_i32_13 : BitVec 32) (k0_t1 : Fin k0_t1_loop.trips) (k : Fin k0_t7_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t7_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off63_eq k) _ _ _ _ _ _ (w_t7 arg14 arg15 arg16 arg17 arg18 f14 f15 f16 f17 f18 v1 Q K V h14 h15 h16 h17 h18 hn k) h19
  iexists _; iexact H23

theorem vwhen_t7 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (v20 : BitVec 32) (v22 : FVec Ideal S1x256 .f32) (v24 : FVec Ideal S1x256 .f32) (c0_i32_12 : BitVec 32) (c1_i32_13 : BitVec 32) (k0_t1 : Fin k0_t1_loop.trips) (b : BitVec 1) (hb : b = 1#1 → v1.toNat ≤ 640) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t7_loop k0_t7_ok ⟨⟩ (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 c0_i32_12 c1_i32_13 k0_t1)
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t7_loop.lb k0_t7_loop.ub k0_t7_loop.st k0_t7_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h) v20 v22 v24 c0_i32_12 c1_i32_13 k0_t1 k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t8 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 768)  (k : Fin k0_t8_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t8_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off68_eq k) _ _ _ _ _ _ (w_t8 arg14 arg15 arg16 arg17 arg18 f14 f15 f16 f17 f18 v1 Q K V h14 h15 h16 h17 h18 hn k) h19
  iexists _; iexact H23

theorem vwhen_t8 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)  (b : BitVec 1) (hb : b = 1#1 → v1.toNat ≤ 768) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t8_loop k0_t8_ok ⟨⟩ (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t8_loop.lb k0_t8_loop.ub k0_t8_loop.st k0_t8_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h)  k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t9 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn : v1.toNat ≤ 896)  (k : Fin k0_t9_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝) ∗ (∃ g23, (arg23.view.loc (c : Thread nD τ) ↦[arg23.view.set]{fullShare} g23)))) := by
  unfold k0_t9_body
  iintro ⟨H14, H15, H16, H17, H18, ⟨%f19, H19, %h19⟩, ⟨%f23, H23⟩⟩
  sl_exec
  sl_step
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    exact stepO arg19.view f19 k.val k.isLt (off73_eq k) _ _ _ _ _ _ (w_t9 arg14 arg15 arg16 arg17 arg18 f14 f15 f16 f17 f18 v1 Q K V h14 h15 h16 h17 h18 hn k) h19
  iexists _; iexact H23

theorem vwhen_t9 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)  (b : BitVec 1) (hb : b = 1#1 → v1.toNat ≤ 896) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ g23, (arg23.view.loc (c : Thread nD τ) ↦[arg23.view.set]{fullShare} g23)) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝) ∗ (∃ g23, (arg23.view.loc (c : Thread nD τ) ↦[arg23.view.set]{fullShare} g23))) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t9_loop k0_t9_ok ⟨⟩ (k0_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
            p
          else p) Φ := by
  iintro ⟨H14, H15, H16, H17, H18, H19, ⟨%f23, H23⟩, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝) ∗ (∃ g23, (arg23.view.loc (c : Thread nD τ) ↦[arg23.view.set]{fullShare} g23))) $$ [H14 H15 H16 H17 H18 H19 H23]
    · isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun r s hrs => absurd hrs (Nat.not_lt_zero _)
      iexists _; iexact H23
    iapply (Scf.wp_for_bind frame (wpE (defs₀ (F := Ideal)) 𝒱₁ (c : Thread nD τ) none) Set.univ k0_t9_loop.lb k0_t9_loop.ub k0_t9_loop.st k0_t9_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝) ∗ (∃ g23, (arg23.view.loc (c : Thread nD τ) ↦[arg23.view.set]{fullShare} g23))))
      (fun k _ => trip_t9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 (hb h)  k)) $$ HI
    iintro %acc ⟨H14, H15, H16, H17, H18, ⟨%g19, H19, %h19⟩, ⟨%f23, H23⟩⟩
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun _ => h19
    iexists _; iexact H23
  · rw [if_neg h]
    iapply Hk
    isplitl [H14]; · iexact H14
    isplitl [H15]; · iexact H15
    isplitl [H16]; · iexact H16
    isplitl [H17]; · iexact H17
    isplitl [H18]; · iexact H18
    isplitl [H19]
    · iexists _; isplitl [H19]; · iexact H19
      ipureintro; exact fun hh => hh.resolve_left h
    iexists _; iexact H23

theorem trip_t10 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4) (hn1 : 1 ≤ v1.toNat) (hn : v1.toNat ≤ 896)  (k : Fin k0_t10_loop.trips) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V k.val⌝)) : sProp 𝕄) ⊢ wp frame (wpE (defs₀ (F := Ideal)) 𝒱₁ (c : Thread nD τ) none) Set.univ (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 k PUnit.unit)
      (fun _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V (k.val + 1)⌝))) := by
  unfold k0_t10_body
  iintro ⟨H14, H15, H16, H17, H18, ⟨%f19, H19, %h19⟩⟩
  sl_exec
  sl_step
  isplitl [H14]; · iexact H14
  isplitl [H15]; · iexact H15
  isplitl [H16]; · iexact H16
  isplitl [H17]; · iexact H17
  isplitl [H18]; · iexact H18
  iexists _; isplitl [H19]; · iexact H19
  ipureintro
  exact stepO arg19.view f19 k.val k.isLt (off78_eq k) _ _ _ _ _ _ (w_t10 arg14 arg15 arg16 arg17 arg18 f14 f15 f16 f17 f18 v1 Q K V h14 h15 h16 h17 h18 hn1 hn k) h19

theorem vwhen_t10 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (v1 : Elt Ideal .i32) (Q K V : Fin 1024 → Fin 256 → EReal)
    (h14 : P14 (fun h r s => arg14.view.read (Elt Ideal) f14 (ix3 h r s)) Q 4)
    (h15 : P15 (fun r s => arg15.view.read (Elt Ideal) f15 (ix2 r s)) K v1.toNat 4)
    (h16 : P16 (fun h r s => arg16.view.read (Elt Ideal) f16 (ix3 h r s)) V v1.toNat 4)
    (h17 : P17 (fun r s => arg17.view.read (Elt Ideal) f17 (ix2 r s)) Q 4)
    (h18 : P18 (fun h r s => arg18.view.read (Elt Ideal) f18 (ix3 h r s)) K 4)  (b : BitVec 1) (hn1 : 1 ≤ v1.toNat) (hn : v1.toNat ≤ 896) {α : Type} (p : Prog (TpuEff nD τ sig (Elt Ideal) Λ₀ .tc) α) (Φ : α → sProp 𝕄) :
    (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜(b = 1#1 ∨ PO (fun r s => arg19.view.read (Elt Ideal) f19 (ix2 r s)) v1.toNat Q K V 32) → PO (fun r s => arg19.view.read (Elt Ideal) g19 (ix2 r s)) v1.toNat Q K V 32⌝)) -∗ wp frame (wpE (defs₀ (F := Ideal)) 𝒱₁ (c : Thread nD τ) none) Set.univ p Φ)) : sProp 𝕄)
      ⊢ wp frame (wpE (defs₀ (F := Ideal)) 𝒱₁ (c : Thread nD τ) none) Set.univ
          (if b = 1#1 then do
            Scf.Loop.for k0_t10_loop k0_t10_ok ⟨⟩ (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1)
            p
          else p) Φ := by
  iintro ⟨H14, H15, H16, H17, H18, H19, Hk⟩
  by_cases h : b = 1#1
  · rw [if_pos h]
    ihave HI : iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V 0⌝)) $$ [H14 H15 H16 H17 H18 H19]
    · isplitl [H14]; · iexact H14
      isplitl [H15]; · iexact H15
      isplitl [H16]; · iexact H16
      isplitl [H17]; · iexact H17
      isplitl [H18]; · iexact H18

      iexists _; isplitl [H19]; · iexact H19
      ipureintro; exact fun r s hrs => absurd hrs (Nat.not_lt_zero _)

    iapply (Scf.wp_for_bind frame (wpE (defs₀ (F := Ideal)) 𝒱₁ (c : Thread nD τ) none) Set.univ k0_t10_loop.lb k0_t10_loop.ub k0_t10_loop.st k0_t10_ok (⟨⟩ : Unit) _ (fun it _ => iprop((arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ g19, (arg19.view.loc (c : Thread nD τ) ↦[arg19.view.set]{fullShare} g19) ∗ ⌜PO (fun r s => arg19.view.read (Elt Ideal) g19 (ix2 r s)) v1.toNat Q K V it⌝)))
      (fun k _ => trip_t10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 v1 Q K V h14 h15 h16 h17 h18 hn1 hn  k)) $$ HI
    iintro %acc ⟨H14, H15, H16, H17, H18, ⟨%g19, H19, %h19⟩⟩
    iapply Hk
    isplitl [H14]; · iexact H14
    isplitl [H15]; · iexact H15
    isplitl [H16]; · iexact H16
    isplitl [H17]; · iexact H17
    isplitl [H18]; · iexact H18
    iexists _; isplitl [H19]; · iexact H19
    ipureintro; exact fun _ => h19
  · rw [if_neg h]
    iapply Hk
    isplitl [H14]; · iexact H14
    isplitl [H15]; · iexact H15
    isplitl [H16]; · iexact H16
    isplitl [H17]; · iexact H17
    isplitl [H18]; · iexact H18
    iexists _; isplitl [H19]; · iexact H19
    ipureintro; exact fun hh => hh.resolve_left h

end Cert.Proof.KernelIdeal
end
-- ==== Proof.Finish.lean ====
/-
  The finishing loop of a feature: the output projection of the heads, and the residual added to it.
-/
module

public import proofs.«01_k».proof.Proof.Gen.KernelIdeal.Frame
public import proofs.«01_k».proof.Proof.Gen.KernelIdeal.Skeleton
public import proofs.«01_k».proof.Proof.PrepTrip
public import proofs.«01_k».proof.Proof.AttTrip
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec

/-- Rows written by feature and tile: all of the features below `p`, and the first `k` tiles of feature `p`. -/
def B3 (rd val : Fin 2 → Fin 1024 → Fin 256 → EReal) (p k : ℕ) : Prop :=
  ∀ p' s d, (p'.val < p ∨ p'.val = p ∧ s.val < 256 * k) → rd p' s d = val p' s d

theorem B3.next {rd val : Fin 2 → Fin 1024 → Fin 256 → EReal} {p : ℕ} (h : B3 rd val p 4) : B3 rd val (p + 1) 0 :=
  fun p' s d hs => h p' s d (by omega)

theorem B4.next {R : ℕ} {rd : Fin 2 → Fin R → Fin 1024 → EReal} {val : Fin 2 → Fin 1024 → Fin R → EReal} {p : ℕ} (h : B4 rd val p 4) : B4 rd val (p + 1) 0 :=
  fun p' r s hs => h p' r s (by omega)

theorem step20 {sp : Space} (v : View sig .tc sp S2x1024x256 .f32) (f : v.ty.Contents (Elt Ideal)) (k1 : Fin k0_t1_loop.trips) (k : Fin k0_t11_loop.trips)
    (val : Fin 2 → Fin 1024 → Fin 256 → EReal) (w : S1x256x256.Idx → EReal)
    (hw : ∀ j d, w (ix3 0 j d) = val (fe k1) (rw256 k.val k.isLt j) d)
    (h : B3 (fun p s d => v.read (Elt Ideal) f (ix3 p s d)) val k1.val k.val) :
    B3 (fun p s d => v.read (Elt Ideal) (v.writes (Elt Ideal) f [⟨Rect.unit (s := S2x1024x256) (k0_off80 k1 k) S1x256x256.size (k0_off80_inb k1 k), w⟩]) (ix3 p s d)) val k1.val (k.val + 1) := by
  intro p s d hs
  show v.read (Elt Ideal) _ _ = _
  rw [read_piece3 v f (k0_off80_eq k1 k)]
  split
  · rename_i hin
    have hp : p = fe k1 := Fin.ext (by show p.val = k1.val; omega)
    subst hp
    have e1 : ∀ (a : Fin 1) (j : Fin 256) (d' : Fin 256), d'.val = d.val → 256 * k.val + j.val = s.val → w (ix3 a j d') = val (fe k1) s d := by
      intro a j d' hd hj
      obtain rfl : a = 0 := Subsingleton.elim _ _
      obtain rfl : d' = d := Fin.ext hd
      rw [hw]
      exact congrArg (fun s => val (fe k1) s d') (Fin.ext hj)
    exact e1 _ _ _ (by simp) (by simp only []; omega)
  · rename_i hin
    rw [read_piece_nil]
    apply h
    omega

theorem pay123_apply (v132 v133 : Vec Ideal S256x256 .bf16) (j d : Fin 256) :
    k0_pay123 (F := Ideal) v132 v133 (ix2 j d) = ∑ r : Fin 256, v132 (ix2 r j) * v133 (ix2 r d) := by
  pointwise [k0_pay123]

theorem pay124_apply (v132 v133 : Vec Ideal S256x256 .bf16) (j d : Fin 256) :
    k0_pay124 (F := Ideal) v132 v133 (ix3 0 j d) = ∑ r : Fin 256, v132 (ix2 r j) * v133 (ix2 r d) := by
  pointwise [k0_pay124]
  rw [pay123_apply]

theorem pay125_apply (v132 v133 : Vec Ideal S256x256 .bf16) (v143 : Vec Ideal S1x1x256x256 .f32) (j d : Fin 256) :
    k0_pay125 (F := Ideal) v132 v133 v143 (ix3 0 j d) = v143 (ix4 0 0 j d) + ∑ r : Fin 256, v132 (ix2 r j) * v133 (ix2 r d) := by
  pointwise [k0_pay125]
  rw [pay123_apply]

/-- The output weights. -/
abbrev Wv (arg7 : Memref sig .tc .vmem S256x256 .bf16) (f7 : BufTy.Contents (Elt Ideal) arg7.view.ty) : Fin 256 → Fin 256 → EReal :=
  fun r d => arg7.view.read (Elt Ideal) f7 (ix2 r d)

theorem w_fin (arg7 : Memref sig .tc .vmem S256x256 .bf16) (arg19 : Memref sig .tc .vmem S256x1024 .bf16) (f7 : BufTy.Contents (Elt Ideal) arg7.view.ty) (f19 : BufTy.Contents (Elt Ideal) arg19.view.ty)
    (n : ℕ) (Q K V : Fin 1024 → Fin 256 → EReal) (k : Fin k0_t11_loop.trips)
    (h19 : PO (fun r s => arg19.view.read (Elt Ideal) f19 (ix2 r s)) n Q K V 32) (j d : Fin 256) :
    (∑ r : Fin 256, arg19.view.readAt (Elt Ideal) (Rect.unit (s := S256x1024) (k0_off79 k) S256x256.size (k0_off79_inb k)).toLoadRect f19 (ix2 r j)
        * arg7.view.readAt (Elt Ideal) (Rect.unit (s := S256x256) ![0, 0] S256x256.size inb_S256x256_S256x256_0_0).toLoadRect f7 (ix2 r d))
      = att n Q K V (Wv arg7 f7) (rw256 k.val k.isLt j) d := by
  refine Finset.sum_congr rfl fun r _ => congrArg₂ (· * ·) ?_ ?_
  · exact (readAt2 arg19.view f19 (k0_off79_eq k) _ r j r (rw256 k.val k.isLt j) (by simp) rfl).trans (h19 _ _ (by
      have h1 := (rw256 k.val k.isLt j).isLt
      have h2 := r.isLt
      omega))
  · exact readAt2 arg7.view f7 (off := ![0, 0]) rfl _ r d r d (by simp) (by simp)

theorem trip_t11 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f3 : BufTy.Contents (Elt Ideal) arg3.view.ty) (f7 : BufTy.Contents (Elt Ideal) arg7.view.ty) (f19 : BufTy.Contents (Elt Ideal) arg19.view.ty) (n : ℕ) (Q K V : Fin 2 → Fin 1024 → Fin 256 → EReal) (k1 : Fin k0_t1_loop.trips)
    (h19 : PO (fun r s => arg19.view.read (Elt Ideal) f19 (ix2 r s)) n (Q (fe k1)) (K (fe k1)) (V (fe k1)) 32) (k : Fin k0_t11_loop.trips) :
    (iprop((arg3.view.loc (c : Thread nD τ) ↦[arg3.view.set]{fullShare} f3) ∗ (arg7.view.loc (c : Thread nD τ) ↦[arg7.view.set]{fullShare} f7) ∗ (arg19.view.loc (c : Thread nD τ) ↦[arg19.view.set]{fullShare} f19) ∗ (∃ g20, (arg20.view.loc (c : Thread nD τ) ↦[arg20.view.set]{fullShare} g20) ∗ ⌜B3 (fun p s d => arg20.view.read (Elt Ideal) g20 (ix3 p s d)) (fun p s d => Xv arg3 f3 p s d + att n (Q p) (K p) (V p) (Wv arg7 f7) s d) k1.val k.val⌝) ∗ (∃ g21, (arg21.view.loc (c : Thread nD τ) ↦[arg21.view.set]{fullShare} g21) ∗ ⌜B3 (fun p s d => arg21.view.read (Elt Ideal) g21 (ix3 p s d)) (fun p s d => att n (Q p) (K p) (V p) (Wv arg7 f7) s d) k1.val k.val⌝)) : sProp 𝕄)
      ⊢ wp frame (wpE (defs₀ (F := Ideal)) 𝒱₁ (c : Thread nD τ) none) Set.univ (k0_t11_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k1 k PUnit.unit)
      (fun _ => iprop((arg3.view.loc (c : Thread nD τ) ↦[arg3.view.set]{fullShare} f3) ∗ (arg7.view.loc (c : Thread nD τ) ↦[arg7.view.set]{fullShare} f7) ∗ (arg19.view.loc (c : Thread nD τ) ↦[arg19.view.set]{fullShare} f19) ∗ (∃ g20, (arg20.view.loc (c : Thread nD τ) ↦[arg20.view.set]{fullShare} g20) ∗ ⌜B3 (fun p s d => arg20.view.read (Elt Ideal) g20 (ix3 p s d)) (fun p s d => Xv arg3 f3 p s d + att n (Q p) (K p) (V p) (Wv arg7 f7) s d) k1.val (k.val + 1)⌝) ∗ (∃ g21, (arg21.view.loc (c : Thread nD τ) ↦[arg21.view.set]{fullShare} g21) ∗ ⌜B3 (fun p s d => arg21.view.read (Elt Ideal) g21 (ix3 p s d)) (fun p s d => att n (Q p) (K p) (V p) (Wv arg7 f7) s d) k1.val (k.val + 1)⌝))) := by
  unfold k0_t11_body
  iintro ⟨H3, H7, H19, ⟨%f20, H20, %h20⟩, ⟨%f21, H21, %h21⟩⟩
  sl_exec
  sl_step
  isplitl [H3]; · iexact H3
  isplitl [H7]; · iexact H7
  isplitl [H19]; · iexact H19
  isplitl [H20]
  · iexists _; isplitl [H20]; · iexact H20
    ipureintro
    refine step20 arg20.view f20 k1 k _ _ (fun j d => ?_) h20
    refine (pay125_apply _ _ _ j d).trans (congrArg₂ (· + ·) ?_ (w_fin arg7 arg19 f7 f19 n _ _ _ k h19 j d))
    exact readAt4 arg3.view f3 (k0_off81_eq k1 k) _ 0 0 j d 0 (fe k1) (rw256 k.val k.isLt j) d (by simp) (by simp) rfl (by simp)
  · iexists _; isplitl [H21]; · iexact H21
    ipureintro
    exact step20 arg21.view f21 k1 k _ _ (fun j d => (pay124_apply _ _ j d).trans (w_fin arg7 arg19 f7 f19 n _ _ _ k h19 j d)) h21

end Cert.Proof.KernelIdeal
end
-- ==== Proof.Feature.lean ====
/-
  One feature of a point: prepare, attend, finish.
-/
module

public import proofs.«01_k».proof.Proof.Gen.KernelIdeal.Frame
public import proofs.«01_k».proof.Proof.Gen.KernelIdeal.Skeleton
public import proofs.«01_k».proof.Proof.Finish
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec

theorem b_iff (v20 j : BitVec 32) : Scalar.cmpi .ne (Scalar.extui (Scalar.cmpi .eq v20 j) : BitVec 32) 0#32 = 1#1 ↔ v20 = j := by
  by_cases h : v20 = j
  · simp [h, Scalar.cmpi, Scalar.extui, IntOp.cmpi]
  · have e : (v20 == j) = false := by simpa using h
    simp [h, e, Scalar.cmpi, Scalar.extui, IntOp.cmpi]

/-- The number of key tiles of a batch entry. -/
abbrev tl (v1 : BitVec 32) : BitVec 32 := BitVec.ofNat 32 ((v1.toNat + 127) / 128)

theorem b_le (v1 : BitVec 32) (h1 : v1.toNat ≤ 896) (j : ℕ) (hj : j < 8)
    (h : Scalar.cmpi .ne (Scalar.extui (Scalar.cmpi .eq (tl v1) (BitVec.ofNat 32 j)) : BitVec 32) 0#32 = 1#1) : v1.toNat ≤ 128 * j := by
  have e := congrArg BitVec.toNat ((b_iff _ _).mp h)
  simp only [tl, BitVec.toNat_ofNat] at e
  omega

theorem b_some (v1 : BitVec 32) (h0 : 1 ≤ v1.toNat) (h1 : v1.toNat ≤ 896) :
    ∃ j : ℕ, 1 ≤ j ∧ j < 8 ∧ Scalar.cmpi .ne (Scalar.extui (Scalar.cmpi .eq (tl v1) (BitVec.ofNat 32 j)) : BitVec 32) 0#32 = 1#1 :=
  ⟨(v1.toNat + 127) / 128, by omega, by omega, (b_iff _ _).mpr rfl⟩

theorem loop_t2 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt Ideal .i32) (v20 : BitVec 32) (v22 : FVec Ideal S1x256 .f32) (v24 : FVec Ideal S1x256 .f32) (k1 : Fin k0_t1_loop.trips) (arg24 : BitVec 32) (f3 : BufTy.Contents (Elt Ideal) arg3.view.ty) (f6 : BufTy.Contents (Elt Ideal) arg6.view.ty)
    (hn : v1.toNat < 2 ^ 31) {α : Type} (p : Unit → Prog (TpuEff nD τ sig (Elt Ideal) Λ₀ .tc) α) (Φ : α → sProp 𝕄) :
    (iprop((arg3.view.loc (c : Thread nD τ) ↦[arg3.view.set]{fullShare} f3) ∗ (arg6.view.loc (c : Thread nD τ) ↦[arg6.view.set]{fullShare} f6) ∗ (∃ g10, (arg10.view.loc (c : Thread nD τ) ↦[arg10.view.set]{fullShare} g10) ∗ ⌜B4 (fun p r s => arg10.view.read (Elt Ideal) g10 (ix4 0 p r s)) (fun p s r => cd ((Qv v22 v24 (Xv arg3 f3) (arg6.view.read (Elt Ideal) f6)) p s) r) k1.val 0⌝) ∗ (∃ g11, (arg11.view.loc (c : Thread nD τ) ↦[arg11.view.set]{fullShare} g11) ∗ ⌜B4 (fun p r s => arg11.view.read (Elt Ideal) g11 (ix4 0 p r s)) (fun p s h => sc ((Qv v22 v24 (Xv arg3 f3) (arg6.view.read (Elt Ideal) f6)) p s) h) k1.val 0⌝) ∗ (∃ g12, (arg12.view.loc (c : Thread nD τ) ↦[arg12.view.set]{fullShare} g12) ∗ ⌜B4 (fun p r s => arg12.view.read (Elt Ideal) g12 (ix4 0 p r s)) (fun p s r => cd ((Kv v22 v24 (Xv arg3 f3) (arg6.view.read (Elt Ideal) f6)) p s) r) k1.val 0⌝) ∗ (∃ g13, (arg13.view.loc (c : Thread nD τ) ↦[arg13.view.set]{fullShare} g13) ∗ ⌜B4 (fun p r s => arg13.view.read (Elt Ideal) g13 (ix4 0 p r s)) (fun p s h => sc ((Kv v22 v24 (Xv arg3 f3) (arg6.view.read (Elt Ideal) f6)) p s) h) k1.val 0⌝) ∗ (∃ g14, (arg14.view.loc (c : Thread nD τ) ↦[arg14.view.set]{fullShare} g14) ∗ ⌜P14 (fun h r s => arg14.view.read (Elt Ideal) g14 (ix3 h r s)) ((Qv v22 v24 (Xv arg3 f3) (arg6.view.read (Elt Ideal) f6)) (fe k1)) 0⌝) ∗ (∃ g15, (arg15.view.loc (c : Thread nD τ) ↦[arg15.view.set]{fullShare} g15) ∗ ⌜P15 (fun r s => arg15.view.read (Elt Ideal) g15 (ix2 r s)) ((Kv v22 v24 (Xv arg3 f3) (arg6.view.read (Elt Ideal) f6)) (fe k1)) v1.toNat 0⌝) ∗ (∃ g16, (arg16.view.loc (c : Thread nD τ) ↦[arg16.view.set]{fullShare} g16) ∗ ⌜P16 (fun h r s => arg16.view.read (Elt Ideal) g16 (ix3 h r s)) ((Vv v22 v24 (Xv arg3 f3) (arg6.view.read (Elt Ideal) f6)) (fe k1)) v1.toNat 0⌝) ∗ (∃ g17, (arg17.view.loc (c : Thread nD τ) ↦[arg17.view.set]{fullShare} g17) ∗ ⌜P17 (fun r s => arg17.view.read (Elt Ideal) g17 (ix2 r s)) ((Qv v22 v24 (Xv arg3 f3) (arg6.view.read (Elt Ideal) f6)) (fe k1)) 0⌝) ∗ (∃ g18, (arg18.view.loc (c : Thread nD τ) ↦[arg18.view.set]{fullShare} g18) ∗ ⌜P18 (fun h r s => arg18.view.read (Elt Ideal) g18 (ix3 h r s)) ((Kv v22 v24 (Xv arg3 f3) (arg6.view.read (Elt Ideal) f6)) (fe k1)) 0⌝)) : sProp 𝕄) ⊢
      iprop((∀ acc : Unit, iprop((arg3.view.loc (c : Thread nD τ) ↦[arg3.view.set]{fullShare} f3) ∗ (arg6.view.loc (c : Thread nD τ) ↦[arg6.view.set]{fullShare} f6) ∗ (∃ g10, (arg10.view.loc (c : Thread nD τ) ↦[arg10.view.set]{fullShare} g10) ∗ ⌜B4 (fun p r s => arg10.view.read (Elt Ideal) g10 (ix4 0 p r s)) (fun p s r => cd ((Qv v22 v24 (Xv arg3 f3) (arg6.view.read (Elt Ideal) f6)) p s) r) k1.val 4⌝) ∗ (∃ g11, (arg11.view.loc (c : Thread nD τ) ↦[arg11.view.set]{fullShare} g11) ∗ ⌜B4 (fun p r s => arg11.view.read (Elt Ideal) g11 (ix4 0 p r s)) (fun p s h => sc ((Qv v22 v24 (Xv arg3 f3) (arg6.view.read (Elt Ideal) f6)) p s) h) k1.val 4⌝) ∗ (∃ g12, (arg12.view.loc (c : Thread nD τ) ↦[arg12.view.set]{fullShare} g12) ∗ ⌜B4 (fun p r s => arg12.view.read (Elt Ideal) g12 (ix4 0 p r s)) (fun p s r => cd ((Kv v22 v24 (Xv arg3 f3) (arg6.view.read (Elt Ideal) f6)) p s) r) k1.val 4⌝) ∗ (∃ g13, (arg13.view.loc (c : Thread nD τ) ↦[arg13.view.set]{fullShare} g13) ∗ ⌜B4 (fun p r s => arg13.view.read (Elt Ideal) g13 (ix4 0 p r s)) (fun p s h => sc ((Kv v22 v24 (Xv arg3 f3) (arg6.view.read (Elt Ideal) f6)) p s) h) k1.val 4⌝) ∗ (∃ g14, (arg14.view.loc (c : Thread nD τ) ↦[arg14.view.set]{fullShare} g14) ∗ ⌜P14 (fun h r s => arg14.view.read (Elt Ideal) g14 (ix3 h r s)) ((Qv v22 v24 (Xv arg3 f3) (arg6.view.read (Elt Ideal) f6)) (fe k1)) 4⌝) ∗ (∃ g15, (arg15.view.loc (c : Thread nD τ) ↦[arg15.view.set]{fullShare} g15) ∗ ⌜P15 (fun r s => arg15.view.read (Elt Ideal) g15 (ix2 r s)) ((Kv v22 v24 (Xv arg3 f3) (arg6.view.read (Elt Ideal) f6)) (fe k1)) v1.toNat 4⌝) ∗ (∃ g16, (arg16.view.loc (c : Thread nD τ) ↦[arg16.view.set]{fullShare} g16) ∗ ⌜P16 (fun h r s => arg16.view.read (Elt Ideal) g16 (ix3 h r s)) ((Vv v22 v24 (Xv arg3 f3) (arg6.view.read (Elt Ideal) f6)) (fe k1)) v1.toNat 4⌝) ∗ (∃ g17, (arg17.view.loc (c : Thread nD τ) ↦[arg17.view.set]{fullShare} g17) ∗ ⌜P17 (fun r s => arg17.view.read (Elt Ideal) g17 (ix2 r s)) ((Qv v22 v24 (Xv arg3 f3) (arg6.view.read (Elt Ideal) f6)) (fe k1)) 4⌝) ∗ (∃ g18, (arg18.view.loc (c : Thread nD τ) ↦[arg18.view.set]{fullShare} g18) ∗ ⌜P18 (fun h r s => arg18.view.read (Elt Ideal) g18 (ix3 h r s)) ((Kv v22 v24 (Xv arg3 f3) (arg6.view.read (Elt Ideal) f6)) (fe k1)) 4⌝)) -∗ wp frame (wpE (defs₀ (F := Ideal)) 𝒱₁ (c : Thread nD τ) none) Set.univ (p acc) Φ) -∗ wp frame (wpE (defs₀ (F := Ideal)) 𝒱₁ (c : Thread nD τ) none) Set.univ (Scf.Loop.for k0_t2_loop k0_t2_ok ⟨⟩ (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 0#32 1#32 k1 arg24) >>= p) Φ) := by
  refine Scf.wp_for_bind frame (wpE (defs₀ (F := Ideal)) 𝒱₁ (c : Thread nD τ) none) Set.univ k0_t2_loop.lb k0_t2_loop.ub k0_t2_loop.st k0_t2_ok (⟨⟩ : Unit) _ (fun k _ => iprop((arg3.view.loc (c : Thread nD τ) ↦[arg3.view.set]{fullShare} f3) ∗ (arg6.view.loc (c : Thread nD τ) ↦[arg6.view.set]{fullShare} f6) ∗ (∃ g10, (arg10.view.loc (c : Thread nD τ) ↦[arg10.view.set]{fullShare} g10) ∗ ⌜B4 (fun p r s => arg10.view.read (Elt Ideal) g10 (ix4 0 p r s)) (fun p s r => cd ((Qv v22 v24 (Xv arg3 f3) (arg6.view.read (Elt Ideal) f6)) p s) r) k1.val k⌝) ∗ (∃ g11, (arg11.view.loc (c : Thread nD τ) ↦[arg11.view.set]{fullShare} g11) ∗ ⌜B4 (fun p r s => arg11.view.read (Elt Ideal) g11 (ix4 0 p r s)) (fun p s h => sc ((Qv v22 v24 (Xv arg3 f3) (arg6.view.read (Elt Ideal) f6)) p s) h) k1.val k⌝) ∗ (∃ g12, (arg12.view.loc (c : Thread nD τ) ↦[arg12.view.set]{fullShare} g12) ∗ ⌜B4 (fun p r s => arg12.view.read (Elt Ideal) g12 (ix4 0 p r s)) (fun p s r => cd ((Kv v22 v24 (Xv arg3 f3) (arg6.view.read (Elt Ideal) f6)) p s) r) k1.val k⌝) ∗ (∃ g13, (arg13.view.loc (c : Thread nD τ) ↦[arg13.view.set]{fullShare} g13) ∗ ⌜B4 (fun p r s => arg13.view.read (Elt Ideal) g13 (ix4 0 p r s)) (fun p s h => sc ((Kv v22 v24 (Xv arg3 f3) (arg6.view.read (Elt Ideal) f6)) p s) h) k1.val k⌝) ∗ (∃ g14, (arg14.view.loc (c : Thread nD τ) ↦[arg14.view.set]{fullShare} g14) ∗ ⌜P14 (fun h r s => arg14.view.read (Elt Ideal) g14 (ix3 h r s)) ((Qv v22 v24 (Xv arg3 f3) (arg6.view.read (Elt Ideal) f6)) (fe k1)) k⌝) ∗ (∃ g15, (arg15.view.loc (c : Thread nD τ) ↦[arg15.view.set]{fullShare} g15) ∗ ⌜P15 (fun r s => arg15.view.read (Elt Ideal) g15 (ix2 r s)) ((Kv v22 v24 (Xv arg3 f3) (arg6.view.read (Elt Ideal) f6)) (fe k1)) v1.toNat k⌝) ∗ (∃ g16, (arg16.view.loc (c : Thread nD τ) ↦[arg16.view.set]{fullShare} g16) ∗ ⌜P16 (fun h r s => arg16.view.read (Elt Ideal) g16 (ix3 h r s)) ((Vv v22 v24 (Xv arg3 f3) (arg6.view.read (Elt Ideal) f6)) (fe k1)) v1.toNat k⌝) ∗ (∃ g17, (arg17.view.loc (c : Thread nD τ) ↦[arg17.view.set]{fullShare} g17) ∗ ⌜P17 (fun r s => arg17.view.read (Elt Ideal) g17 (ix2 r s)) ((Qv v22 v24 (Xv arg3 f3) (arg6.view.read (Elt Ideal) f6)) (fe k1)) k⌝) ∗ (∃ g18, (arg18.view.loc (c : Thread nD τ) ↦[arg18.view.set]{fullShare} g18) ∗ ⌜P18 (fun h r s => arg18.view.read (Elt Ideal) g18 (ix3 h r s)) ((Kv v22 v24 (Xv arg3 f3) (arg6.view.read (Elt Ideal) f6)) (fe k1)) k⌝))) (fun k acc => ?_)
  iintro ⟨H3, H6, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩⟩
  iapply (trip_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v22 v24 k1 arg24 f3 f6 f10 f11 f12 f13 f14 f15 f16 f17 f18 k hn h10 h11 h12 h13 h14 h15 h16 h17 h18)
  isplitl [H3]; · iexact H3
  isplitl [H6]; · iexact H6
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 8000000 in
theorem trip_t1 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 : Elt Ideal .i32) (v21 : Vec Ideal S1x256 .f32) (v23 : Vec Ideal S1x256 .f32) (k1 : Fin k0_t1_loop.trips) (f3 : BufTy.Contents (Elt Ideal) arg3.view.ty) (f6 : BufTy.Contents (Elt Ideal) arg6.view.ty) (f7 : BufTy.Contents (Elt Ideal) arg7.view.ty)
    (hn0 : 1 ≤ v1.toNat) (hn : v1.toNat ≤ 896) :
    (iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv (k0_pay107 (F := Ideal) v21) (k0_pay108 (F := Ideal) v23) (Xv arg3 f3) (arg6.view.read (Elt Ideal) f6)) p s) r) k1.val 0⌝) ∗ (∃ g11, (arg11.view.loc (c : Thread nD τ) ↦[arg11.view.set]{fullShare} g11) ∗ ⌜B4 (fun p r s => arg11.view.read (Elt Ideal) g11 (ix4 0 p r s)) (fun p s h => sc ((Qv (k0_pay107 (F := Ideal) v21) (k0_pay108 (F := Ideal) v23) (Xv arg3 f3) (arg6.view.read (Elt Ideal) f6)) p s) h) k1.val 0⌝) ∗ (∃ g12, (arg12.view.loc (c : Thread nD τ) ↦[arg12.view.set]{fullShare} g12) ∗ ⌜B4 (fun p r s => arg12.view.read (Elt Ideal) g12 (ix4 0 p r s)) (fun p s r => cd ((Kv (k0_pay107 (F := Ideal) v21) (k0_pay108 (F := Ideal) v23) (Xv arg3 f3) (arg6.view.read (Elt Ideal) f6)) p s) r) k1.val 0⌝) ∗ (∃ g13, (arg13.view.loc (c : Thread nD τ) ↦[arg13.view.set]{fullShare} g13) ∗ ⌜B4 (fun p r s => arg13.view.read (Elt Ideal) g13 (ix4 0 p r s)) (fun p s h => sc ((Kv (k0_pay107 (F := Ideal) v21) (k0_pay108 (F := Ideal) v23) (Xv arg3 f3) (arg6.view.read (Elt Ideal) f6)) p s) h) k1.val 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val 0⌝) ∗ (∃ g21, (arg21.view.loc (c : Thread nD τ) ↦[arg21.view.set]{fullShare} g21) ∗ ⌜B3 (fun p s d => arg21.view.read (Elt Ideal) g21 (ix3 p s d)) (fun p s d => att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val 0⌝) ∗ (∃ g23, (arg23.view.loc (c : Thread nD τ) ↦[arg23.view.set]{fullShare} g23))) : sProp 𝕄) ⊢ wp frame (wpE (defs₀ (F := Ideal)) 𝒱₁ (c : Thread nD τ) none) Set.univ (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 (tl v1) v21 v23 k1 PUnit.unit)
     (fun _ => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv (k0_pay107 (F := Ideal) v21) (k0_pay108 (F := Ideal) v23) (Xv arg3 f3) (arg6.view.read (Elt Ideal) f6)) p s) r) (k1.val + 1) 0⌝) ∗ (∃ g11, (arg11.view.loc (c : Thread nD τ) ↦[arg11.view.set]{fullShare} g11) ∗ ⌜B4 (fun p r s => arg11.view.read (Elt Ideal) g11 (ix4 0 p r s)) (fun p s h => sc ((Qv (k0_pay107 (F := Ideal) v21) (k0_pay108 (F := Ideal) v23) (Xv arg3 f3) (arg6.view.read (Elt Ideal) f6)) p s) h) (k1.val + 1) 0⌝) ∗ (∃ g12, (arg12.view.loc (c : Thread nD τ) ↦[arg12.view.set]{fullShare} g12) ∗ ⌜B4 (fun p r s => arg12.view.read (Elt Ideal) g12 (ix4 0 p r s)) (fun p s r => cd ((Kv (k0_pay107 (F := Ideal) v21) (k0_pay108 (F := Ideal) v23) (Xv arg3 f3) (arg6.view.read (Elt Ideal) f6)) p s) r) (k1.val + 1) 0⌝) ∗ (∃ g13, (arg13.view.loc (c : Thread nD τ) ↦[arg13.view.set]{fullShare} g13) ∗ ⌜B4 (fun p r s => arg13.view.read (Elt Ideal) g13 (ix4 0 p r s)) (fun p s h => sc ((Kv (k0_pay107 (F := Ideal) v21) (k0_pay108 (F := Ideal) v23) (Xv arg3 f3) (arg6.view.read (Elt Ideal) f6)) p s) h) (k1.val + 1) 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) (k1.val + 1) 0⌝) ∗ (∃ g21, (arg21.view.loc (c : Thread nD τ) ↦[arg21.view.set]{fullShare} g21) ∗ ⌜B3 (fun p s d => arg21.view.read (Elt Ideal) g21 (ix3 p s d)) (fun p s d => att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) (k1.val + 1) 0⌝) ∗ (∃ g23, (arg23.view.loc (c : Thread nD τ) ↦[arg23.view.set]{fullShare} g23)))) := by
  unfold k0_t1_body
  iintro ⟨H3, H6, H7, ⟨%f10, H10, %h10⟩, ⟨%f11, H11, %h11⟩, ⟨%f12, H12, %h12⟩, ⟨%f13, H13, %h13⟩, ⟨%f14, H14, %h14⟩, ⟨%f15, H15⟩, ⟨%f16, H16⟩, ⟨%f17, H17⟩, ⟨%f18, H18⟩, ⟨%f19, H19⟩, ⟨%f20, H20, %h20⟩, ⟨%f21, H21, %h21⟩, ⟨%f23, H23⟩⟩
  ihave HI : iprop((arg3.view.loc (c : Thread nD τ) ↦[arg3.view.set]{fullShare} f3) ∗ (arg6.view.loc (c : Thread nD τ) ↦[arg6.view.set]{fullShare} f6) ∗ (∃ g10, (arg10.view.loc (c : Thread nD τ) ↦[arg10.view.set]{fullShare} g10) ∗ ⌜B4 (fun p r s => arg10.view.read (Elt Ideal) g10 (ix4 0 p r s)) (fun p s r => cd ((Qv (k0_pay107 (F := Ideal) v21) (k0_pay108 (F := Ideal) v23) (Xv arg3 f3) (arg6.view.read (Elt Ideal) f6)) p s) r) k1.val 0⌝) ∗ (∃ g11, (arg11.view.loc (c : Thread nD τ) ↦[arg11.view.set]{fullShare} g11) ∗ ⌜B4 (fun p r s => arg11.view.read (Elt Ideal) g11 (ix4 0 p r s)) (fun p s h => sc ((Qv (k0_pay107 (F := Ideal) v21) (k0_pay108 (F := Ideal) v23) (Xv arg3 f3) (arg6.view.read (Elt Ideal) f6)) p s) h) k1.val 0⌝) ∗ (∃ g12, (arg12.view.loc (c : Thread nD τ) ↦[arg12.view.set]{fullShare} g12) ∗ ⌜B4 (fun p r s => arg12.view.read (Elt Ideal) g12 (ix4 0 p r s)) (fun p s r => cd ((Kv (k0_pay107 (F := Ideal) v21) (k0_pay108 (F := Ideal) v23) (Xv arg3 f3) (arg6.view.read (Elt Ideal) f6)) p s) r) k1.val 0⌝) ∗ (∃ g13, (arg13.view.loc (c : Thread nD τ) ↦[arg13.view.set]{fullShare} g13) ∗ ⌜B4 (fun p r s => arg13.view.read (Elt Ideal) g13 (ix4 0 p r s)) (fun p s h => sc ((Kv (k0_pay107 (F := Ideal) v21) (k0_pay108 (F := Ideal) v23) (Xv arg3 f3) (arg6.view.read (Elt Ideal) f6)) p s) h) k1.val 0⌝) ∗ (∃ g14, (arg14.view.loc (c : Thread nD τ) ↦[arg14.view.set]{fullShare} g14) ∗ ⌜P14 (fun h r s => arg14.view.read (Elt Ideal) g14 (ix3 h r s)) ((Qv (k0_pay107 (F := Ideal) v21) (k0_pay108 (F := Ideal) v23) (Xv arg3 f3) (arg6.view.read (Elt Ideal) f6)) (fe k1)) 0⌝) ∗ (∃ g15, (arg15.view.loc (c : Thread nD τ) ↦[arg15.view.set]{fullShare} g15) ∗ ⌜P15 (fun r s => arg15.view.read (Elt Ideal) g15 (ix2 r s)) ((Kv (k0_pay107 (F := Ideal) v21) (k0_pay108 (F := Ideal) v23) (Xv arg3 f3) (arg6.view.read (Elt Ideal) f6)) (fe k1)) v1.toNat 0⌝) ∗ (∃ g16, (arg16.view.loc (c : Thread nD τ) ↦[arg16.view.set]{fullShare} g16) ∗ ⌜P16 (fun h r s => arg16.view.read (Elt Ideal) g16 (ix3 h r s)) ((Vv (k0_pay107 (F := Ideal) v21) (k0_pay108 (F := Ideal) v23) (Xv arg3 f3) (arg6.view.read (Elt Ideal) f6)) (fe k1)) v1.toNat 0⌝) ∗ (∃ g17, (arg17.view.loc (c : Thread nD τ) ↦[arg17.view.set]{fullShare} g17) ∗ ⌜P17 (fun r s => arg17.view.read (Elt Ideal) g17 (ix2 r s)) ((Qv (k0_pay107 (F := Ideal) v21) (k0_pay108 (F := Ideal) v23) (Xv arg3 f3) (arg6.view.read (Elt Ideal) f6)) (fe k1)) 0⌝) ∗ (∃ g18, (arg18.view.loc (c : Thread nD τ) ↦[arg18.view.set]{fullShare} g18) ∗ ⌜P18 (fun h r s => arg18.view.read (Elt Ideal) g18 (ix3 h r s)) ((Kv (k0_pay107 (F := Ideal) v21) (k0_pay108 (F := Ideal) v23) (Xv arg3 f3) (arg6.view.read (Elt Ideal) f6)) (fe k1)) 0⌝)) $$ [H3 H6 H10 H11 H12 H13 H14 H15 H16 H17 H18]
  · isplitl [H3]; · iexact H3
    isplitl [H6]; · iexact H6
    isplitl [H10]
    · iexists _; isplitl [H10]; · iexact H10
      ipureintro; exact h10
    isplitl [H11]
    · iexists _; isplitl [H11]; · iexact H11
      ipureintro; exact h11
    isplitl [H12]
    · iexists _; isplitl [H12]; · iexact H12
      ipureintro; exact h12
    isplitl [H13]
    · iexists _; isplitl [H13]; · iexact H13
      ipureintro; exact h13
    isplitl [H14]
    · iexists _; isplitl [H14]; · iexact H14
      ipureintro; exact ⟨fun _ _ _ hs => absurd hs (Nat.not_lt_zero _), h14⟩
    isplitl [H15]
    · iexists _; isplitl [H15]; · iexact H15
      ipureintro; exact fun _ _ hs => absurd hs (Nat.not_lt_zero _)
    isplitl [H16]
    · iexists _; isplitl [H16]; · iexact H16
      ipureintro; exact fun _ _ _ hs => absurd hs (Nat.not_lt_zero _)
    isplitl [H17]
    · iexists _; isplitl [H17]; · iexact H17
      ipureintro; exact fun _ _ hs => absurd hs (Nat.not_lt_zero _)
    iexists _; isplitl [H18]; · iexact H18
    ipureintro; exact fun _ _ _ hs => absurd hs (Nat.not_lt_zero _)
  sl_exec
  iapply (loop_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 (tl v1) (k0_pay107 (F := Ideal) v21) (k0_pay108 (F := Ideal) v23) k1 _ f3 f6 (by omega) _ _) $$ HI
  iintro %acc ⟨H3, H6, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩⟩
  sl_exec
  iapply (vwhen_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 (tl v1) (k0_pay107 (F := Ideal) v21) (k0_pay108 (F := Ideal) v23) 0#32 1#32 k1 _ (fun hb => b_le v1 hn 1 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g3, H19, %q3⟩, ⟨%s3, H23⟩⟩
  sl_exec
  iapply (vwhen_t4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 (tl v1) (k0_pay107 (F := Ideal) v21) (k0_pay108 (F := Ideal) v23) 0#32 1#32 k1 _ (fun hb => b_le v1 hn 2 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g4, H19, %q4⟩, ⟨%s4, H23⟩⟩
  sl_exec
  iapply (vwhen_t5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 (tl v1) (k0_pay107 (F := Ideal) v21) (k0_pay108 (F := Ideal) v23) 0#32 1#32 k1 _ (fun hb => b_le v1 hn 3 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g5, H19, %q5⟩, ⟨%s5, H23⟩⟩
  sl_exec
  iapply (vwhen_t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 (tl v1) (k0_pay107 (F := Ideal) v21) (k0_pay108 (F := Ideal) v23) 0#32 1#32 k1 _ (fun hb => b_le v1 hn 4 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g6, H19, %q6⟩, ⟨%s6, H23⟩⟩
  sl_exec
  iapply (vwhen_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 (tl v1) (k0_pay107 (F := Ideal) v21) (k0_pay108 (F := Ideal) v23) 0#32 1#32 k1 _ (fun hb => b_le v1 hn 5 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g7, H19, %q7⟩, ⟨%s7, H23⟩⟩
  sl_exec
  iapply (vwhen_t8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 _ (fun hb => b_le v1 hn 6 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g8, H19, %q8⟩, ⟨%s8, H23⟩⟩
  sl_exec
  iapply (vwhen_t9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 _ (fun hb => b_le v1 hn 7 (by decide) hb) _ _)
  isplitl [H14]; · iexact H14
  isplitl [H15]; · iexact H15
  isplitl [H16]; · iexact H16
  isplitl [H17]; · iexact H17
  isplitl [H18]; · iexact H18
  isplitl [H19]; · iexact H19
  isplitl [H23]; · iexists _; iexact H23
  iintro ⟨H14, H15, H16, H17, H18, ⟨%g9, H19, %q9⟩, ⟨%s9, H23⟩⟩
  sl_exec
  iapply (vwhen_t10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f14 f15 f16 f17 f18 _ v1 _ _ _ h14 h15 h16 h17 h18 _ hn0 hn _ _)
  isplitl [H14]; · iexact H14
  isplitl [H15]; · iexact H15
  isplitl [H16]; · iexact H16
  isplitl [H17]; · iexact H17
  isplitl [H18]; · iexact H18
  isplitl [H19]; · iexact H19
  iintro ⟨H14, H15, H16, H17, H18, ⟨%g10, H19, %q10⟩⟩
  sl_exec
  have hPO : PO (fun r s => arg19.view.read (Elt Ideal) g10 (ix2 r s)) v1.toNat ((Qv (k0_pay107 (F := Ideal) v21) (k0_pay108 (F := Ideal) v23) (Xv arg3 f3) (arg6.view.read (Elt Ideal) f6)) (fe k1)) ((Kv (k0_pay107 (F := Ideal) v21) (k0_pay108 (F := Ideal) v23) (Xv arg3 f3) (arg6.view.read (Elt Ideal) f6)) (fe k1)) ((Vv (k0_pay107 (F := Ideal) v21) (k0_pay108 (F := Ideal) v23) (Xv arg3 f3) (arg6.view.read (Elt Ideal) f6)) (fe k1)) 32 := by
    obtain ⟨j, hj0, hj1, hb⟩ := b_some v1 hn0 hn
    have hj : j = 1 ∨ j = 2 ∨ j = 3 ∨ j = 4 ∨ j = 5 ∨ j = 6 ∨ j = 7 := by omega
    apply q10; right
    rcases hj with rfl | rfl | rfl | rfl | rfl | rfl | rfl
    · exact q9 (.inr (q8 (.inr (q7 (.inr (q6 (.inr (q5 (.inr (q4 (.inr (q3 (.inl hb)))))))))))))
    · exact q9 (.inr (q8 (.inr (q7 (.inr (q6 (.inr (q5 (.inr (q4 (.inl hb)))))))))))
    · exact q9 (.inr (q8 (.inr (q7 (.inr (q6 (.inr (q5 (.inl hb)))))))))
    · exact q9 (.inr (q8 (.inr (q7 (.inr (q6 (.inl hb)))))))
    · exact q9 (.inr (q8 (.inr (q7 (.inl hb)))))
    · exact q9 (.inr (q8 (.inl hb)))
    · exact q9 (.inl hb)
  ihave HJ : iprop((arg3.view.loc (c : Thread nD τ) ↦[arg3.view.set]{fullShare} f3) ∗ (arg7.view.loc (c : Thread nD τ) ↦[arg7.view.set]{fullShare} f7) ∗ (arg19.view.loc (c : Thread nD τ) ↦[arg19.view.set]{fullShare} g10) ∗ (∃ g20, (arg20.view.loc (c : Thread nD τ) ↦[arg20.view.set]{fullShare} g20) ∗ ⌜B3 (fun p s d => arg20.view.read (Elt Ideal) g20 (ix3 p s d)) (fun p s d => Xv arg3 f3 p s d + att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val 0⌝) ∗ (∃ g21, (arg21.view.loc (c : Thread nD τ) ↦[arg21.view.set]{fullShare} g21) ∗ ⌜B3 (fun p s d => arg21.view.read (Elt Ideal) g21 (ix3 p s d)) (fun p s d => att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val 0⌝)) $$ [H3 H7 H19 H20 H21]
  · isplitl [H3]; · iexact H3
    isplitl [H7]; · iexact H7
    isplitl [H19]; · iexact H19
    isplitl [H20]
    · iexists _; isplitl [H20]; · iexact H20
      ipureintro; exact h20
    iexists _; isplitl [H21]; · iexact H21
    ipureintro; exact h21
  iapply (Scf.wp_for_bind frame (wpE (defs₀ (F := Ideal)) 𝒱₁ (c : Thread nD τ) none) Set.univ k0_t11_loop.lb k0_t11_loop.ub k0_t11_loop.st k0_t11_ok (⟨⟩ : Unit) _
    (fun k _ => iprop((arg3.view.loc (c : Thread nD τ) ↦[arg3.view.set]{fullShare} f3) ∗ (arg7.view.loc (c : Thread nD τ) ↦[arg7.view.set]{fullShare} f7) ∗ (arg19.view.loc (c : Thread nD τ) ↦[arg19.view.set]{fullShare} g10) ∗ (∃ g20, (arg20.view.loc (c : Thread nD τ) ↦[arg20.view.set]{fullShare} g20) ∗ ⌜B3 (fun p s d => arg20.view.read (Elt Ideal) g20 (ix3 p s d)) (fun p s d => Xv arg3 f3 p s d + att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val k⌝) ∗ (∃ g21, (arg21.view.loc (c : Thread nD τ) ↦[arg21.view.set]{fullShare} g21) ∗ ⌜B3 (fun p s d => arg21.view.read (Elt Ideal) g21 (ix3 p s d)) (fun p s d => att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k1.val k⌝)))
    (fun k _ => trip_t11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f3 f7 g10 v1.toNat (Qv (k0_pay107 (F := Ideal) v21) (k0_pay108 (F := Ideal) v23) (Xv arg3 f3) (arg6.view.read (Elt Ideal) f6)) (Kv (k0_pay107 (F := Ideal) v21) (k0_pay108 (F := Ideal) v23) (Xv arg3 f3) (arg6.view.read (Elt Ideal) f6)) (Vv (k0_pay107 (F := Ideal) v21) (k0_pay108 (F := Ideal) v23) (Xv arg3 f3) (arg6.view.read (Elt Ideal) f6)) k1 hPO k)) $$ HJ
  iintro %acc2 ⟨H3, H7, H19, ⟨%f20', H20, %h20'⟩, ⟨%f21', H21, %h21'⟩⟩
  sl_exec
  sl_step
  isplitl [H3]; · iexact H3
  isplitl [H6]; · iexact H6
  isplitl [H7]; · iexact H7
  isplitl [H10]
  · iexists _; isplitl [H10]; · iexact H10
    ipureintro; exact h10.next
  isplitl [H11]
  · iexists _; isplitl [H11]; · iexact H11
    ipureintro; exact h11.next
  isplitl [H12]
  · iexists _; isplitl [H12]; · iexact H12
    ipureintro; exact h12.next
  isplitl [H13]
  · iexists _; isplitl [H13]; · iexact H13
    ipureintro; exact h13.next
  isplitl [H14]
  · iexists _; isplitl [H14]; · iexact H14
    ipureintro; exact h14.2
  isplitl [H15]; · iexists _; iexact H15
  isplitl [H16]; · iexists _; iexact H16
  isplitl [H17]; · iexists _; iexact H17
  isplitl [H18]; · iexists _; iexact H18
  isplitl [H19]; · iexists _; iexact H19
  isplitl [H20]
  · iexists _; isplitl [H20]; · iexact H20
    ipureintro; exact h20'.next
  isplitl [H21]
  · iexists _; isplitl [H21]; · iexact H21
    ipureintro; exact h21'.next
  iexists _; iexact H23

end Cert.Proof.KernelIdeal
end
-- ==== Proof.Pack.lean ====
/-
  How a point packs its two features' results into the scratch, and how the last point of a group of four writes them out.
-/
module

public import proofs.«01_k».proof.Proof.Gen.KernelIdeal.Frame
public import proofs.«01_k».proof.Proof.Gen.KernelIdeal.Skeleton
public import proofs.«01_k».proof.Proof.Read
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
/-- The proof's resource algebra: the frame kit's. -/
local notation "𝕄" => MT nD τ sig Unit (Elt Ideal) ℕ (UR sig nD τ) ℕ

theorem off82_eq (i : grid0.Coords) : k0_off82 i = ![0, 0, (i 1).val % 4, 0, 0] := by
  unfold k0_off82
  generalize i 1 = x
  revert x; decide
theorem off83_eq (i : grid0.Coords) : k0_off83 i = ![0, 1, (i 1).val % 4, 0, 0] := by
  unfold k0_off83
  generalize i 1 = x
  revert x; decide
theorem off84_eq (i : grid0.Coords) : k0_off84 i = ![1, 0, (i 1).val % 4, 0, 0] := by
  unfold k0_off84
  generalize i 1 = x
  revert x; decide
theorem off85_eq (i : grid0.Coords) : k0_off85 i = ![1, 1, (i 1).val % 4, 0, 0] := by
  unfold k0_off85
  generalize i 1 = x
  revert x; decide
instance (i : grid0.Coords) : ClosedOff (k0_off82 i) := ⟨![0, 0, (i 1).val % 4, 0, 0], off82_eq i⟩
instance (i : grid0.Coords) : ClosedOff (k0_off83 i) := ⟨![0, 1, (i 1).val % 4, 0, 0], off83_eq i⟩
instance (i : grid0.Coords) : ClosedOff (k0_off84 i) := ⟨![1, 0, (i 1).val % 4, 0, 0], off84_eq i⟩
instance (i : grid0.Coords) : ClosedOff (k0_off85 i) := ⟨![1, 1, (i 1).val % 4, 0, 0], off85_eq i⟩

theorem cond10_iff (i : grid0.Coords) : k0_cond10 i = 1#1 ↔ (i 1).val % 4 = 3 := by
  unfold k0_cond10
  generalize i 1 = x
  revert x; decide

theorem pay126_apply (a b : Vec Ideal S1x1024x128 .f32) (s : Fin 1024) (p : Fin 2) (l : Fin 128) :
    k0_pay126 (F := Ideal) a b (ix5 0 0 s p l) = if p.val = 0 then a (ix3 0 s l) else b (ix3 0 s l) := by
  pointwise [k0_pay126]
  rw [show p.val % 2 = p.val from Nat.mod_eq_of_lt p.isLt]

theorem pay127_apply (a b : Vec Ideal S1x1024x128 .f32) (s : Fin 1024) (p : Fin 2) (l : Fin 128) :
    k0_pay127 (F := Ideal) a b (ix5 0 0 s p l) = if p.val = 0 then a (ix3 0 s l) else b (ix3 0 s l) := by
  pointwise [k0_pay127]
  rw [show p.val % 2 = p.val from Nat.mod_eq_of_lt p.isLt]

theorem pay1_apply (a b : Vec Ideal S1x1024x128 .f32) (s : Fin 1024) (p : Fin 2) (l : Fin 128) :
    k0_pay1 (F := Ideal) a b (ix5 0 0 s p l) = if p.val = 0 then a (ix3 0 s l) else b (ix3 0 s l) := by
  pointwise [k0_pay1]
  rw [show p.val % 2 = p.val from Nat.mod_eq_of_lt p.isLt]

theorem pay2_apply (a b : Vec Ideal S1x1024x128 .f32) (s : Fin 1024) (p : Fin 2) (l : Fin 128) :
    k0_pay2 (F := Ideal) a b (ix5 0 0 s p l) = if p.val = 0 then a (ix3 0 s l) else b (ix3 0 s l) := by
  pointwise [k0_pay2]
  rw [show p.val % 2 = p.val from Nat.mod_eq_of_lt p.isLt]

theorem pay104_apply (v : Vec Ideal S1x1x4096x2x128 .bf16) (s : Fin 1024) (f : Fin 8) (l : Fin 128) :
    k0_pay104 (F := Ideal) v (ix4 0 s f l) = v (ix5 0 0 ⟨4 * s.val + f.val / 2, by omega⟩ ⟨f.val % 2, by omega⟩ l) := by
  pointwise [k0_pay104]
  have e : (s.val * 8 + f.val) / 2 = 4 * s.val + f.val / 2 := by omega
  simp only [e]
  split
  · congr 2; exact Fin.ext (by show 0 = f.val % 2; omega)
  · congr 2; exact Fin.ext (by show 1 = f.val % 2; omega)

theorem pay105_apply (v : Vec Ideal S1x1x4096x2x128 .bf16) (s : Fin 1024) (f : Fin 8) (l : Fin 128) :
    k0_pay105 (F := Ideal) v (ix4 0 s f l) = v (ix5 0 0 ⟨4 * s.val + f.val / 2, by omega⟩ ⟨f.val % 2, by omega⟩ l) := by
  pointwise [k0_pay105]
  have e : (s.val * 8 + f.val) / 2 = 4 * s.val + f.val / 2 := by omega
  simp only [e]
  split
  · congr 2; exact Fin.ext (by show 0 = f.val % 2; omega)
  · congr 2; exact Fin.ext (by show 1 = f.val % 2; omega)

theorem pay106_apply (v : Vec Ideal S1x1x4096x2x128 .bf16) (s : Fin 1024) (f : Fin 8) (l : Fin 128) :
    k0_pay106 (F := Ideal) v (ix4 0 s f l) = v (ix5 0 0 ⟨4 * s.val + f.val / 2, by omega⟩ ⟨f.val % 2, by omega⟩ l) := by
  pointwise [k0_pay106]
  have e : (s.val * 8 + f.val) / 2 = 4 * s.val + f.val / 2 := by omega
  simp only [e]
  split
  · congr 2; exact Fin.ext (by show 0 = f.val % 2; omega)
  · congr 2; exact Fin.ext (by show 1 = f.val % 2; omega)

theorem pay3_apply (v : Vec Ideal S1x1x4096x2x128 .bf16) (s : Fin 1024) (f : Fin 8) (l : Fin 128) :
    k0_pay3 (F := Ideal) v (ix4 0 s f l) = v (ix5 0 0 ⟨4 * s.val + f.val / 2, by omega⟩ ⟨f.val % 2, by omega⟩ l) := by
  pointwise [k0_pay3]
  have e : (s.val * 8 + f.val) / 2 = 4 * s.val + f.val / 2 := by omega
  simp only [e]
  split
  · congr 2; exact Fin.ext (by show 0 = f.val % 2; omega)
  · congr 2; exact Fin.ext (by show 1 = f.val % 2; omega)

theorem pay109_apply (h : Fin 8) (r : Fin 256) (s : Fin 1024) : k0_pay109 (F := Ideal) (ix3 h r s) = 0 := by
  pointwise [k0_pay109]
  simp [Ideal.ofBits, Ideal.e4m3fn, Ideal.ieee]

/-- What the newest of a list of stored pieces leaves, the piece every fourth row of one plane of the scratch. -/
theorem read_piece22 {A B C n D E : ℕ} {e : EltTy} (v : View sig .tc .vmem (⟨5, ![A, B, C, D, E]⟩ : Shape) e) (f : v.ty.Contents (Elt Ideal))
    {off : Fin 5 → ℕ} {a b o : ℕ} (heq : off = ![a, b, o, 0, 0]) (ho : o < 4)
    (inb : ∀ x : Fin 5, (![1, 1, n, D, E] : Fin 5 → ℕ) x = 0 ∨ off x + (![1, 1, 4, 1, 1] : Fin 5 → ℕ) x * ((![1, 1, n, D, E] : Fin 5 → ℕ) x - 1) < (⟨5, ![A, B, C, D, E]⟩ : Shape).size x)
    (sp : ∀ x : Fin 5, 0 < (![1, 1, 4, 1, 1] : Fin 5 → ℕ) x)
    (w : (⟨5, ![1, 1, n, D, E]⟩ : Shape).Idx → Elt Ideal e) (L : List (View.Piece (Elt Ideal) (⟨5, ![A, B, C, D, E]⟩ : Shape) e))
    (k : Fin A) (j : Fin B) (y : Fin C) (s : Fin n) (u : Fin 4) (hy : y.val = 4 * s.val + u.val) (p : Fin D) (l : Fin E) :
    v.read (Elt Ideal) (v.writes (Elt Ideal) f ((⟨⟨⟨off, ![1, 1, n, D, E], ![1, 1, 4, 1, 1], inb⟩, sp⟩, w⟩ : View.Piece (Elt Ideal) _ e) :: L)) (ix5 k j y p l)
      = if k.val = a ∧ j.val = b ∧ u.val = o then w (ix5 0 0 s p l)
        else v.read (Elt Ideal) (v.writes (Elt Ideal) f L) (ix5 k j y p l) := by
  subst heq
  split
  · rename_i h
    obtain ⟨h1, h2, h3⟩ := h
    refine View.read_writes_cons_hit_of_coords v f ⟨⟨![a, b, o, 0, 0], ![1, 1, n, D, E], ![1, 1, 4, 1, 1], inb⟩, sp⟩ w L (ix5 0 0 s p l) (ix5 k j y p l) ?_
    intro x; fin_cases x
    · show k.val = a + 1 * 0; omega
    · show j.val = b + 1 * 0; omega
    · show y.val = o + 4 * s.val; omega
    · show p.val = 0 + 1 * p.val; omega
    · show l.val = 0 + 1 * l.val; omega
  · rename_i h
    refine View.read_writes_cons_miss v f _ L _ fun hm => h ?_
    have hm' := (LoadRect.mem_set _).mp hm
    obtain ⟨x0, g0, e0⟩ := hm' 0
    obtain ⟨x1, g1, e1⟩ := hm' 1
    obtain ⟨x2, g2, e2⟩ := hm' 2
    have e0' : k.val = a + 1 * x0 := e0
    have e1' : j.val = b + 1 * x1 := e1
    have e2' : y.val = o + 4 * x2 := e2
    have g0' : x0 < 1 := g0
    have g1' : x1 < 1 := g1
    omega

/-- The number of key tiles as the printed floor division computes it. -/
theorem tl_eq (v1 : BitVec 32) (h0 : 1 ≤ v1.toNat) (h1 : v1.toNat ≤ 896) :
    (let v3 : BitVec 32 := Scalar.subi (Scalar.addi v1 128#32) 1#32
     let v4 : BitVec 32 := Scalar.divsi v3 128#32
     let v9 : BitVec 32 := Scalar.subi (Scalar.extui (Scalar.cmpi .sgt v3 0#32)) (Scalar.extui (Scalar.cmpi .slt v3 0#32))
     let v14 : BitVec 32 := Scalar.subi (Scalar.extui (Scalar.cmpi .sgt 128#32 0#32)) (Scalar.extui (Scalar.cmpi .slt 128#32 0#32))
     let v18 : BitVec 1 := Scalar.andi (Scalar.cmpi .ne v9 v14) (Scalar.cmpi .ne (Scalar.remsi v3 128#32) 0#32)
     Scalar.select v18 (Scalar.subi v4 1#32) v4) = BitVec.ofNat 32 ((v1.toNat + 127) / 128) := by
  obtain ⟨n, rfl⟩ : ∃ n : Fin 897, v1 = BitVec.ofNat 32 n.val := ⟨⟨v1.toNat, by omega⟩, by simp⟩
  clear h0 h1
  revert n
  decide +kernel

end Cert.Proof.KernelIdeal
end
-- ==== Proof.BodyValue.lean ====
/-
  The whole body at one grid point.
-/
module

public import proofs.«01_k».proof.Proof.Gen.KernelIdeal.Frame
public import proofs.«01_k».proof.Proof.Gen.KernelIdeal.Skeleton
public import proofs.«01_k».proof.Proof.Feature
public import proofs.«01_k».proof.Proof.Pack
public import Idealize.ShloMosaic.Lib.Exec
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's. -/
local notation "𝕄" => MT nD τ sig Unit (Elt Ideal) ℕ (UR sig nD τ) ℕ

open Cert.Proof.Spec

abbrev row4 (s : Fin 1024) (u : Fin 4) : Fin 4096 := ⟨4 * s.val + u.val, by omega⟩
abbrev half (c : Fin 256) : Fin 2 := ⟨c.val / 128, by omega⟩
abbrev lan (c : Fin 256) : Fin 128 := ⟨c.val % 128, by omega⟩
abbrev quo (f : Fin 8) : Fin 4 := ⟨f.val / 2, by omega⟩
abbrev par (f : Fin 8) : Fin 2 := ⟨f.val % 2, by omega⟩

/-- The packing scratch after a point: the point's quarter holds its results, the rest what it held. -/
def N22 (slot : ℕ) (old : Fin 2 → Fin 2 → Fin 4096 → Fin 2 → Fin 128 → EReal) (y a : Fin 2 → Fin 1024 → Fin 256 → EReal)
    (k j : Fin 2) (s : Fin 1024) (u : Fin 4) (p : Fin 2) (l : Fin 128) : EReal :=
  if u.val = slot then (if k.val = 1 then y p s ⟨j.val * 128 + l.val, by omega⟩ else a p s ⟨j.val * 128 + l.val, by omega⟩)
  else old k j (row4 s u) p l

theorem cond1_iff (i : grid0.Coords) :
    Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      ↔ (i 0).val = 0 ∧ (i 1).val = 0 := by
  generalize i 0 = x
  generalize i 1 = y
  revert x y; decide

theorem gain_eq (arg4 : Memref sig .tc .vmem S1x256 .f32) (f4 : BufTy.Contents (Elt Ideal) arg4.view.ty) :
    k0_pay107 (F := Ideal) (arg4.view.readAt (Elt Ideal) (Rect.unit (s := S1x256) ![0, 0] S1x256.size inb_S1x256_S1x256_0_0).toLoadRect f4) = (fun k => arg4.view.read (Elt Ideal) f4 k) := by
  funext k
  obtain ⟨a, b, rfl⟩ : ∃ a b, k = ix2 a b := ⟨k 0, k 1, eq_ix2 k⟩
  have e : k0_pay107 (F := Ideal) (arg4.view.readAt (Elt Ideal) (Rect.unit (s := S1x256) ![0, 0] S1x256.size inb_S1x256_S1x256_0_0).toLoadRect f4) (ix2 a b)
      = arg4.view.readAt (Elt Ideal) (Rect.unit (s := S1x256) ![0, 0] S1x256.size inb_S1x256_S1x256_0_0).toLoadRect f4 (ix2 a b) := by
    pointwise [k0_pay107]
  rw [e]
  exact readAt2 arg4.view f4 rfl _ a b a b (by omega) (by omega)

theorem bias_eq (arg5 : Memref sig .tc .vmem S1x256 .f32) (f5 : BufTy.Contents (Elt Ideal) arg5.view.ty) :
    k0_pay108 (F := Ideal) (arg5.view.readAt (Elt Ideal) (Rect.unit (s := S1x256) ![0, 0] S1x256.size inb_S1x256_S1x256_0_0).toLoadRect f5) = (fun k => arg5.view.read (Elt Ideal) f5 k) :=
  gain_eq arg5 f5

theorem loop_t1 (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (v1 v20 : Elt Ideal .i32) (v21 : Vec Ideal S1x256 .f32) (v23 : Vec Ideal S1x256 .f32) (f3 : BufTy.Contents (Elt Ideal) arg3.view.ty) (f6 : BufTy.Contents (Elt Ideal) arg6.view.ty) (f7 : BufTy.Contents (Elt Ideal) arg7.view.ty)
    (n : BitVec 32) (g b : FVec Ideal S1x256 .f32) (hv1 : v1 = n) (hv20 : v20 = tl n) (hg : (k0_pay107 (F := Ideal) v21) = g) (hb : (k0_pay108 (F := Ideal) v23) = b)
    (hn0 : 1 ≤ n.toNat) (hn : n.toNat ≤ 896) {α : Type} (p : Unit → Prog (TpuEff nD τ sig (Elt Ideal) Λ₀ .tc) α) (Φ : α → sProp 𝕄) :
    (iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv g b (Xv arg3 f3) (arg6.view.read (Elt Ideal) f6)) p s) r) 0 0⌝) ∗ (∃ g11, (arg11.view.loc (c : Thread nD τ) ↦[arg11.view.set]{fullShare} g11) ∗ ⌜B4 (fun p r s => arg11.view.read (Elt Ideal) g11 (ix4 0 p r s)) (fun p s h => sc ((Qv g b (Xv arg3 f3) (arg6.view.read (Elt Ideal) f6)) p s) h) 0 0⌝) ∗ (∃ g12, (arg12.view.loc (c : Thread nD τ) ↦[arg12.view.set]{fullShare} g12) ∗ ⌜B4 (fun p r s => arg12.view.read (Elt Ideal) g12 (ix4 0 p r s)) (fun p s r => cd ((Kv g b (Xv arg3 f3) (arg6.view.read (Elt Ideal) f6)) p s) r) 0 0⌝) ∗ (∃ g13, (arg13.view.loc (c : Thread nD τ) ↦[arg13.view.set]{fullShare} g13) ∗ ⌜B4 (fun p r s => arg13.view.read (Elt Ideal) g13 (ix4 0 p r s)) (fun p s h => sc ((Kv g b (Xv arg3 f3) (arg6.view.read (Elt Ideal) f6)) p s) h) 0 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att n.toNat ((Qv g b (Xv arg3 f3) (arg6.view.read (Elt Ideal) f6)) p) ((Kv g b (Xv arg3 f3) (arg6.view.read (Elt Ideal) f6)) p) ((Vv g b (Xv arg3 f3) (arg6.view.read (Elt Ideal) f6)) p) (Wv arg7 f7) s d) 0 0⌝) ∗ (∃ g21, (arg21.view.loc (c : Thread nD τ) ↦[arg21.view.set]{fullShare} g21) ∗ ⌜B3 (fun p s d => arg21.view.read (Elt Ideal) g21 (ix3 p s d)) (fun p s d => att n.toNat ((Qv g b (Xv arg3 f3) (arg6.view.read (Elt Ideal) f6)) p) ((Kv g b (Xv arg3 f3) (arg6.view.read (Elt Ideal) f6)) p) ((Vv g b (Xv arg3 f3) (arg6.view.read (Elt Ideal) f6)) p) (Wv arg7 f7) s d) 0 0⌝) ∗ (∃ g23, (arg23.view.loc (c : Thread nD τ) ↦[arg23.view.set]{fullShare} g23))) : sProp 𝕄) ⊢
      iprop((∀ acc : Unit, iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv g b (Xv arg3 f3) (arg6.view.read (Elt Ideal) f6)) p s) r) 2 0⌝) ∗ (∃ g11, (arg11.view.loc (c : Thread nD τ) ↦[arg11.view.set]{fullShare} g11) ∗ ⌜B4 (fun p r s => arg11.view.read (Elt Ideal) g11 (ix4 0 p r s)) (fun p s h => sc ((Qv g b (Xv arg3 f3) (arg6.view.read (Elt Ideal) f6)) p s) h) 2 0⌝) ∗ (∃ g12, (arg12.view.loc (c : Thread nD τ) ↦[arg12.view.set]{fullShare} g12) ∗ ⌜B4 (fun p r s => arg12.view.read (Elt Ideal) g12 (ix4 0 p r s)) (fun p s r => cd ((Kv g b (Xv arg3 f3) (arg6.view.read (Elt Ideal) f6)) p s) r) 2 0⌝) ∗ (∃ g13, (arg13.view.loc (c : Thread nD τ) ↦[arg13.view.set]{fullShare} g13) ∗ ⌜B4 (fun p r s => arg13.view.read (Elt Ideal) g13 (ix4 0 p r s)) (fun p s h => sc ((Kv g b (Xv arg3 f3) (arg6.view.read (Elt Ideal) f6)) p s) h) 2 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att n.toNat ((Qv g b (Xv arg3 f3) (arg6.view.read (Elt Ideal) f6)) p) ((Kv g b (Xv arg3 f3) (arg6.view.read (Elt Ideal) f6)) p) ((Vv g b (Xv arg3 f3) (arg6.view.read (Elt Ideal) f6)) p) (Wv arg7 f7) s d) 2 0⌝) ∗ (∃ g21, (arg21.view.loc (c : Thread nD τ) ↦[arg21.view.set]{fullShare} g21) ∗ ⌜B3 (fun p s d => arg21.view.read (Elt Ideal) g21 (ix3 p s d)) (fun p s d => att n.toNat ((Qv g b (Xv arg3 f3) (arg6.view.read (Elt Ideal) f6)) p) ((Kv g b (Xv arg3 f3) (arg6.view.read (Elt Ideal) f6)) p) ((Vv g b (Xv arg3 f3) (arg6.view.read (Elt Ideal) f6)) p) (Wv arg7 f7) s d) 2 0⌝) ∗ (∃ g23, (arg23.view.loc (c : Thread nD τ) ↦[arg23.view.set]{fullShare} g23))) -∗ wp frame (wpE (defs₀ (F := Ideal)) 𝒱₁ (c : Thread nD τ) none) Set.univ (p acc) Φ) -∗ wp frame (wpE (defs₀ (F := Ideal)) 𝒱₁ (c : Thread nD τ) none) Set.univ (Scf.Loop.for k0_t1_loop k0_t1_ok ⟨⟩ (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v20 v21 v23) >>= p) Φ) := by
  subst hv1 hv20 hg hb
  exact Scf.wp_for_bind frame (wpE (defs₀ (F := Ideal)) 𝒱₁ (c : Thread nD τ) none) Set.univ k0_t1_loop.lb k0_t1_loop.ub k0_t1_loop.st k0_t1_ok (⟨⟩ : Unit) _ (fun k _ => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv (k0_pay107 (F := Ideal) v21) (k0_pay108 (F := Ideal) v23) (Xv arg3 f3) (arg6.view.read (Elt Ideal) f6)) p s) r) k 0⌝) ∗ (∃ g11, (arg11.view.loc (c : Thread nD τ) ↦[arg11.view.set]{fullShare} g11) ∗ ⌜B4 (fun p r s => arg11.view.read (Elt Ideal) g11 (ix4 0 p r s)) (fun p s h => sc ((Qv (k0_pay107 (F := Ideal) v21) (k0_pay108 (F := Ideal) v23) (Xv arg3 f3) (arg6.view.read (Elt Ideal) f6)) p s) h) k 0⌝) ∗ (∃ g12, (arg12.view.loc (c : Thread nD τ) ↦[arg12.view.set]{fullShare} g12) ∗ ⌜B4 (fun p r s => arg12.view.read (Elt Ideal) g12 (ix4 0 p r s)) (fun p s r => cd ((Kv (k0_pay107 (F := Ideal) v21) (k0_pay108 (F := Ideal) v23) (Xv arg3 f3) (arg6.view.read (Elt Ideal) f6)) p s) r) k 0⌝) ∗ (∃ g13, (arg13.view.loc (c : Thread nD τ) ↦[arg13.view.set]{fullShare} g13) ∗ ⌜B4 (fun p r s => arg13.view.read (Elt Ideal) g13 (ix4 0 p r s)) (fun p s h => sc ((Kv (k0_pay107 (F := Ideal) v21) (k0_pay108 (F := Ideal) v23) (Xv arg3 f3) (arg6.view.read (Elt Ideal) f6)) p s) h) k 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k 0⌝) ∗ (∃ g21, (arg21.view.loc (c : Thread nD τ) ↦[arg21.view.set]{fullShare} g21) ∗ ⌜B3 (fun p s d => arg21.view.read (Elt Ideal) g21 (ix3 p s d)) (fun p s d => att v1.toNat ((Qv (k0_pay107 (F := Ideal) v21) (k0_pay108 (F := Ideal) v23) (Xv arg3 f3) (arg6.view.read (Elt Ideal) f6)) p) ((Kv (k0_pay107 (F := Ideal) v21) (k0_pay108 (F := Ideal) v23) (Xv arg3 f3) (arg6.view.read (Elt Ideal) f6)) p) ((Vv (k0_pay107 (F := Ideal) v21) (k0_pay108 (F := Ideal) v23) (Xv arg3 f3) (arg6.view.read (Elt Ideal) f6)) p) (Wv arg7 f7) s d) k 0⌝) ∗ (∃ g23, (arg23.view.loc (c : Thread nD τ) ↦[arg23.view.set]{fullShare} g23)))) (fun k acc => trip_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v21 v23 k f3 f6 f7 hn0 hn)

theorem smem_read (arg2 : Memref sig .tc .smem S2 .i32) (i : grid0.Coords) (f2 : BufTy.Contents (Elt Ideal) arg2.view.ty) (hp : 0 < S1.numel) :
    arg2.view.readAt (Elt Ideal) (Rect.unit (s := S2) (k0_off1 i) S1.size (k0_off1_inb i)).toLoadRect f2 (Shape.Idx.first hp) = arg2.view.read (Elt Ideal) f2 (ix1 (i 0)) := by
  refine congrArg (arg2.view.read (Elt Ideal) f2) (funext fun t => Fin.ext ?_)
  obtain rfl : t = 0 := Subsingleton.elim _ _
  have e : k0_off1 i 0 = (i 0).val := by
    unfold k0_off1
    generalize i 0 = x
    revert x; decide
  show k0_off1 i 0 + 1 * 0 = (i 0).val
  rw [e]; omega

theorem first_zero (arg14 : Memref sig .tc .vmem S8x256x1024 .fp8e4m3) (f14 : BufTy.Contents (Elt Ideal) arg14.view.ty) (h : Fin 8) (r : Fin 256) (s : Fin 1024) :
    arg14.view.read (Elt Ideal) (arg14.view.writes (Elt Ideal) f14 [⟨Rect.unit (s := S8x256x1024) ![0, 0, 0] S8x256x1024.size inb_S8x256x1024_S8x256x1024_0_0_0, k0_pay109 (F := Ideal)⟩]) (ix3 h r s) = 0 := by
  rw [read_piece3 arg14.view f14 rfl, dif_pos (by omega)]
  exact pay109_apply _ _ _

/-- A load at an index of a 5-dimensional array reads the array there. -/
theorem readAt5 {A B C D E n0 n1 n2 n3 n4 : ℕ} {e : EltTy} (v : View sig .tc .vmem (⟨5, ![A, B, C, D, E]⟩ : Shape) e) (f : v.ty.Contents (Elt Ideal))
    {o0 o1 o2 o3 o4 : ℕ}
    (inb : ∀ a : Fin 5, (![o0, o1, o2, o3, o4] : Fin 5 → ℕ) a + (![n0, n1, n2, n3, n4] : Fin 5 → ℕ) a ≤ (⟨5, ![A, B, C, D, E]⟩ : Shape).size a)
    (a : Fin n0) (b : Fin n1) (c : Fin n2) (d : Fin n3) (g : Fin n4) (x : Fin A) (y : Fin B) (z : Fin C) (u : Fin D) (w : Fin E)
    (h0 : x.val = o0 + a.val) (h1 : y.val = o1 + b.val) (h2 : z.val = o2 + c.val) (h3 : u.val = o3 + d.val) (h4 : w.val = o4 + g.val) :
    v.readAt (Elt Ideal) (Rect.unit (s := ⟨5, ![A, B, C, D, E]⟩) ![o0, o1, o2, o3, o4] ![n0, n1, n2, n3, n4] inb).toLoadRect f (ix5 a b c d g) = v.read (Elt Ideal) f (ix5 x y z u w) := by
  refine congrArg (v.read (Elt Ideal) f) (funext fun t => Fin.ext ?_)
  fin_cases t
  · exact (congrArg (o0 + ·) (Nat.one_mul _)).trans (by show o0 + a.val = x.val; omega)
  · exact (congrArg (o1 + ·) (Nat.one_mul _)).trans (by show o1 + b.val = y.val; omega)
  · exact (congrArg (o2 + ·) (Nat.one_mul _)).trans (by show o2 + c.val = z.val; omega)
  · exact (congrArg (o3 + ·) (Nat.one_mul _)).trans (by show o3 + d.val = u.val; omega)
  · exact (congrArg (o4 + ·) (Nat.one_mul _)).trans (by show o4 + g.val = w.val; omega)

/-- Lanes `128 j …` of the two features' rows, packed. -/
theorem half_pay (v : View sig .tc .vmem S2x1024x256 .f32) (f : v.ty.Contents (Elt Ideal)) (val : Fin 2 → Fin 1024 → Fin 256 → EReal)
    (hv : ∀ p s d, v.read (Elt Ideal) f (ix3 p s d) = val p s d) (o : ℕ) (j : Fin 2) (ho : o = j.val * 128)
    (inb0 : ∀ a : Fin 3, (![0, 0, o] : Fin 3 → ℕ) a + S1x1024x128.size a ≤ S2x1024x256.size a)
    (inb1 : ∀ a : Fin 3, (![1, 0, o] : Fin 3 → ℕ) a + S1x1024x128.size a ≤ S2x1024x256.size a) (s : Fin 1024) (p : Fin 2) (l : Fin 128) :
    (if p.val = 0 then v.readAt (Elt Ideal) (Rect.unit (s := S2x1024x256) ![0, 0, o] S1x1024x128.size inb0).toLoadRect f (ix3 0 s l)
      else v.readAt (Elt Ideal) (Rect.unit (s := S2x1024x256) ![1, 0, o] S1x1024x128.size inb1).toLoadRect f (ix3 0 s l)) = val p s ⟨j.val * 128 + l.val, by omega⟩ := by
  split
  · rename_i h
    rw [← hv]
    exact readAt3 v f rfl _ 0 s l p s ⟨j.val * 128 + l.val, by omega⟩ (by show p.val = 0 + 0; omega) (by omega) (by show j.val * 128 + l.val = o + l.val; omega)
  · rename_i h
    rw [← hv]
    exact readAt3 v f rfl _ 0 s l p s ⟨j.val * 128 + l.val, by omega⟩ (by show p.val = 1 + 0; omega) (by omega) (by show j.val * 128 + l.val = o + l.val; omega)

/-- The packing scratch after the point's four strided stores. -/
theorem pack_read (i : grid0.Coords) (v20 v21 : View sig .tc .vmem S2x1024x256 .f32) (v22 : View sig .tc .vmem S2x2x4096x2x128 .bf16)
    (f20 : v20.ty.Contents (Elt Ideal)) (f21 : v21.ty.Contents (Elt Ideal)) (f22 : v22.ty.Contents (Elt Ideal))
    (y a : Fin 2 → Fin 1024 → Fin 256 → EReal) (hy : ∀ p s d, v20.read (Elt Ideal) f20 (ix3 p s d) = y p s d) (ha : ∀ p s d, v21.read (Elt Ideal) f21 (ix3 p s d) = a p s d)
    (k j : Fin 2) (s : Fin 1024) (u : Fin 4) (p : Fin 2) (l : Fin 128) :
    v22.read (Elt Ideal) (v22.writes (Elt Ideal) f22
      [⟨⟨⟨k0_off85 i, S1x1x1024x2x128.size, ![1, 1, 4, 1, 1], k0_off85_inb i⟩, spos_1_1_4_1_1⟩, k0_pay2 (F := Ideal)
          (v20.readAt (Elt Ideal) (Rect.unit (s := S2x1024x256) ![0, 0, 128] S1x1024x128.size inb_S2x1024x256_S1x1024x128_0_0_128).toLoadRect f20)
          (v20.readAt (Elt Ideal) (Rect.unit (s := S2x1024x256) ![1, 0, 128] S1x1024x128.size inb_S2x1024x256_S1x1024x128_1_0_128).toLoadRect f20)⟩,
       ⟨⟨⟨k0_off84 i, S1x1x1024x2x128.size, ![1, 1, 4, 1, 1], k0_off84_inb i⟩, spos_1_1_4_1_1⟩, k0_pay1 (F := Ideal)
          (v20.readAt (Elt Ideal) (Rect.unit (s := S2x1024x256) ![0, 0, 0] S1x1024x128.size inb_S2x1024x256_S1x1024x128_0_0_0).toLoadRect f20)
          (v20.readAt (Elt Ideal) (Rect.unit (s := S2x1024x256) ![1, 0, 0] S1x1024x128.size inb_S2x1024x256_S1x1024x128_1_0_0).toLoadRect f20)⟩,
       ⟨⟨⟨k0_off83 i, S1x1x1024x2x128.size, ![1, 1, 4, 1, 1], k0_off83_inb i⟩, spos_1_1_4_1_1⟩, k0_pay127 (F := Ideal)
          (v21.readAt (Elt Ideal) (Rect.unit (s := S2x1024x256) ![0, 0, 128] S1x1024x128.size inb_S2x1024x256_S1x1024x128_0_0_128).toLoadRect f21)
          (v21.readAt (Elt Ideal) (Rect.unit (s := S2x1024x256) ![1, 0, 128] S1x1024x128.size inb_S2x1024x256_S1x1024x128_1_0_128).toLoadRect f21)⟩,
       ⟨⟨⟨k0_off82 i, S1x1x1024x2x128.size, ![1, 1, 4, 1, 1], k0_off82_inb i⟩, spos_1_1_4_1_1⟩, k0_pay126 (F := Ideal)
          (v21.readAt (Elt Ideal) (Rect.unit (s := S2x1024x256) ![0, 0, 0] S1x1024x128.size inb_S2x1024x256_S1x1024x128_0_0_0).toLoadRect f21)
          (v21.readAt (Elt Ideal) (Rect.unit (s := S2x1024x256) ![1, 0, 0] S1x1024x128.size inb_S2x1024x256_S1x1024x128_1_0_0).toLoadRect f21)⟩])
      (ix5 k j (row4 s u) p l)
      = N22 ((i 1).val % 4) (fun k j r p l => v22.read (Elt Ideal) f22 (ix5 k j r p l)) y a k j s u p l := by
  have h4 : (i 1).val % 4 < 4 := Nat.mod_lt _ (by decide)
  unfold N22
  rw [read_piece22 v22 f22 (off85_eq i) h4 _ _ _ _ k j (row4 s u) s u rfl p l, read_piece22 v22 f22 (off84_eq i) h4 _ _ _ _ k j (row4 s u) s u rfl p l,
    read_piece22 v22 f22 (off83_eq i) h4 _ _ _ _ k j (row4 s u) s u rfl p l, read_piece22 v22 f22 (off82_eq i) h4 _ _ _ _ k j (row4 s u) s u rfl p l, read_piece_nil,
    pay2_apply, half_pay v20 f20 y hy 128 1 rfl, pay1_apply, half_pay v20 f20 y hy 0 0 rfl,
    pay127_apply, half_pay v21 f21 a ha 128 1 rfl, pay126_apply, half_pay v21 f21 a ha 0 0 rfl]
  by_cases hu : u.val = (i 1).val % 4
  · have hk : k = 0 ∨ k = 1 := by revert k; decide
    have hj : j = 0 ∨ j = 1 := by revert j; decide
    rcases hk with rfl | rfl <;> rcases hj with rfl | rfl <;> simp [hu]
  · simp [hu]

/-- A block of eight features at an index, from the plane of the scratch it is read from. -/
theorem out_pay (w : S1x1024x8x128.Idx → EReal) (V : S1x1x4096x2x128.Idx → EReal)
    (hp : ∀ s f l, w (ix4 0 s f l) = V (ix5 0 0 ⟨4 * s.val + f.val / 2, by omega⟩ ⟨f.val % 2, by omega⟩ l))
    (a : Fin 1) (s' : Fin 1024) (f' : Fin 8) (l' : Fin 128) (s : Fin 1024) (f : Fin 8) (c : Fin 256) (hs : s'.val = s.val) (hf : f'.val = f.val) (hl : l'.val = c.val % 128) :
    w (ix4 a s' f' l') = V (ix5 0 0 (row4 s (quo f)) (par f) (lan c)) := by
  obtain rfl : s' = s := Fin.ext hs
  obtain rfl : f' = f := Fin.ext hf
  obtain rfl : l' = lan c := Fin.ext hl
  obtain rfl : a = 0 := Subsingleton.elim _ _
  exact hp _ _ _

/-- The block of eight features the last point of a group writes, the attention. -/
theorem out_read9 (v9 : View sig .tc .vmem S1x1024x8x256 .bf16) (v22 : View sig .tc .vmem S2x2x4096x2x128 .bf16) (f9 : v9.ty.Contents (Elt Ideal)) (f22 : v22.ty.Contents (Elt Ideal))
    (s : Fin 1024) (f : Fin 8) (c : Fin 256) :
    v9.read (Elt Ideal) (v9.writes (Elt Ideal) f9
      [⟨Rect.unit (s := S1x1024x8x256) ![0, 0, 0, 128] S1x1024x8x128.size inb_S1x1024x8x256_S1x1024x8x128_0_0_0_128, k0_pay105 (F := Ideal)
          (v22.readAt (Elt Ideal) (Rect.unit (s := S2x2x4096x2x128) ![0, 1, 0, 0, 0] S1x1x4096x2x128.size inb_S2x2x4096x2x128_S1x1x4096x2x128_0_1_0_0_0).toLoadRect f22)⟩,
       ⟨Rect.unit (s := S1x1024x8x256) ![0, 0, 0, 0] S1x1024x8x128.size inb_S1x1024x8x256_S1x1024x8x128_0_0_0_0, k0_pay104 (F := Ideal)
          (v22.readAt (Elt Ideal) (Rect.unit (s := S2x2x4096x2x128) ![0, 0, 0, 0, 0] S1x1x4096x2x128.size inb_S2x2x4096x2x128_S1x1x4096x2x128_0_0_0_0_0).toLoadRect f22)⟩])
      (ix4 0 s f c) = v22.read (Elt Ideal) f22 (ix5 0 (half c) (row4 s (quo f)) (par f) (lan c)) := by
  rw [read_piece4 v9 f9 rfl, read_piece4 v9 f9 rfl]
  split
  · rename_i h
    refine (out_pay _ _ (pay105_apply _) _ _ _ _ s f c ?_ ?_ ?_).trans ?_
    · show s.val - 0 = s.val; omega
    · show f.val - 0 = f.val; omega
    · show c.val - 128 = c.val % 128; omega
    exact readAt5 v22 f22 _ 0 0 _ _ _ 0 (half c) (row4 s (quo f)) (par f) (lan c) rfl (by show c.val / 128 = 1 + 0; omega) (Nat.zero_add _).symm (Nat.zero_add _).symm (Nat.zero_add _).symm
  · rename_i h
    rw [dif_pos (by omega)]
    refine (out_pay _ _ (pay104_apply _) _ _ _ _ s f c ?_ ?_ ?_).trans ?_
    · show s.val - 0 = s.val; omega
    · show f.val - 0 = f.val; omega
    · show c.val - 0 = c.val % 128; omega
    exact readAt5 v22 f22 _ 0 0 _ _ _ 0 (half c) (row4 s (quo f)) (par f) (lan c) rfl (by show c.val / 128 = 0 + 0; omega) (Nat.zero_add _).symm (Nat.zero_add _).symm (Nat.zero_add _).symm

/-- The block of eight features the last point of a group writes, the output. -/
theorem out_read8 (v9 : View sig .tc .vmem S1x1024x8x256 .bf16) (v22 : View sig .tc .vmem S2x2x4096x2x128 .bf16) (f9 : v9.ty.Contents (Elt Ideal)) (f22 : v22.ty.Contents (Elt Ideal))
    (s : Fin 1024) (f : Fin 8) (c : Fin 256) :
    v9.read (Elt Ideal) (v9.writes (Elt Ideal) f9
      [⟨Rect.unit (s := S1x1024x8x256) ![0, 0, 0, 128] S1x1024x8x128.size inb_S1x1024x8x256_S1x1024x8x128_0_0_0_128, k0_pay3 (F := Ideal)
          (v22.readAt (Elt Ideal) (Rect.unit (s := S2x2x4096x2x128) ![1, 1, 0, 0, 0] S1x1x4096x2x128.size inb_S2x2x4096x2x128_S1x1x4096x2x128_1_1_0_0_0).toLoadRect f22)⟩,
       ⟨Rect.unit (s := S1x1024x8x256) ![0, 0, 0, 0] S1x1024x8x128.size inb_S1x1024x8x256_S1x1024x8x128_0_0_0_0, k0_pay106 (F := Ideal)
          (v22.readAt (Elt Ideal) (Rect.unit (s := S2x2x4096x2x128) ![1, 0, 0, 0, 0] S1x1x4096x2x128.size inb_S2x2x4096x2x128_S1x1x4096x2x128_1_0_0_0_0).toLoadRect f22)⟩])
      (ix4 0 s f c) = v22.read (Elt Ideal) f22 (ix5 1 (half c) (row4 s (quo f)) (par f) (lan c)) := by
  rw [read_piece4 v9 f9 rfl, read_piece4 v9 f9 rfl]
  split
  · rename_i h
    refine (out_pay _ _ (pay3_apply _) _ _ _ _ s f c ?_ ?_ ?_).trans ?_
    · show s.val - 0 = s.val; omega
    · show f.val - 0 = f.val; omega
    · show c.val - 128 = c.val % 128; omega
    exact readAt5 v22 f22 _ 0 0 _ _ _ 1 (half c) (row4 s (quo f)) (par f) (lan c) rfl (by show c.val / 128 = 1 + 0; omega) (Nat.zero_add _).symm (Nat.zero_add _).symm (Nat.zero_add _).symm
  · rename_i h
    rw [dif_pos (by omega)]
    refine (out_pay _ _ (pay106_apply _) _ _ _ _ s f c ?_ ?_ ?_).trans ?_
    · show s.val - 0 = s.val; omega
    · show f.val - 0 = f.val; omega
    · show c.val - 0 = c.val % 128; omega
    exact readAt5 v22 f22 _ 0 0 _ _ _ 1 (half c) (row4 s (quo f)) (par f) (lan c) rfl (by show c.val / 128 = 0 + 0; omega) (Nat.zero_add _).symm (Nat.zero_add _).symm (Nat.zero_add _).symm

set_option maxHeartbeats 8000000 in
theorem body_val (c : Dev nD) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f14 : BufTy.Contents (Elt Ideal) arg14.view.ty) (f22 : BufTy.Contents (Elt Ideal) arg22.view.ty)
    (hn : ∀ b : Fin 2, 1 ≤ BitVec.toNat (arg2.view.read (Elt Ideal) f2 (ix1 b)) ∧ BitVec.toNat (arg2.view.read (Elt Ideal) f2 (ix1 b)) ≤ 896)
    (h14 : ((i 0).val = 0 ∧ (i 1).val = 0) ∨ ∀ h r s, headOf r ≠ h → arg14.view.read (Elt Ideal) f14 (ix3 h r s) = 0)
    (Φ : PUnit → sProp 𝕄) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (arg14.view.loc (c : Thread nD τ) ↦[arg14.view.set]{fullShare} f14) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20)) ∗ (∃ g21, (arg21.view.loc (c : Thread nD τ) ↦[arg21.view.set]{fullShare} g21)) ∗ (arg22.view.loc (c : Thread nD τ) ↦[arg22.view.set]{fullShare} f22) ∗ (∃ g23, (arg23.view.loc (c : Thread nD τ) ↦[arg23.view.set]{fullShare} g23)) ∗ ((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g8, (arg8.view.loc (c : Thread nD τ) ↦[arg8.view.set]{fullShare} g8) ∗ ⌜(i 1).val % 4 = 3 → ∀ s f c, arg8.view.read (Elt Ideal) g8 (ix4 0 s f c) = N22 ((i 1).val % 4) (fun k j r p l => arg22.view.read (Elt Ideal) f22 (ix5 k j r p l)) (fun p s d => Xv arg3 f3 p s d + att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) (fun p s d => att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) 1 (half c) s (quo f) (par f) (lan c)⌝) ∗ (∃ g9, (arg9.view.loc (c : Thread nD τ) ↦[arg9.view.set]{fullShare} g9) ∗ ⌜(i 1).val % 4 = 3 → ∀ s f c, arg9.view.read (Elt Ideal) g9 (ix4 0 s f c) = N22 ((i 1).val % 4) (fun k j r p l => arg22.view.read (Elt Ideal) f22 (ix5 k j r p l)) (fun p s d => Xv arg3 f3 p s d + att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) (fun p s d => att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) 0 (half c) s (quo f) (par f) (lan c)⌝) ∗ (∃ g10, (arg10.view.loc (c : Thread nD τ) ↦[arg10.view.set]{fullShare} g10) ∗ ⌜∀ p r s, arg10.view.read (Elt Ideal) g10 (ix4 0 p r s) = cd ((Qv (fun k => arg4.view.read (Elt Ideal) f4 k) (fun k => arg5.view.read (Elt Ideal) f5 k) (Xv arg3 f3) (arg6.view.read (Elt Ideal) f6)) p s) r⌝) ∗ (∃ g11, (arg11.view.loc (c : Thread nD τ) ↦[arg11.view.set]{fullShare} g11) ∗ ⌜∀ p r s, arg11.view.read (Elt Ideal) g11 (ix4 0 p r s) = sc ((Qv (fun k => arg4.view.read (Elt Ideal) f4 k) (fun k => arg5.view.read (Elt Ideal) f5 k) (Xv arg3 f3) (arg6.view.read (Elt Ideal) f6)) p s) r⌝) ∗ (∃ g12, (arg12.view.loc (c : Thread nD τ) ↦[arg12.view.set]{fullShare} g12) ∗ ⌜∀ p r s, arg12.view.read (Elt Ideal) g12 (ix4 0 p r s) = cd ((Kv (fun k => arg4.view.read (Elt Ideal) f4 k) (fun k => arg5.view.read (Elt Ideal) f5 k) (Xv arg3 f3) (arg6.view.read (Elt Ideal) f6)) p s) r⌝) ∗ (∃ g13, (arg13.view.loc (c : Thread nD τ) ↦[arg13.view.set]{fullShare} g13) ∗ ⌜∀ p r s, arg13.view.read (Elt Ideal) g13 (ix4 0 p r s) = sc ((Kv (fun k => arg4.view.read (Elt Ideal) f4 k) (fun k => arg5.view.read (Elt Ideal) f5 k) (Xv arg3 f3) (arg6.view.read (Elt Ideal) f6)) p s) r⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20)) ∗ (∃ g21, (arg21.view.loc (c : Thread nD τ) ↦[arg21.view.set]{fullShare} g21)) ∗ (∃ g22, (arg22.view.loc (c : Thread nD τ) ↦[arg22.view.set]{fullShare} g22) ∗ ⌜∀ k j s u p l, arg22.view.read (Elt Ideal) g22 (ix5 k j (row4 s u) p l) = N22 ((i 1).val % 4) (fun k j r p l => arg22.view.read (Elt Ideal) f22 (ix5 k j r p l)) (fun p s d => Xv arg3 f3 p s d + att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) (fun p s d => att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) k j s u p l⌝) ∗ (∃ g23, (arg23.view.loc (c : Thread nD τ) ↦[arg23.view.set]{fullShare} g23)) -∗ Φ ⟨⟩)) : sProp 𝕄) ⊢ wp frame (wpE (defs₀ (F := Ideal)) 𝒱₁ (c : Thread nD τ) none) Set.univ (cc0_row_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Φ := by
  simp only [cc0_row_attention_eq_skeleton]
  unfold cc0_row_attention_skel
  iintro ⟨H2, H3, H4, H5, H6, H7, ⟨%f8, H8⟩, ⟨%f9, H9⟩, ⟨%f10, H10⟩, ⟨%f11, H11⟩, ⟨%f12, H12⟩, ⟨%f13, H13⟩, H14, ⟨%f15, H15⟩, ⟨%f16, H16⟩, ⟨%f17, H17⟩, ⟨%f18, H18⟩, ⟨%f19, H19⟩, ⟨%f20, H20⟩, ⟨%f21, H21⟩, H22, ⟨%f23, H23⟩, Hk⟩
  sl_exec
  split
  all_goals
    rename_i hz
    sl_exec
    have hr : body_val.sl.r i arg2 f2 = (arg2.view.read (Elt Ideal) f2 (ix1 (i 0))) := by
      exact smem_read arg2 i f2 _
    have hv20 : body_val.sl.v20 i arg2 f2 = tl (arg2.view.read (Elt Ideal) f2 (ix1 (i 0))) := by
      exact (tl_eq (body_val.sl.r i arg2 f2) (by rw [hr]; exact (hn _).1) (by rw [hr]; exact (hn _).2)).trans (by rw [hr])
    ihave HI : iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (∃ g10, (arg10.view.loc (c : Thread nD τ) ↦[arg10.view.set]{fullShare} g10) ∗ ⌜B4 (fun p r s => arg10.view.read (Elt Ideal) g10 (ix4 0 p r s)) (fun p s r => cd ((Qv (fun k => arg4.view.read (Elt Ideal) f4 k) (fun k => arg5.view.read (Elt Ideal) f5 k) (Xv arg3 f3) (arg6.view.read (Elt Ideal) f6)) p s) r) 0 0⌝) ∗ (∃ g11, (arg11.view.loc (c : Thread nD τ) ↦[arg11.view.set]{fullShare} g11) ∗ ⌜B4 (fun p r s => arg11.view.read (Elt Ideal) g11 (ix4 0 p r s)) (fun p s h => sc ((Qv (fun k => arg4.view.read (Elt Ideal) f4 k) (fun k => arg5.view.read (Elt Ideal) f5 k) (Xv arg3 f3) (arg6.view.read (Elt Ideal) f6)) p s) h) 0 0⌝) ∗ (∃ g12, (arg12.view.loc (c : Thread nD τ) ↦[arg12.view.set]{fullShare} g12) ∗ ⌜B4 (fun p r s => arg12.view.read (Elt Ideal) g12 (ix4 0 p r s)) (fun p s r => cd ((Kv (fun k => arg4.view.read (Elt Ideal) f4 k) (fun k => arg5.view.read (Elt Ideal) f5 k) (Xv arg3 f3) (arg6.view.read (Elt Ideal) f6)) p s) r) 0 0⌝) ∗ (∃ g13, (arg13.view.loc (c : Thread nD τ) ↦[arg13.view.set]{fullShare} g13) ∗ ⌜B4 (fun p r s => arg13.view.read (Elt Ideal) g13 (ix4 0 p r s)) (fun p s h => sc ((Kv (fun k => arg4.view.read (Elt Ideal) f4 k) (fun k => arg5.view.read (Elt Ideal) f5 k) (Xv arg3 f3) (arg6.view.read (Elt Ideal) f6)) p s) h) 0 0⌝) ∗ (∃ g14, (arg14.view.loc (c : Thread nD τ) ↦[arg14.view.set]{fullShare} g14) ∗ ⌜∀ h r s, headOf r ≠ h → arg14.view.read (Elt Ideal) g14 (ix3 h r s) = 0⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20) ∗ ⌜B3 (fun p s d => arg20.view.read (Elt Ideal) g20 (ix3 p s d)) (fun p s d => Xv arg3 f3 p s d + att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) 0 0⌝) ∗ (∃ g21, (arg21.view.loc (c : Thread nD τ) ↦[arg21.view.set]{fullShare} g21) ∗ ⌜B3 (fun p s d => arg21.view.read (Elt Ideal) g21 (ix3 p s d)) (fun p s d => att (arg2.view.read (Elt Ideal) f2 (ix1 (i 0))).toNat ((Qv (fun k => arg4.view.read (Elt Ideal) f4 k) (fun k => arg5.view.read (Elt Ideal) f5 k) (Xv arg3 f3) (arg6.view.read (Elt Ideal) f6)) p) ((Kv (fun k => arg4.view.read (Elt Ideal) f4 k) (fun k => arg5.view.read (Elt Ideal) f5 k) (Xv arg3 f3) (arg6.view.read (Elt Ideal) f6)) p) ((Vv (fun k => arg4.view.read (Elt Ideal) f4 k) (fun k => arg5.view.read (Elt Ideal) f5 k) (Xv arg3 f3) (arg6.view.read (Elt Ideal) f6)) p) (Wv arg7 f7) s d) 0 0⌝) ∗ (∃ g23, (arg23.view.loc (c : Thread nD τ) ↦[arg23.view.set]{fullShare} g23))) $$ [H3 H6 H7 H10 H11 H12 H13 H14 H15 H16 H17 H18 H19 H20 H21 H23]
    · isplitl [H3]; · iexact H3
      isplitl [H6]; · iexact H6
      isplitl [H7]; · iexact H7
      isplitl [H10]
      · iexists _; isplitl [H10]; · iexact H10
        ipureintro; exact fun _ _ _ hs => absurd hs (by omega)
      isplitl [H11]
      · iexists _; isplitl [H11]; · iexact H11
        ipureintro; exact fun _ _ _ hs => absurd hs (by omega)
      isplitl [H12]
      · iexists _; isplitl [H12]; · iexact H12
        ipureintro; exact fun _ _ _ hs => absurd hs (by omega)
      isplitl [H13]
      · iexists _; isplitl [H13]; · iexact H13
        ipureintro; exact fun _ _ _ hs => absurd hs (by omega)
      isplitl [H14]
      · iexists _; isplitl [H14]; · iexact H14
        ipureintro
        first
        | exact fun h r s _ => first_zero arg14 _ h r s
        | exact h14.resolve_left (fun hh => hz ((cond1_iff i).mpr hh))
      isplitl [H15]
      · iexists _; iexact H15
      isplitl [H16]
      · iexists _; iexact H16
      isplitl [H17]
      · iexists _; iexact H17
      isplitl [H18]
      · iexists _; iexact H18
      isplitl [H19]
      · iexists _; iexact H19
      isplitl [H20]
      · iexists _; isplitl [H20]; · iexact H20
        ipureintro; exact fun _ _ _ hs => absurd hs (by omega)
      isplitl [H21]
      · iexists _; isplitl [H21]; · iexact H21
        ipureintro; exact fun _ _ _ hs => absurd hs (by omega)
      iexists _; iexact H23
    iapply (loop_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (body_val.sl.r i arg2 f2) (body_val.sl.v20 i arg2 f2) _ _ f3 f6 f7 (arg2.view.read (Elt Ideal) f2 (ix1 (i 0))) (fun k => arg4.view.read (Elt Ideal) f4 k) (fun k => arg5.view.read (Elt Ideal) f5 k) hr hv20 (gain_eq arg4 f4) (bias_eq arg5 f5) (hn _).1 (hn _).2 _ _) $$ HI
    iintro %acc ⟨H3, H6, H7, ⟨%g10, H10, %h10⟩, ⟨%g11, H11, %h11⟩, ⟨%g12, H12, %h12⟩, ⟨%g13, H13, %h13⟩, ⟨%g14, H14, %hz14⟩, ⟨%g15, H15⟩, ⟨%g16, H16⟩, ⟨%g17, H17⟩, ⟨%g18, H18⟩, ⟨%g19, H19⟩, ⟨%g20, H20, %h20⟩, ⟨%g21, H21, %h21⟩, ⟨%g23, H23⟩⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      intro h3 s f c
      rw [dif_pos ((cond10_iff i).mpr h3)]
      exact (out_read8 arg8.view arg22.view f8 _ s f c).trans (pack_read i arg20.view arg21.view arg22.view g20 g21 f22 _ _ (fun p s d => h20 p s d (.inl p.isLt)) (fun p s d => h21 p s d (.inl p.isLt)) 1 (half c) s (quo f) (par f) (lan c))
    isplitl [H9]
    · iexists _; isplitl [H9]; · iexact H9
      ipureintro
      intro h3 s f c
      rw [dif_pos ((cond10_iff i).mpr h3)]
      exact (out_read9 arg9.view arg22.view f9 _ s f c).trans (pack_read i arg20.view arg21.view arg22.view g20 g21 f22 _ _ (fun p s d => h20 p s d (.inl p.isLt)) (fun p s d => h21 p s d (.inl p.isLt)) 0 (half c) s (quo f) (par f) (lan c))
    isplitl [H10]
    · iexists _; isplitl [H10]; · iexact H10
      ipureintro; exact fun p r s => h10 p r s (.inl p.isLt)
    isplitl [H11]
    · iexists _; isplitl [H11]; · iexact H11
      ipureintro; exact fun p r s => h11 p r s (.inl p.isLt)
    isplitl [H12]
    · iexists _; isplitl [H12]; · iexact H12
      ipureintro; exact fun p r s => h12 p r s (.inl p.isLt)
    isplitl [H13]
    · iexists _; isplitl [H13]; · iexact H13
      ipureintro; exact fun p r s => h13 p r s (.inl p.isLt)
    isplitl [H14]
    · iexists _; isplitl [H14]; · iexact H14
      ipureintro; exact hz14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]
    · iexists _; isplitl [H22]; · iexact H22
      ipureintro
      exact fun k j s u p l => pack_read i arg20.view arg21.view arg22.view g20 g21 f22 _ _ (fun p s d => h20 p s d (.inl p.isLt)) (fun p s d => h21 p s d (.inl p.isLt)) k j s u p l
    iexists _; iexact H23

end Cert.Proof.KernelIdeal
end
-- ==== Proof.RunDefs.lean ====
/-
  What the results of the whole call are, feature by feature, in terms of the arrays the call reads; and what each input
  block holds at a grid point.
-/
module

public import proofs.«01_k».proof.Proof.BodyValue
public import proofs.«01_k».proof.Proof.Gen.KernelIdeal.Frame
public import Idealize.ShloMosaic.Lib.Pipeline.ValueKit

@[expose] public section

set_option maxRecDepth 16384

noncomputable section

namespace Cert.Proof.KernelIdeal

open Cert.KernelIdeal Cert.KernelIdeal.Gen Cert.Proof.Spec
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

/-- The number of live keys of a batch entry. -/
def gN (c : Dev nD) (b : Fin 2) : BitVec 32 := V m c main_arg7 (ix1 b)
/-- The rows of a feature. -/
def gX (c : Dev nD) (b : Fin 2) (f : Fin 24) (s : Fin 1024) (k : Fin 256) : EReal := V m c main_arg0 (ix4 b f s k)
/-- The normalisation's gain, as the call reads it. -/
def gG (c : Dev nD) : FVec Ideal S1x256 .f32 := V m c main_v7
/-- The normalisation's offset. -/
def gB (c : Dev nD) : FVec Ideal S1x256 .f32 := V m c main_v8
/-- The stacked projection weights. -/
def gW (c : Dev nD) : Vec Ideal S768x256 .bf16 := V m c main_v6
/-- The output projection. -/
def gO (c : Dev nD) (r d : Fin 256) : EReal := (show Vec Ideal S256x256 .bf16 from V m c main_v9) (ix2 r d)
/-- The projections of a feature's rows. -/
def gQ (c : Dev nD) (b : Fin 2) (f : Fin 24) (s : Fin 1024) : Fin 256 → EReal :=
  prj (wQ (gW m c)) (lnR (row1 (gG m c)) (row1 (gB m c)) (gX m c b f s))
def gK (c : Dev nD) (b : Fin 2) (f : Fin 24) (s : Fin 1024) : Fin 256 → EReal :=
  prj (wK (gW m c)) (lnR (row1 (gG m c)) (row1 (gB m c)) (gX m c b f s))
def gV (c : Dev nD) (b : Fin 2) (f : Fin 24) (s : Fin 1024) : Fin 256 → EReal :=
  prj (wV (gW m c)) (lnR (row1 (gG m c)) (row1 (gB m c)) (gX m c b f s))
/-- The attention of a feature. -/
def gA (c : Dev nD) (b : Fin 2) (f : Fin 24) (s : Fin 1024) (d : Fin 256) : EReal :=
  att (gN m c b).toNat (gQ m c b f) (gK m c b f) (gV m c b f) (gO m c) s d
/-- The residual sum of a feature. -/
def gY (c : Dev nD) (b : Fin 2) (f : Fin 24) (s : Fin 1024) (d : Fin 256) : EReal :=
  gX m c b f s d + gA m c b f s d

/-- The batch entry of point `n`. -/
abbrev bOf (n : ℕ) : Fin 2 := ⟨n / 12 % 2, by omega⟩
/-- Feature `p` of point `n`'s pair. -/
abbrev fOf (n : ℕ) (p : Fin 2) : Fin 24 := ⟨2 * (n % 12) + p.val, by omega⟩

theorem coords_eq (t : Fin cfg0.N) : ((grid0.coords t) 0).val = t.val / 12 ∧ ((grid0.coords t) 1).val = t.val % 12 := by
  revert t; decide +kernel

/-- The block index of the rows' window. -/
theorem idx1 : ∀ t : Fin cfg0.N, win0_1.index t = ![t.val / 12, t.val % 12, 0, 0] :=
  (by decide +kernel : ∀ t : Fin grid0.N, win0_1.index t = ![t.val / 12, t.val % 12, 0, 0])
theorem idx0 : ∀ t : Fin cfg0.N, win0_0.index t = ![0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem iblk0_eq (c : Dev nD) (t : Fin cfg0.N) : iblk m c 0 t = V m c main_arg7 := by
  blk_ext! [iblk, idx0 t]
theorem iblk2_eq (c : Dev nD) (t : Fin cfg0.N) : iblk m c 2 t = V m c main_v7 := by
  blk_ext! [iblk, idx2 t]
theorem iblk3_eq (c : Dev nD) (t : Fin cfg0.N) : iblk m c 3 t = V m c main_v8 := by
  blk_ext! [iblk, idx3 t]
theorem iblk4_eq (c : Dev nD) (t : Fin cfg0.N) : iblk m c 4 t = V m c main_v6 := by
  blk_ext! [iblk, idx4 t]
theorem iblk5_eq (c : Dev nD) (t : Fin cfg0.N) : iblk m c 5 t = V m c main_v9 := by
  blk_ext! [iblk, idx5 t]
theorem iblk1_eq (c : Dev nD) (t : Fin cfg0.N) (p : Fin 2) (s : Fin 1024) (k : Fin 256) :
    iblk m c 1 t (ix4 0 p s k) = gX m c (bOf t.val) (fOf t.val p) s k := by
  have ht : t.val < 24 := t.isLt
  have h12 : t.val / 12 % 2 = t.val / 12 := by omega
  unfold gX iblk
  show V m c main_arg0 ((win0_1.blk t).view.emb (ix4 0 p s k)) = _
  congr 1
  funext a
  apply Fin.ext
  fin_cases a <;> blk_simp [idx1 t] <;> simp <;> omega

/-- The features of a point: what the point computes. -/
abbrev tY (c : Dev nD) (n : ℕ) (p : Fin 2) (s : Fin 1024) (d : Fin 256) : EReal := gY m c (bOf n) (fOf n p) s d
abbrev tA (c : Dev nD) (n : ℕ) (p : Fin 2) (s : Fin 1024) (d : Fin 256) : EReal := gA m c (bOf n) (fOf n p) s d

/-- Before point `n` the query scratch's rows outside a head's band are zero, once the first point has run. -/
def Q14 (n : ℕ) (r : Fin 8 → Fin 256 → Fin 1024 → EReal) : Prop :=
  n = 0 ∨ ∀ h i s, headOf i ≠ h → r h i s = 0

/-- Before point `n` the packing scratch holds the results of the earlier points of its group of four. -/
def Q22 (c : Dev nD) (n : ℕ) (r : Fin 2 → Fin 2 → Fin 4096 → Fin 2 → Fin 128 → EReal) : Prop :=
  ∀ u : Fin 4, u.val < n % 4 → ∀ k j s p l, r k j (row4 s u) p l =
    if k.val = 1 then tY m c (n / 4 * 4 + u.val) p s ⟨j.val * 128 + l.val, by omega⟩
    else tA m c (n / 4 * 4 + u.val) p s ⟨j.val * 128 + l.val, by omega⟩

/-- A point adds its own results. -/
theorem Q22.next (c : Dev nD) (n : ℕ) (hn : n < 24) (old new : Fin 2 → Fin 2 → Fin 4096 → Fin 2 → Fin 128 → EReal)
    (h : Q22 m c n old)
    (hnew : ∀ k j s u p l, new k j (row4 s u) p l = N22 (n % 12 % 4) old (tY m c n) (tA m c n) k j s u p l) :
    Q22 m c (n + 1) new := by
  intro u hu k j s p l
  have e4 : n % 12 % 4 = n % 4 := by omega
  have ed : (n + 1) / 4 = n / 4 := by omega
  rw [hnew, ed]
  unfold N22
  rw [e4]
  by_cases hc : u.val = n % 4
  · rw [if_pos hc, show n / 4 * 4 + u.val = n by omega]
  · rw [if_neg hc]
    exact h u (by omega) k j s p l

/-- At the last point of a group the output block is the group's results. -/
theorem N22_out (c : Dev nD) (n : ℕ) (hn : n < 24) (h3 : n % 4 = 3) (old : Fin 2 → Fin 2 → Fin 4096 → Fin 2 → Fin 128 → EReal)
    (h : Q22 m c n old) (k : Fin 2) (s : Fin 1024) (f : Fin 8) (d : Fin 256) :
    N22 (n % 12 % 4) old (tY m c n) (tA m c n) k (half d) s (quo f) (par f) (lan d)
      = if k.val = 1 then tY m c (n / 4 * 4 + f.val / 2) (par f) s d else tA m c (n / 4 * 4 + f.val / 2) (par f) s d := by
  have e4 : n % 12 % 4 = n % 4 := by omega
  have ed : (⟨(half d).val * 128 + (lan d).val, by have := (half d).isLt; have := (lan d).isLt; omega⟩ : Fin 256) = d :=
    Fin.ext (by show d.val / 128 * 128 + d.val % 128 = d.val; omega)
  unfold N22
  rw [e4]
  by_cases hc : (quo f).val = n % 4
  · have e : n / 4 * 4 + f.val / 2 = n := by have : f.val / 2 = n % 4 := hc; omega
    rw [if_pos hc, e, ed]
  · rw [if_neg hc, h (quo f) (by have := f.isLt; have : (quo f).val = f.val / 2 := rfl; omega), ed]

end Cert.Proof.KernelIdeal
end
-- ==== Proof.RunPoint.lean ====
/-
  One grid point of the call in terms of the arrays it reads: what it leaves in the output blocks and the scratch.
-/
module

public import proofs.«01_k».proof.Proof.RunDefs
public import proofs.«01_k».proof.Proof.Gen.KernelIdeal.Frame
public import Idealize.ShloMosaic.Lib.Pipeline.ValueKit

@[expose] public section

set_option maxRecDepth 16384

noncomputable section

namespace Cert.Proof.KernelIdeal

open Cert.KernelIdeal Cert.KernelIdeal.Gen Cert.Proof.Spec
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

/-- What each output block holds once a point that writes it back has run. -/
def L6 (c : Dev nD) (n : ℕ) (X : S1x1024x8x256.Idx → EReal) : Prop :=
  n % 4 = 3 → ∀ s f d, X (ix4 0 s f d) = tY m c (n / 4 * 4 + f.val / 2) (par f) s d
def L7 (c : Dev nD) (n : ℕ) (X : S1x1024x8x256.Idx → EReal) : Prop :=
  n % 4 = 3 → ∀ s f d, X (ix4 0 s f d) = tA m c (n / 4 * 4 + f.val / 2) (par f) s d
def L8 (c : Dev nD) (n : ℕ) (X : S1x2x256x1024.Idx → EReal) : Prop :=
  ∀ p r s, X (ix4 0 p r s) = cd (gQ m c (bOf n) (fOf n p) s) r
def L9 (c : Dev nD) (n : ℕ) (X : S1x2x8x1024.Idx → EReal) : Prop :=
  ∀ p r s, X (ix4 0 p r s) = sc (gQ m c (bOf n) (fOf n p) s) r
def L10 (c : Dev nD) (n : ℕ) (X : S1x2x256x1024.Idx → EReal) : Prop :=
  ∀ p r s, X (ix4 0 p r s) = cd (gK m c (bOf n) (fOf n p) s) r
def L11 (c : Dev nD) (n : ℕ) (X : S1x2x8x1024.Idx → EReal) : Prop :=
  ∀ p r s, X (ix4 0 p r s) = sc (gK m c (bOf n) (fOf n p) s) r

/-- The precondition, of the arrays the call reads. -/
def Live : Prop := ∀ (c : Dev nD) (b : Fin 2), 1 ≤ (gN m c b).toNat ∧ (gN m c b).toNat ≤ 896

set_option maxHeartbeats 4000000 in
/-- The body at point `n`, its inputs the point's blocks. -/
theorem body_pt (hn : Live m) (c : Dev nD) (n : ℕ) (hn24 : n < 24) (i : grid0.Coords) (arg2 : Memref sig .tc .smem S2 .i32) (harg2 : arg2.IsWhole) (arg3 : Memref sig .tc .vmem S1x2x1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S768x256 .bf16) (harg6 : arg6.IsWhole) (arg7 : Memref sig .tc .vmem S256x256 .bf16) (harg7 : arg7.IsWhole) (arg8 : Memref sig .tc .vmem S1x1024x8x256 .bf16) (harg8 : arg8.IsWhole) (arg9 : Memref sig .tc .vmem S1x1024x8x256 .bf16) (harg9 : arg9.IsWhole) (arg10 : Memref sig .tc .vmem S1x2x256x1024 .fp8e4m3) (harg10 : arg10.IsWhole) (arg11 : Memref sig .tc .vmem S1x2x8x1024 .f32) (harg11 : arg11.IsWhole) (arg12 : Memref sig .tc .vmem S1x2x256x1024 .fp8e4m3) (harg12 : arg12.IsWhole) (arg13 : Memref sig .tc .vmem S1x2x8x1024 .f32) (harg13 : arg13.IsWhole) (arg14 : Memref sig .tc .vmem S8x256x1024 .fp8e4m3) (harg14 : arg14.IsWhole) (arg15 : Memref sig .tc .vmem S1024x256 .fp8e4m3) (harg15 : arg15.IsWhole) (arg16 : Memref sig .tc .vmem S8x48x1024 .bf16) (harg16 : arg16.IsWhole) (arg17 : Memref sig .tc .vmem S8x1024 .f32) (harg17 : arg17.IsWhole) (arg18 : Memref sig .tc .vmem S8x1024x128 .f32) (harg18 : arg18.IsWhole) (arg19 : Memref sig .tc .vmem S256x1024 .bf16) (harg19 : arg19.IsWhole) (arg20 : Memref sig .tc .vmem S2x1024x256 .f32) (harg20 : arg20.IsWhole) (arg21 : Memref sig .tc .vmem S2x1024x256 .f32) (harg21 : arg21.IsWhole) (arg22 : Memref sig .tc .vmem S2x2x4096x2x128 .bf16) (harg22 : arg22.IsWhole) (arg23 : Memref sig .tc .vmem S2x1x256 .f32) (harg23 : arg23.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f14 : BufTy.Contents (Elt Ideal) arg14.view.ty) (f22 : BufTy.Contents (Elt Ideal) arg22.view.ty)
    (c0 : (i 0).val = n / 12) (c1 : (i 1).val = n % 12)
    (e0 : ∀ b, arg2.view.read (Elt Ideal) f2 (ix1 b) = gN m c b)
    (e1 : Xv arg3 f3 = fun p s k => gX m c (bOf n) (fOf n p) s k)
    (e2 : (fun k => arg4.view.read (Elt Ideal) f4 k) = gG m c)
    (e3 : (fun k => arg5.view.read (Elt Ideal) f5 k) = gB m c)
    (e4 : arg6.view.read (Elt Ideal) f6 = gW m c)
    (e5 : Wv arg7 f7 = gO m c)
    (q14 : Q14 n (fun h r s => arg14.view.read (Elt Ideal) f14 (ix3 h r s))) (q22 : Q22 m c n (fun k j r p l => arg22.view.read (Elt Ideal) f22 (ix5 k j r p l)))
    (Φ : PUnit → sProp 𝕄) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (arg14.view.loc (c : Thread nD τ) ↦[arg14.view.set]{fullShare} f14) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20)) ∗ (∃ g21, (arg21.view.loc (c : Thread nD τ) ↦[arg21.view.set]{fullShare} g21)) ∗ (arg22.view.loc (c : Thread nD τ) ↦[arg22.view.set]{fullShare} f22) ∗ (∃ g23, (arg23.view.loc (c : Thread nD τ) ↦[arg23.view.set]{fullShare} g23)) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g8, (arg8.view.loc (c : Thread nD τ) ↦[arg8.view.set]{fullShare} g8) ∗ ⌜L6 m c n (arg8.view.read (Elt Ideal) g8)⌝) ∗ (∃ g9, (arg9.view.loc (c : Thread nD τ) ↦[arg9.view.set]{fullShare} g9) ∗ ⌜L7 m c n (arg9.view.read (Elt Ideal) g9)⌝) ∗ (∃ g10, (arg10.view.loc (c : Thread nD τ) ↦[arg10.view.set]{fullShare} g10) ∗ ⌜L8 m c n (arg10.view.read (Elt Ideal) g10)⌝) ∗ (∃ g11, (arg11.view.loc (c : Thread nD τ) ↦[arg11.view.set]{fullShare} g11) ∗ ⌜L9 m c n (arg11.view.read (Elt Ideal) g11)⌝) ∗ (∃ g12, (arg12.view.loc (c : Thread nD τ) ↦[arg12.view.set]{fullShare} g12) ∗ ⌜L10 m c n (arg12.view.read (Elt Ideal) g12)⌝) ∗ (∃ g13, (arg13.view.loc (c : Thread nD τ) ↦[arg13.view.set]{fullShare} g13) ∗ ⌜L11 m c n (arg13.view.read (Elt Ideal) g13)⌝) ∗ (∃ g14, (arg14.view.loc (c : Thread nD τ) ↦[arg14.view.set]{fullShare} g14) ∗ ⌜Q14 (n + 1) (fun h r s => arg14.view.read (Elt Ideal) g14 (ix3 h r s))⌝) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18)) ∗ (∃ g19, (arg19.view.loc (c : Thread nD τ) ↦[arg19.view.set]{fullShare} g19)) ∗ (∃ g20, (arg20.view.loc (c : Thread nD τ) ↦[arg20.view.set]{fullShare} g20)) ∗ (∃ g21, (arg21.view.loc (c : Thread nD τ) ↦[arg21.view.set]{fullShare} g21)) ∗ (∃ g22, (arg22.view.loc (c : Thread nD τ) ↦[arg22.view.set]{fullShare} g22) ∗ ⌜Q22 m c (n + 1) (fun k j r p l => arg22.view.read (Elt Ideal) g22 (ix5 k j r p l))⌝) ∗ (∃ g23, (arg23.view.loc (c : Thread nD τ) ↦[arg23.view.set]{fullShare} g23))) -∗ Φ ⟨⟩)) : sProp 𝕄)
      ⊢ wp frame (wpE (defs₀ (F := Ideal)) 𝒱₁ (c : Thread nD τ) none) Set.univ (cc0_row_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Φ := by
  have cb : i 0 = bOf n := Fin.ext (by rw [c0]; show _ = n / 12 % 2; omega)
  have h14 : ((i 0).val = 0 ∧ (i 1).val = 0) ∨ ∀ h r s, headOf r ≠ h → arg14.view.read (Elt Ideal) f14 (ix3 h r s) = 0 := by
    rcases q14 with h | h
    · left; rw [c0, c1, h]; exact ⟨rfl, rfl⟩
    · right; exact h
  iintro ⟨H2, H3, H4, H5, H6, H7, H8, H9, H10, H11, H12, H13, H14, H15, H16, H17, H18, H19, H20, H21, H22, H23, Hk⟩
  iapply (body_val c i _ _ _ _ _ _ _ _ _ _ _ _ _ _ _ _ _ _ _ _ _ _ _ _ _ _ _ _ _ _ _ _ _ _ _ _ _ _ _ _ _ _ _ _ f2 f3 f4 f5 f6 f7 f14 f22 (fun b => by rw [e0]; exact hn c b) h14 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, ⟨%g8, H8, %p8⟩, ⟨%g9, H9, %p9⟩, ⟨%g10, H10, %p10⟩, ⟨%g11, H11, %p11⟩, ⟨%g12, H12, %p12⟩, ⟨%g13, H13, %p13⟩, ⟨%g14, H14, %p14⟩, H15, H16, H17, H18, H19, H20, H21, ⟨%g22, H22, %p22⟩, H23⟩
  rw [c1] at p8 p9 p22
  simp only [e0, e1, e2, e3, e4, e5, cb] at p8 p9 p10 p11 p12 p13 p22
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists g8; isplitl [H8]; · iexact H8
    ipureintro; exact fun h3 s f d => (p8 (by omega) s f d).trans ((N22_out m c n hn24 h3 _ q22 (1 : Fin 2) s f d).trans (if_pos rfl))
  isplitl [H9]
  · iexists g9; isplitl [H9]; · iexact H9
    ipureintro; exact fun h3 s f d => (p9 (by omega) s f d).trans ((N22_out m c n hn24 h3 _ q22 (0 : Fin 2) s f d).trans (if_neg (by decide)))
  isplitl [H10]
  · iexists g10; isplitl [H10]; · iexact H10
    ipureintro; exact p10
  isplitl [H11]
  · iexists g11; isplitl [H11]; · iexact H11
    ipureintro; exact p11
  isplitl [H12]
  · iexists g12; isplitl [H12]; · iexact H12
    ipureintro; exact p12
  isplitl [H13]
  · iexists g13; isplitl [H13]; · iexact H13
    ipureintro; exact p13
  isplitl [H14]
  · iexists g14; isplitl [H14]; · iexact H14
    ipureintro; exact Or.inr p14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iexists g22; isplitl [H22]; · iexact H22
    ipureintro; exact Q22.next m c n hn24 _ _ q22 p22
  iexact H23

end Cert.Proof.KernelIdeal
end
-- ==== Proof.RunValue.lean ====
/-
  The run of the whole call with what it computes: every result array, index by index.
-/
module

public import proofs.«01_k».proof.Proof.RunPoint
public import proofs.«01_k».proof.Proof.Gen.KernelIdeal.Frame
public import Idealize.ShloMosaic.Lib.Pipeline.ValueKit

@[expose] public section

set_option maxRecDepth 16384

noncomputable section

namespace Cert.Proof.KernelIdeal

open Cert.KernelIdeal Cert.KernelIdeal.Gen Cert.Proof.Spec
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

variable (ρ : Dev nD → PrngReg)

/-- A buffer's point-to at the whole buffer and at its whole memref are the same. -/
theorem vpt_whole (c : Dev nD) (b : Ref sig .tc) (f : Buf (Elt Ideal) ((c : Thread nD τ).loc b)) :
    (((c : Thread nD τ).loc b) ↦{fullShare} f : sProp 𝕄) ⊢ ((Memref.whole b).view.loc (c : Thread nD τ) ↦[(Memref.whole b).view.set]{fullShare} f) := by
  rw [show (Memref.whole b).view.set = Finset.univ from View.set_whole b]
theorem vwhole_pt (c : Dev nD) (b : Ref sig .tc) (f : Buf (Elt Ideal) ((c : Thread nD τ).loc b)) :
    ((Memref.whole b).view.loc (c : Thread nD τ) ↦[(Memref.whole b).view.set]{fullShare} f : sProp 𝕄) ⊢ (((c : Thread nD τ).loc b) ↦{fullShare} f) := by
  rw [show (Memref.whole b).view.set = Finset.univ from View.set_whole b]

/-- What the body may leave in a window's buffer, of what it found there. -/
def aft (c : Dev nD) : (w : Fin cfg0.W) → Fin cfg0.N → ((cfg0.win w).block.Idx → Elt Ideal (cfg0.win w).elt) →
    ((cfg0.win w).block.Idx → Elt Ideal (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => L6 m c t.val X
  | 7 => fun t _ X => L7 m c t.val X
  | 8 => fun t _ X => L8 m c t.val X
  | 9 => fun t _ X => L9 m c t.val X
  | 10 => fun t _ X => L10 m c t.val X
  | 11 => fun t _ X => L11 m c t.val X
  | ⟨_ + 12, h⟩ => absurd h (Nat.not_lt.2 (Nat.le_add_left _ _))

/-- A scratch buffer's contents, read at an index. -/
abbrev rd14 (f : BufTy.Contents (Elt Ideal) (Memref.whole cc0_scratch0).view.ty) (h : Fin 8) (r : Fin 256) (s : Fin 1024) : EReal :=
  (Memref.whole cc0_scratch0).view.read (Elt Ideal) f (ix3 h r s)
abbrev rd22 (f : BufTy.Contents (Elt Ideal) (Memref.whole cc0_scratch8).view.ty) (k j : Fin 2) (r : Fin 4096) (p : Fin 2) (l : Fin 128) : EReal :=
  (Memref.whole cc0_scratch8).view.read (Elt Ideal) f (ix5 k j r p l)

/-- What holds of the scratch buffers before point `n`. -/
def PhiV (c : Dev nD) (n : ℕ) : sProp 𝕄 :=
  iprop(((∃ f : Buf (Elt Ideal) ((c : Thread nD τ).loc cc0_scratch0), (((c : Thread nD τ).loc cc0_scratch0) ↦{fullShare} f) ∗ ⌜Q14 n (rd14 f)⌝) ∗ (∃ f : Buf (Elt Ideal) ((c : Thread nD τ).loc cc0_scratch1), (((c : Thread nD τ).loc cc0_scratch1) ↦{fullShare} f)) ∗ (∃ f : Buf (Elt Ideal) ((c : Thread nD τ).loc cc0_scratch2), (((c : Thread nD τ).loc cc0_scratch2) ↦{fullShare} f)) ∗ (∃ f : Buf (Elt Ideal) ((c : Thread nD τ).loc cc0_scratch3), (((c : Thread nD τ).loc cc0_scratch3) ↦{fullShare} f)) ∗ (∃ f : Buf (Elt Ideal) ((c : Thread nD τ).loc cc0_scratch4), (((c : Thread nD τ).loc cc0_scratch4) ↦{fullShare} f)) ∗ (∃ f : Buf (Elt Ideal) ((c : Thread nD τ).loc cc0_scratch5), (((c : Thread nD τ).loc cc0_scratch5) ↦{fullShare} f)) ∗ (∃ f : Buf (Elt Ideal) ((c : Thread nD τ).loc cc0_scratch6), (((c : Thread nD τ).loc cc0_scratch6) ↦{fullShare} f)) ∗ (∃ f : Buf (Elt Ideal) ((c : Thread nD τ).loc cc0_scratch7), (((c : Thread nD τ).loc cc0_scratch7) ↦{fullShare} f)) ∗ (∃ f : Buf (Elt Ideal) ((c : Thread nD τ).loc cc0_scratch8), (((c : Thread nD τ).loc cc0_scratch8) ↦{fullShare} f) ∗ ⌜Q22 m c n (rd22 f)⌝) ∗ (∃ f : Buf (Elt Ideal) ((c : Thread nD τ).loc cc0_scratch9), (((c : Thread nD τ).loc cc0_scratch9) ↦{fullShare} f))) ∗ ∃ r, prngReg c r)

/-- The pipeline's data. -/
def vdats (c : Dev nD) : RDat τ (Elt Ideal) Unit ℕ (UR sig nD τ) ℕ cfg0 c where
  A w := V m c (Pipeline.arrRef spec0 w)
  after w t Y X := aft m c w t Y X
  Φ t := PhiV m c t.val
  q _ := fullShare
  owed _ := 0

theorem phi_in (c : Dev nD) : ΦA spec0 c ⊢ (vdats m c).Φ 0 := by
  show _ ⊢ PhiV m c 0
  unfold ΦA PhiV
  rw [scopedRest0_eq]
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hp⟩
  isplitr [Hp]; swap; · iexact Hp
  isplitl [S0]
  · iexists s0; isplitl [S0]; · iexact S0
    ipureintro; exact Or.inl rfl
  isplitl [S1]
  · iexists s1; iexact S1
  isplitl [S2]
  · iexists s2; iexact S2
  isplitl [S3]
  · iexists s3; iexact S3
  isplitl [S4]
  · iexists s4; iexact S4
  isplitl [S5]
  · iexists s5; iexact S5
  isplitl [S6]
  · iexists s6; iexact S6
  isplitl [S7]
  · iexists s7; iexact S7
  isplitl [S8]
  · iexists s8; isplitl [S8]; · iexact S8
    ipureintro; exact fun u hu => absurd hu (by omega)
  iexists s9; iexact S9

theorem phi_out (c : Dev nD) (n : ℕ) : PhiV m c n ⊢ ΦA spec0 c := by
  unfold ΦA PhiV
  rw [scopedRest0_eq]
  iintro ⟨⟨⟨%s0, S0, -⟩, ⟨%s1, S1⟩, ⟨%s2, S2⟩, ⟨%s3, S3⟩, ⟨%s4, S4⟩, ⟨%s5, S5⟩, ⟨%s6, S6⟩, ⟨%s7, S7⟩, ⟨%s8, S8, -⟩, ⟨%s9, S9⟩⟩, Hp⟩
  isplitr [Hp]; swap; · iexact Hp
  isplitl [S0]; · iexists s0; iexact S0
  isplitl [S1]; · iexists s1; iexact S1
  isplitl [S2]; · iexists s2; iexact S2
  isplitl [S3]; · iexists s3; iexact S3
  isplitl [S4]; · iexists s4; iexact S4
  isplitl [S5]; · iexists s5; iexact S5
  isplitl [S6]; · iexists s6; iexact S6
  isplitl [S7]; · iexists s7; iexact S7
  isplitl [S8]; · iexists s8; iexact S8
  iexists s9; iexact S9

theorem found0 (c : Dev nD) (t : Fin cfg0.N) (Y) (h : (vdats m c).Finds 0 t Y) : Y = iblk m c 0 t := by
  obtain ⟨d, hd⟩ := (vdats m c).finds_in_eq_fetched 0 rfl (fun _ _ _ => rfl) (fun t Y X h => h) t Y h
  rw [hd]
  unfold RDat.fetched RDat.blockOf iblk
  rfl
theorem found1 (c : Dev nD) (t : Fin cfg0.N) (Y) (h : (vdats m c).Finds 1 t Y) : Y = iblk m c 1 t := by
  obtain ⟨d, hd⟩ := (vdats m c).finds_in_eq_fetched 1 rfl (fun _ _ _ => rfl) (fun t Y X h => h) t Y h
  rw [hd]
  unfold RDat.fetched RDat.blockOf iblk
  rfl
theorem found2 (c : Dev nD) (t : Fin cfg0.N) (Y) (h : (vdats m c).Finds 2 t Y) : Y = iblk m c 2 t := by
  obtain ⟨d, hd⟩ := (vdats m c).finds_in_eq_fetched 2 rfl (fun _ _ _ => rfl) (fun t Y X h => h) t Y h
  rw [hd]
  unfold RDat.fetched RDat.blockOf iblk
  rfl
theorem found3 (c : Dev nD) (t : Fin cfg0.N) (Y) (h : (vdats m c).Finds 3 t Y) : Y = iblk m c 3 t := by
  obtain ⟨d, hd⟩ := (vdats m c).finds_in_eq_fetched 3 rfl (fun _ _ _ => rfl) (fun t Y X h => h) t Y h
  rw [hd]
  unfold RDat.fetched RDat.blockOf iblk
  rfl
theorem found4 (c : Dev nD) (t : Fin cfg0.N) (Y) (h : (vdats m c).Finds 4 t Y) : Y = iblk m c 4 t := by
  obtain ⟨d, hd⟩ := (vdats m c).finds_in_eq_fetched 4 rfl (fun _ _ _ => rfl) (fun t Y X h => h) t Y h
  rw [hd]
  unfold RDat.fetched RDat.blockOf iblk
  rfl
theorem found5 (c : Dev nD) (t : Fin cfg0.N) (Y) (h : (vdats m c).Finds 5 t Y) : Y = iblk m c 5 t := by
  obtain ⟨d, hd⟩ := (vdats m c).finds_in_eq_fetched 5 rfl (fun _ _ _ => rfl) (fun t Y X h => h) t Y h
  rw [hd]
  unfold RDat.fetched RDat.blockOf iblk
  rfl

set_option maxHeartbeats 3000000 in
theorem vbody (hn : Live m) (c : Dev nD) : (vdats m c).BodyObligation (defs₀ (F := Ideal)) 𝒱₁ () Set.univ := by
  intro t Y hY
  have ht : t.val < 24 := t.isLt
  have c0 := (coords_eq t).1
  have c1 := (coords_eq t).2
  have y0 : Y 0 = V m c main_arg7 := (found0 m c t (Y 0) (hY 0)).trans (iblk0_eq m c t)
  have y2 : Y 2 = V m c main_v7 := (found2 m c t (Y 2) (hY 2)).trans (iblk2_eq m c t)
  have y3 : Y 3 = V m c main_v8 := (found3 m c t (Y 3) (hY 3)).trans (iblk3_eq m c t)
  have y4 : Y 4 = V m c main_v6 := (found4 m c t (Y 4) (hY 4)).trans (iblk4_eq m c t)
  have y5 : Y 5 = V m c main_v9 := (found5 m c t (Y 5) (hY 5)).trans (iblk5_eq m c t)
  have y1 : ∀ p s k, Y 1 (ix4 0 p s k) = gX m c (bOf t.val) (fOf t.val p) s k := fun p s k =>
    (congrFun (found1 m c t (Y 1) (hY 1)) _).trans (iblk1_eq m c t p s k)
  rw [bigSep_W0, bigSep_W0]
  sl_whnfR [defs₀, Defs.onTc]
  rw [show (vdats m c).Φ t.succ = PhiV m c (t.val + 1) from rfl,
    show (vdats m c).owesAt () t.succ = (vdats m c).owesAt () t.castSucc from rfl,
    show (vdats m c).Φ t.castSucc = PhiV m c t.val from rfl]
  unfold PhiV
  unfold owns
  iintro ⟨⟨⟨⟨%s0, S0, %q0⟩, ⟨%s1, S1⟩, ⟨%s2, S2⟩, ⟨%s3, S3⟩, ⟨%s4, S4⟩, ⟨%s5, S5⟩, ⟨%s6, S6⟩, ⟨%s7, S7⟩, ⟨%s8, S8, %q8⟩, ⟨%s9, S9⟩⟩, Hp⟩, Ho, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩⟩
  have e0 : ∀ b, (win0_0.stage (cfg0.slots t 0)).view.read (Elt Ideal) g0 (ix1 b) = gN m c b := fun b => (congrFun (hg0.trans y0) _)
  have e2 : (fun k => (win0_2.stage (cfg0.slots t 2)).view.read (Elt Ideal) g2 k) = gG m c := hg2.trans y2
  have e3 : (fun k => (win0_3.stage (cfg0.slots t 3)).view.read (Elt Ideal) g3 k) = gB m c := hg3.trans y3
  have e4 : (win0_4.stage (cfg0.slots t 4)).view.read (Elt Ideal) g4 = gW m c := hg4.trans y4
  have e5 : Wv (win0_5.stage (cfg0.slots t 5)) g5 = gO m c := by
    funext r d; exact congrFun (hg5.trans y5) _
  have e1 : Xv (win0_1.stage (cfg0.slots t 1)) g1 = fun p s k => gX m c (bOf t.val) (fOf t.val p) s k := by
    funext p s k; exact (congrFun hg1 _).trans (y1 p s k)
  iapply (body_pt m hn c t.val ht (grid0.coords t) _ _ _ _ _ _ _ _ _ _ _ _ _ _ _ _ _ _ _ _ _ _ _ _ _ _ _ _ _ _ _ _ _ _ _ _ _ _ _ _ _ _ _ _ g0 g1 g2 g3 g4 g5 s0 s8 c0 c1 e0 e1 e2 e3 e4 e5 q0 q8 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iapply (vpt_whole c cc0_scratch0 s0); iexact S0
  isplitl [S1]; · iexists s1; iapply (vpt_whole c cc0_scratch1 s1); iexact S1
  isplitl [S2]; · iexists s2; iapply (vpt_whole c cc0_scratch2 s2); iexact S2
  isplitl [S3]; · iexists s3; iapply (vpt_whole c cc0_scratch3 s3); iexact S3
  isplitl [S4]; · iexists s4; iapply (vpt_whole c cc0_scratch4 s4); iexact S4
  isplitl [S5]; · iexists s5; iapply (vpt_whole c cc0_scratch5 s5); iexact S5
  isplitl [S6]; · iexists s6; iapply (vpt_whole c cc0_scratch6 s6); iexact S6
  isplitl [S7]; · iexists s7; iapply (vpt_whole c cc0_scratch7 s7); iexact S7
  isplitl [S8]; · iapply (vpt_whole c cc0_scratch8 s8); iexact S8
  isplitl [S9]; · iexists s9; iapply (vpt_whole c cc0_scratch9 s9); iexact S9
  iintro ⟨H0, H1, H2, H3, H4, H5, ⟨%h6, H6, %p6⟩, ⟨%h7, H7, %p7⟩, ⟨%h8, H8, %p8⟩, ⟨%h9, H9, %p9⟩, ⟨%h10, H10, %p10⟩, ⟨%h11, H11, %p11⟩, ⟨%r0, S0, %z0⟩, ⟨%r1, S1⟩, ⟨%r2, S2⟩, ⟨%r3, S3⟩, ⟨%r4, S4⟩, ⟨%r5, S5⟩, ⟨%r6, S6⟩, ⟨%r7, S7⟩, ⟨%r8, S8, %z8⟩, ⟨%r9, S9⟩⟩
  isplitl [S0 S1 S2 S3 S4 S5 S6 S7 S8 S9 Hp]
  · isplitr [Hp]; swap; · iexact Hp
    isplitl [S0]
    · iexists r0; isplitl [S0]; · iapply (vwhole_pt c cc0_scratch0 r0); iexact S0
      ipureintro
      exact z0
    isplitl [S1]
    · iexists r1; iapply (vwhole_pt c cc0_scratch1 r1); iexact S1
    isplitl [S2]
    · iexists r2; iapply (vwhole_pt c cc0_scratch2 r2); iexact S2
    isplitl [S3]
    · iexists r3; iapply (vwhole_pt c cc0_scratch3 r3); iexact S3
    isplitl [S4]
    · iexists r4; iapply (vwhole_pt c cc0_scratch4 r4); iexact S4
    isplitl [S5]
    · iexists r5; iapply (vwhole_pt c cc0_scratch5 r5); iexact S5
    isplitl [S6]
    · iexists r6; iapply (vwhole_pt c cc0_scratch6 r6); iexact S6
    isplitl [S7]
    · iexists r7; iapply (vwhole_pt c cc0_scratch7 r7); iexact S7
    isplitl [S8]
    · iexists r8; isplitl [S8]; · iapply (vwhole_pt c cc0_scratch8 r8); iexact S8
      ipureintro
      exact z8
    iexists r9; iapply (vwhole_pt c cc0_scratch9 r9); iexact S9
  isplitl [Ho]; · iexact Ho
  isplitl [H0]
  · iexists Y 0; isplitr; · ipureintro; exact (rfl : Y 0 = Y 0)
    iexists g0; isplitr; · ipureintro; exact hg0
    iexact H0
  isplitl [H1]
  · iexists Y 1; isplitr; · ipureintro; exact (rfl : Y 1 = Y 1)
    iexists g1; isplitr; · ipureintro; exact hg1
    iexact H1
  isplitl [H2]
  · iexists Y 2; isplitr; · ipureintro; exact (rfl : Y 2 = Y 2)
    iexists g2; isplitr; · ipureintro; exact hg2
    iexact H2
  isplitl [H3]
  · iexists Y 3; isplitr; · ipureintro; exact (rfl : Y 3 = Y 3)
    iexists g3; isplitr; · ipureintro; exact hg3
    iexact H3
  isplitl [H4]
  · iexists Y 4; isplitr; · ipureintro; exact (rfl : Y 4 = Y 4)
    iexists g4; isplitr; · ipureintro; exact hg4
    iexact H4
  isplitl [H5]
  · iexists Y 5; isplitr; · ipureintro; exact (rfl : Y 5 = Y 5)
    iexists g5; isplitr; · ipureintro; exact hg5
    iexact H5
  isplitl [H6]
  · iexists ((win0_6.stage (cfg0.slots t 6)).view.read (Elt Ideal) h6); isplitr; · ipureintro; exact p6
    iexists h6; isplitr; · ipureintro; rfl
    iexact H6
  isplitl [H7]
  · iexists ((win0_7.stage (cfg0.slots t 7)).view.read (Elt Ideal) h7); isplitr; · ipureintro; exact p7
    iexists h7; isplitr; · ipureintro; rfl
    iexact H7
  isplitl [H8]
  · iexists ((win0_8.stage (cfg0.slots t 8)).view.read (Elt Ideal) h8); isplitr; · ipureintro; exact p8
    iexists h8; isplitr; · ipureintro; rfl
    iexact H8
  isplitl [H9]
  · iexists ((win0_9.stage (cfg0.slots t 9)).view.read (Elt Ideal) h9); isplitr; · ipureintro; exact p9
    iexists h9; isplitr; · ipureintro; rfl
    iexact H9
  isplitl [H10]
  · iexists ((win0_10.stage (cfg0.slots t 10)).view.read (Elt Ideal) h10); isplitr; · ipureintro; exact p10
    iexists h10; isplitr; · ipureintro; rfl
    iexact H10
  · iexists ((win0_11.stage (cfg0.slots t 11)).view.read (Elt Ideal) h11); isplitr; · ipureintro; exact p11
    iexists h11; isplitr; · ipureintro; rfl
    iexact H11

set_option backward.isDefEq.respectTransparency.types false in
theorem vrun (hn : Live m) : θ_run defs (onTc (τ := τ) (main (F := Ideal))) (s₀ m ρ)
    (fun r => Pipeline.RDat.FramePost cfg0 (vdats m) (V m) r ∧ r.2.sem = fun _ => 0) :=
  Pipeline.RDat.θ_run_frame_track (Q' := _) cfgs (0 : Fin 1) launch0 defs₀ 𝒱₁ (vdats m) m ρ main
    (hbody := vbody m hn) (hshare := fun c => (vdats m c).share_full fun _ => rfl)
    (howed := fun _ _ => rfl) (V := V m) (hmain := hmain m 𝒱₁) (hA := fun _ _ => rfl)
    (hin := phi_in m) (hout := fun c => phi_out m c _)

end Cert.Proof.KernelIdeal
end
-- ==== Proof.RunOut.lean ====
/-
  The result arrays of the whole call, index by index.
-/
module

public import proofs.«01_k».proof.Proof.RunValue
public import proofs.«01_k».proof.Proof.Gen.KernelIdeal.Frame
public import Idealize.ShloMosaic.Lib.Pipeline.ValueKit
public import Idealize.ShloMosaic.Lib.Pipeline.ArrRel

@[expose] public section

set_option maxRecDepth 16384

noncomputable section

namespace Cert.Proof.KernelIdeal

open Cert.KernelIdeal Cert.KernelIdeal.Gen Cert.Proof.Spec
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

variable (ρ : Dev nD → PrngReg)

theorem idx8 : ∀ t : Fin cfg0.N, win0_8.index t = ![t.val / 12, t.val % 12, 0, 0] :=
  (by decide +kernel : ∀ t : Fin grid0.N, win0_8.index t = ![t.val / 12, t.val % 12, 0, 0])
theorem idx9 : ∀ t : Fin cfg0.N, win0_9.index t = ![t.val / 12, t.val % 12, 0, 0] :=
  (by decide +kernel : ∀ t : Fin grid0.N, win0_9.index t = ![t.val / 12, t.val % 12, 0, 0])
theorem idx10 : ∀ t : Fin cfg0.N, win0_10.index t = ![t.val / 12, t.val % 12, 0, 0] :=
  (by decide +kernel : ∀ t : Fin grid0.N, win0_10.index t = ![t.val / 12, t.val % 12, 0, 0])
theorem idx11 : ∀ t : Fin cfg0.N, win0_11.index t = ![t.val / 12, t.val % 12, 0, 0] :=
  (by decide +kernel : ∀ t : Fin grid0.N, win0_11.index t = ![t.val / 12, t.val % 12, 0, 0])
theorem idx6 : ∀ t : Fin cfg0.N, win0_6.index t = ![t.val / 12, 0, t.val % 12 / 4, 0] :=
  (by decide +kernel : ∀ t : Fin grid0.N, win0_6.index t = ![t.val / 12, 0, t.val % 12 / 4, 0])
theorem idx7 : ∀ t : Fin cfg0.N, win0_7.index t = ![t.val / 12, 0, t.val % 12 / 4, 0] :=
  (by decide +kernel : ∀ t : Fin grid0.N, win0_7.index t = ![t.val / 12, 0, t.val % 12 / 4, 0])

variable (c : Dev nD)
  (after : (w : Fin cfg0.W) → Fin cfg0.N → (cfg0.win w).block.Idx → Elt Ideal (cfg0.win w).elt)
  (hL : ∀ (w : Fin cfg0.W) (u : Fin cfg0.N), (cfg0.win w).flush u = true → (vdats m c).Leaves w u (after w u))

/-- Result 2 of the call. -/
def G8 (c : Dev nD) : S2x24x256x1024.Idx → EReal := fun i => cd (gQ m c (i 0) (i 1) (i 3)) (i 2)

include hL in
theorem arr8 : ((vdats m c).withAfter after).arrAt 8 cfg0.N = G8 m c := by
  refine ((vdats m c).withAfter after).arrAt_eq_of_covers 8 (G8 m c) (by decide +kernel) fun t hf y => ?_
  obtain ⟨Y, _, hY⟩ := hL 8 t hf
  have hX : L8 m c t.val (after 8 t) := hY
  have ht : t.val < 24 := t.isLt
  have h12 : t.val / 12 % 2 = t.val / 12 := by omega
  blk_simp
  have hy : ∀ y : S1x2x256x1024.Idx, y = ix4 0 (y 1) (y 2) (y 3) := fun y => by
    funext a
    fin_cases a
    · exact Fin.ext (by show (y 0).val = 0; have : (y 0).val < 1 := (y 0).isLt; omega)
    · rfl
    · rfl
    · rfl
  have e0 : ((win0_8.blk t).view.emb y 0) = bOf t.val := Fin.ext (by blk_simp [idx8 t]; idx_bounds y; simp; omega)
  have e1 : ((win0_8.blk t).view.emb y 1) = fOf t.val (y 1) := Fin.ext (by blk_simp [idx8 t]; simp; omega)
  have e2 : ((win0_8.blk t).view.emb y 2) = y 2 := Fin.ext (by blk_simp [idx8 t])
  have e3 : ((win0_8.blk t).view.emb y 3) = y 3 := Fin.ext (by blk_simp [idx8 t])
  show after 8 t y = cd (gQ m c ((win0_8.blk t).view.emb y 0) ((win0_8.blk t).view.emb y 1) ((win0_8.blk t).view.emb y 3)) ((win0_8.blk t).view.emb y 2)
  rw [e0, e1, e2, e3]
  exact (congrArg (after 8 t) (hy y)).trans (hX (y 1) (y 2) (y 3))

/-- Result 3 of the call. -/
def G9 (c : Dev nD) : S2x24x8x1024.Idx → EReal := fun i => sc (gQ m c (i 0) (i 1) (i 3)) (i 2)

include hL in
theorem arr9 : ((vdats m c).withAfter after).arrAt 9 cfg0.N = G9 m c := by
  refine ((vdats m c).withAfter after).arrAt_eq_of_covers 9 (G9 m c) (by decide +kernel) fun t hf y => ?_
  obtain ⟨Y, _, hY⟩ := hL 9 t hf
  have hX : L9 m c t.val (after 9 t) := hY
  have ht : t.val < 24 := t.isLt
  have h12 : t.val / 12 % 2 = t.val / 12 := by omega
  blk_simp
  have hy : ∀ y : S1x2x8x1024.Idx, y = ix4 0 (y 1) (y 2) (y 3) := fun y => by
    funext a
    fin_cases a
    · exact Fin.ext (by show (y 0).val = 0; have : (y 0).val < 1 := (y 0).isLt; omega)
    · rfl
    · rfl
    · rfl
  have e0 : ((win0_9.blk t).view.emb y 0) = bOf t.val := Fin.ext (by blk_simp [idx9 t]; idx_bounds y; simp; omega)
  have e1 : ((win0_9.blk t).view.emb y 1) = fOf t.val (y 1) := Fin.ext (by blk_simp [idx9 t]; simp; omega)
  have e2 : ((win0_9.blk t).view.emb y 2) = y 2 := Fin.ext (by blk_simp [idx9 t])
  have e3 : ((win0_9.blk t).view.emb y 3) = y 3 := Fin.ext (by blk_simp [idx9 t])
  show after 9 t y = sc (gQ m c ((win0_9.blk t).view.emb y 0) ((win0_9.blk t).view.emb y 1) ((win0_9.blk t).view.emb y 3)) ((win0_9.blk t).view.emb y 2)
  rw [e0, e1, e2, e3]
  exact (congrArg (after 9 t) (hy y)).trans (hX (y 1) (y 2) (y 3))

/-- Result 4 of the call. -/
def G10 (c : Dev nD) : S2x24x256x1024.Idx → EReal := fun i => cd (gK m c (i 0) (i 1) (i 3)) (i 2)

include hL in
theorem arr10 : ((vdats m c).withAfter after).arrAt 10 cfg0.N = G10 m c := by
  refine ((vdats m c).withAfter after).arrAt_eq_of_covers 10 (G10 m c) (by decide +kernel) fun t hf y => ?_
  obtain ⟨Y, _, hY⟩ := hL 10 t hf
  have hX : L10 m c t.val (after 10 t) := hY
  have ht : t.val < 24 := t.isLt
  have h12 : t.val / 12 % 2 = t.val / 12 := by omega
  blk_simp
  have hy : ∀ y : S1x2x256x1024.Idx, y = ix4 0 (y 1) (y 2) (y 3) := fun y => by
    funext a
    fin_cases a
    · exact Fin.ext (by show (y 0).val = 0; have : (y 0).val < 1 := (y 0).isLt; omega)
    · rfl
    · rfl
    · rfl
  have e0 : ((win0_10.blk t).view.emb y 0) = bOf t.val := Fin.ext (by blk_simp [idx10 t]; idx_bounds y; simp; omega)
  have e1 : ((win0_10.blk t).view.emb y 1) = fOf t.val (y 1) := Fin.ext (by blk_simp [idx10 t]; simp; omega)
  have e2 : ((win0_10.blk t).view.emb y 2) = y 2 := Fin.ext (by blk_simp [idx10 t])
  have e3 : ((win0_10.blk t).view.emb y 3) = y 3 := Fin.ext (by blk_simp [idx10 t])
  show after 10 t y = cd (gK m c ((win0_10.blk t).view.emb y 0) ((win0_10.blk t).view.emb y 1) ((win0_10.blk t).view.emb y 3)) ((win0_10.blk t).view.emb y 2)
  rw [e0, e1, e2, e3]
  exact (congrArg (after 10 t) (hy y)).trans (hX (y 1) (y 2) (y 3))

/-- Result 5 of the call. -/
def G11 (c : Dev nD) : S2x24x8x1024.Idx → EReal := fun i => sc (gK m c (i 0) (i 1) (i 3)) (i 2)

include hL in
theorem arr11 : ((vdats m c).withAfter after).arrAt 11 cfg0.N = G11 m c := by
  refine ((vdats m c).withAfter after).arrAt_eq_of_covers 11 (G11 m c) (by decide +kernel) fun t hf y => ?_
  obtain ⟨Y, _, hY⟩ := hL 11 t hf
  have hX : L11 m c t.val (after 11 t) := hY
  have ht : t.val < 24 := t.isLt
  have h12 : t.val / 12 % 2 = t.val / 12 := by omega
  blk_simp
  have hy : ∀ y : S1x2x8x1024.Idx, y = ix4 0 (y 1) (y 2) (y 3) := fun y => by
    funext a
    fin_cases a
    · exact Fin.ext (by show (y 0).val = 0; have : (y 0).val < 1 := (y 0).isLt; omega)
    · rfl
    · rfl
    · rfl
  have e0 : ((win0_11.blk t).view.emb y 0) = bOf t.val := Fin.ext (by blk_simp [idx11 t]; idx_bounds y; simp; omega)
  have e1 : ((win0_11.blk t).view.emb y 1) = fOf t.val (y 1) := Fin.ext (by blk_simp [idx11 t]; simp; omega)
  have e2 : ((win0_11.blk t).view.emb y 2) = y 2 := Fin.ext (by blk_simp [idx11 t])
  have e3 : ((win0_11.blk t).view.emb y 3) = y 3 := Fin.ext (by blk_simp [idx11 t])
  show after 11 t y = sc (gK m c ((win0_11.blk t).view.emb y 0) ((win0_11.blk t).view.emb y 1) ((win0_11.blk t).view.emb y 3)) ((win0_11.blk t).view.emb y 2)
  rw [e0, e1, e2, e3]
  exact (congrArg (after 11 t) (hy y)).trans (hX (y 1) (y 2) (y 3))

/-- Result 0 of the call. -/
def G6 (c : Dev nD) : S2x1024x24x256.Idx → EReal := fun i => gY m c (i 0) (i 2) (i 1) (i 3)

include hL in
theorem arr6 : ((vdats m c).withAfter after).arrAt 6 cfg0.N = G6 m c := by
  refine ((vdats m c).withAfter after).arrAt_eq_of_covers 6 (G6 m c) (by decide +kernel) fun t hf y => ?_
  obtain ⟨Y, _, hY⟩ := hL 6 t hf
  have hX : L6 m c t.val (after 6 t) := hY
  have h3 : t.val % 4 = 3 := (flush0_6 t).1 hf
  have ht : t.val < 24 := t.isLt
  blk_simp
  have hy : ∀ y : S1x1024x8x256.Idx, y = ix4 0 (y 1) (y 2) (y 3) := fun y => by
    funext a
    fin_cases a
    · exact Fin.ext (by show (y 0).val = 0; have : (y 0).val < 1 := (y 0).isLt; omega)
    · rfl
    · rfl
    · rfl
  have b2 : (y 2).val < 8 := (y 2).isLt
  have e0 : ((win0_6.blk t).view.emb y 0) = bOf (t.val / 4 * 4 + (y 2).val / 2) := Fin.ext (by blk_simp [idx6 t]; idx_bounds y; simp; omega)
  have e1 : ((win0_6.blk t).view.emb y 1) = y 1 := Fin.ext (by blk_simp [idx6 t])
  have e2 : ((win0_6.blk t).view.emb y 2) = fOf (t.val / 4 * 4 + (y 2).val / 2) (par (y 2)) := Fin.ext (by
    blk_simp [idx6 t]; have : (par (y 2)).val = (y 2).val % 2 := rfl; simp [this]; omega)
  have e3 : ((win0_6.blk t).view.emb y 3) = y 3 := Fin.ext (by blk_simp [idx6 t])
  show after 6 t y = gY m c ((win0_6.blk t).view.emb y 0) ((win0_6.blk t).view.emb y 2) ((win0_6.blk t).view.emb y 1) ((win0_6.blk t).view.emb y 3)
  rw [e0, e1, e2, e3]
  exact (congrArg (after 6 t) (hy y)).trans (hX h3 (y 1) (y 2) (y 3))

/-- Result 1 of the call. -/
def G7 (c : Dev nD) : S2x1024x24x256.Idx → EReal := fun i => gA m c (i 0) (i 2) (i 1) (i 3)

include hL in
theorem arr7 : ((vdats m c).withAfter after).arrAt 7 cfg0.N = G7 m c := by
  refine ((vdats m c).withAfter after).arrAt_eq_of_covers 7 (G7 m c) (by decide +kernel) fun t hf y => ?_
  obtain ⟨Y, _, hY⟩ := hL 7 t hf
  have hX : L7 m c t.val (after 7 t) := hY
  have h3 : t.val % 4 = 3 := (flush0_7 t).1 hf
  have ht : t.val < 24 := t.isLt
  blk_simp
  have hy : ∀ y : S1x1024x8x256.Idx, y = ix4 0 (y 1) (y 2) (y 3) := fun y => by
    funext a
    fin_cases a
    · exact Fin.ext (by show (y 0).val = 0; have : (y 0).val < 1 := (y 0).isLt; omega)
    · rfl
    · rfl
    · rfl
  have b2 : (y 2).val < 8 := (y 2).isLt
  have e0 : ((win0_7.blk t).view.emb y 0) = bOf (t.val / 4 * 4 + (y 2).val / 2) := Fin.ext (by blk_simp [idx7 t]; idx_bounds y; simp; omega)
  have e1 : ((win0_7.blk t).view.emb y 1) = y 1 := Fin.ext (by blk_simp [idx7 t])
  have e2 : ((win0_7.blk t).view.emb y 2) = fOf (t.val / 4 * 4 + (y 2).val / 2) (par (y 2)) := Fin.ext (by
    blk_simp [idx7 t]; have : (par (y 2)).val = (y 2).val % 2 := rfl; simp [this]; omega)
  have e3 : ((win0_7.blk t).view.emb y 3) = y 3 := Fin.ext (by blk_simp [idx7 t])
  show after 7 t y = gA m c ((win0_7.blk t).view.emb y 0) ((win0_7.blk t).view.emb y 2) ((win0_7.blk t).view.emb y 1) ((win0_7.blk t).view.emb y 3)
  rw [e0, e1, e2, e3]
  exact (congrArg (after 7 t) (hy y)).trans (hX h3 (y 1) (y 2) (y 3))

end Cert.Proof.KernelIdeal
end
-- ==== Proof.RunEnd.lean ====
/-
  The run of the whole call: its results and its arguments.
-/
module

public import proofs.«01_k».proof.Proof.RunOut
public import proofs.«01_k».proof.Proof.AttMath
public import Idealize.ShloMosaic.Lib.StableHlo.RunRead
public import Idealize.ShloMosaic.Lib.Pointwise

@[expose] public section

set_option maxRecDepth 16384

noncomputable section

namespace Cert.Proof.KernelIdeal

open Cert.KernelIdeal Cert.KernelIdeal.Gen Cert.Proof.Spec
open Idealize.ShloMosaic
open Idealize.ShloMosaic.TcCoe Idealize.ShloMosaic.Tactic
open Idealize.ShloMosaic.Pipeline (Dat RDat Cfg Window cellOf ΦA)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

variable (ρ : Dev nD → PrngReg)

/-- The call ends with the results `G6` to `G11` and its arguments as they were. -/
theorem vresults (hn : Live m) : θ_run defs (onTc (τ := τ) (main (F := Ideal))) ⟨m, fun _ => 0, ρ⟩ (fun r => ∀ c : Dev nD,
    r.2.mem ((c.tc : Thread nD τ).loc main_v10_0) = G6 m c ∧ r.2.mem ((c.tc : Thread nD τ).loc main_v10_1) = G7 m c ∧ r.2.mem ((c.tc : Thread nD τ).loc main_v10_2) = G8 m c ∧ r.2.mem ((c.tc : Thread nD τ).loc main_v10_3) = G9 m c ∧ r.2.mem ((c.tc : Thread nD τ).loc main_v10_4) = G10 m c ∧ r.2.mem ((c.tc : Thread nD τ).loc main_v10_5) = G11 m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun r h' => fun c => by
    have h := h'.1
    obtain ⟨after, hL, hA⟩ := Pipeline.RDat.FramePost.exists_exact h c
    exact ⟨(hA 6).trans (arr6 m c after hL), (hA 7).trans (arr7 m c after hL), (hA 8).trans (arr8 m c after hL), (hA 9).trans (arr9 m c after hL), (hA 10).trans (arr10 m c after hL), (hA 11).trans (arr11 m c after hL), (show _ = V m c main_arg0 from (cast (congrFun ((vdats m c).ArrAt_in 1 rfl _) _) ((h c).1 1))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), (show _ = V m c main_arg7 from (cast (congrFun ((vdats m c).ArrAt_in 0 rfl _) _) ((h c).1 0))).trans (V_main_arg7 m c)⟩) (vrun m ρ hn)

variable (c : Dev nD)

theorem gX_eq (b f s k) : gX m c b f s k = (m ((c : Thread nD τ).loc main_arg0) : FVec Ideal S2x24x1024x256 .f32) (ix4 b f s k) := by
  unfold gX; rw [V_main_arg0]
theorem gN_eq (b) : gN m c b = (m ((c : Thread nD τ).loc main_arg7) : IVec S2 32) (ix1 b) := by
  unfold gN; rw [V_main_arg7]

/-- The row of a vector reshaped to a row. -/
theorem row_cast (g : FVec Ideal S256 .f32) : row1 (shapeCast S1x256 g shapeCasts_S256_S1x256) = fun k => g (ix1 k) := by
  funext k
  show (shapeCast S1x256 g shapeCasts_S256_S1x256) (ix2 0 k) = _
  pointwise []
theorem gG_eq : row1 (gG m c) = fun k => (m ((c : Thread nD τ).loc main_arg1) : FVec Ideal S256 .f32) (ix1 k) := by
  rw [← row_cast]
  refine congrArg row1 ?_
  unfold gG
  unfold_abbrev_sides
  after_reads_simp
  rfl
theorem gB_eq : row1 (gB m c) = fun k => (m ((c : Thread nD τ).loc main_arg2) : FVec Ideal S256 .f32) (ix1 k) := by
  rw [← row_cast]
  refine congrArg row1 ?_
  unfold gB
  unfold_abbrev_sides
  after_reads_simp
  rfl
theorem out_cast (g : FVec Ideal S8x32x256 .bf16) (r d : Fin 256) :
    shapeCast S256x256 g shapeCasts_S8x32x256_S256x256 (ix2 r d) = g (ix3 (headOf r) (chanOf r) d) := by
  pointwise []
theorem gO_eq (r d) : gO m c r d = (m ((c : Thread nD τ).loc main_arg6) : FVec Ideal S8x32x256 .bf16) (ix3 (headOf r) (chanOf r) d) := by
  rw [← out_cast (m ((c : Thread nD τ).loc main_arg6))]
  unfold gO
  refine congrFun ?_ _
  unfold_abbrev_sides
  after_reads_simp
  rfl
/-- A projection's weights as rows. -/
def wRows (w : FVec Ideal S256x8x32 .bf16) : FVec Ideal S256x256 .bf16 :=
  shapeCast S256x256 (transpose S8x32x256 [1, 2, 0] w transposes_S256x8x32_S8x32x256_1_2_0 : FVec Ideal S8x32x256 .bf16) shapeCasts_S8x32x256_S256x256
theorem wRows_apply (w : FVec Ideal S256x8x32 .bf16) (r k : Fin 256) : wRows w (ix2 r k) = w (ix3 k (headOf r) (chanOf r)) := by
  unfold wRows
  rw [out_cast]
  pointwise []
/-- The stacked weights. -/
def wAll (a b d : FVec Ideal S256x256 .bf16) : FVec Ideal S768x256 .bf16 :=
  concatenate S768x256 0 [⟨S256x256, a⟩, ⟨S256x256, b⟩, ⟨S256x256, d⟩] concatenates_S256x256_S256x256_S256x256_S768x256_d0
theorem wQ_all (a b d) : wQ (wAll a b d) = fun r k => a (ix2 r k) := by
  funext r k
  unfold wAll
  pointwise []
theorem wK_all (a b d) : wK (wAll a b d) = fun r k => b (ix2 r k) := by
  funext r k
  unfold wAll
  pointwise []
theorem wV_all (a b d) : wV (wAll a b d) = fun r k => d (ix2 r k) := by
  funext r k
  unfold wAll
  pointwise []
  rw [dif_neg (by omega), dif_neg (by omega)]
  congr 2
  exact Fin.ext (by show 512 + r.val - 256 - 256 = r.val; omega)
theorem gW_eq : gW m c = wAll (wRows (m ((c : Thread nD τ).loc main_arg3))) (wRows (m ((c : Thread nD τ).loc main_arg4))) (wRows (m ((c : Thread nD τ).loc main_arg5))) := by
  unfold gW
  unfold_abbrev_sides
  after_reads_simp
  rfl

end Cert.Proof.KernelIdeal
end
-- ==== Proof.RefStages.lean ====
/-
  The reference's stages as functions of arrays, and what each is at an index.
-/
module

public import proofs.«01_k».proof.Proof.Gen.ReferenceIdeal
public import proofs.«01_k».proof.Proof.AttMath
public import Idealize.ShloMosaic.Lib.Pointwise
public import Idealize.ShloMosaic.Lib.IdealHost

@[expose] public section

set_option maxRecDepth 16384

noncomputable section

namespace Cert.Proof.Ref

open Cert.ReferenceIdeal Cert.ReferenceIdeal.Gen Cert.Proof.Spec
open Idealize.ShloMosaic Idealize.ShloMosaic.TcCoe

/-- Arrays of positions and channels. -/
abbrev X4 := (FVec Idealize.ShloMosaic.Ideal S2x24x1024x256 .f32)
/-- Arrays of head rows. -/
abbrev P5 := (FVec Idealize.ShloMosaic.Ideal S2x24x8x32x1024 .f32)
/-- Arrays of a number a head. -/
abbrev E4 := (FVec Idealize.ShloMosaic.Ideal S2x24x8x1024 .f32)
/-- Arrays of scores. -/
abbrev S5 := (FVec Idealize.ShloMosaic.Ideal S2x24x8x1024x1024 .f32)
/-- The mean of each row, repeated along the row. -/
def rMean (x : (FVec Idealize.ShloMosaic.Ideal S2x24x1024x256 .f32)) : (FVec Idealize.ShloMosaic.Ideal S2x24x1024x256 .f32) :=
  broadcastInDim S2x24x1024x256 ![0, 1, 2, 3] bcast_S2x24x1024x1_S2x24x1024x256_0_1_2_3 (Host.divf (broadcastInDim S2x24x1024x1 ![0, 1, 2] bcast_S2x24x1024_S2x24x1024x1_0_1_2 (Host.reduceAdd x (constant S_ .f32 0x00000000#32 : (FVec Idealize.ShloMosaic.Ideal S_ .f32)) reducesTo_S2x24x1024x256_S2x24x1024_d3 h_S_ : (FVec Idealize.ShloMosaic.Ideal S2x24x1024 .f32)) : (FVec Idealize.ShloMosaic.Ideal S2x24x1024x1 .f32)) (broadcastInDim S2x24x1024x1 ![] bcast_S_S2x24x1024x1 (constant S_ .f32 0x43800000#32 : (FVec Idealize.ShloMosaic.Ideal S_ .f32)) : (FVec Idealize.ShloMosaic.Ideal S2x24x1024x1 .f32)) : (FVec Idealize.ShloMosaic.Ideal S2x24x1024x1 .f32))
/-- The reciprocal root of each row's mean square. -/
def rInv (y : (FVec Idealize.ShloMosaic.Ideal S2x24x1024x256 .f32)) : (FVec Idealize.ShloMosaic.Ideal S2x24x1024x256 .f32) :=
  broadcastInDim S2x24x1024x256 ![0, 1, 2, 3] bcast_S2x24x1024x1_S2x24x1024x256_0_1_2_3 (Host.rsqrt (addf (Host.divf (broadcastInDim S2x24x1024x1 ![0, 1, 2] bcast_S2x24x1024_S2x24x1024x1_0_1_2 (Host.reduceAdd (mulf y y : (FVec Idealize.ShloMosaic.Ideal S2x24x1024x256 .f32)) (constant S_ .f32 0x00000000#32 : (FVec Idealize.ShloMosaic.Ideal S_ .f32)) reducesTo_S2x24x1024x256_S2x24x1024_d3 h_S_ : (FVec Idealize.ShloMosaic.Ideal S2x24x1024 .f32)) : (FVec Idealize.ShloMosaic.Ideal S2x24x1024x1 .f32)) (broadcastInDim S2x24x1024x1 ![] bcast_S_S2x24x1024x1 (constant S_ .f32 0x43800000#32 : (FVec Idealize.ShloMosaic.Ideal S_ .f32)) : (FVec Idealize.ShloMosaic.Ideal S2x24x1024x1 .f32)) : (FVec Idealize.ShloMosaic.Ideal S2x24x1024x1 .f32)) (broadcastInDim S2x24x1024x1 ![] bcast_S_S2x24x1024x1 (constant S_ .f32 0x3727C5AC#32 : (FVec Idealize.ShloMosaic.Ideal S_ .f32)) : (FVec Idealize.ShloMosaic.Ideal S2x24x1024x1 .f32)) : (FVec Idealize.ShloMosaic.Ideal S2x24x1024x1 .f32)) : (FVec Idealize.ShloMosaic.Ideal S2x24x1024x1 .f32))
/-- A row vector, repeated. -/
def rRow (g : (FVec Idealize.ShloMosaic.Ideal S256 .f32)) : (FVec Idealize.ShloMosaic.Ideal S2x24x1024x256 .f32) :=
  broadcastInDim S2x24x1024x256 ![0, 1, 2, 3] bcast_S1x1x1x256_S2x24x1024x256_0_1_2_3 (broadcastInDim S1x1x1x256 ![3] bcast_S256_S1x1x1x256_3 g : (FVec Idealize.ShloMosaic.Ideal S1x1x1x256 .f32))
/-- The layer normalisation. -/
def rLN (x : (FVec Idealize.ShloMosaic.Ideal S2x24x1024x256 .f32)) (g b : (FVec Idealize.ShloMosaic.Ideal S256 .f32)) : (FVec Idealize.ShloMosaic.Ideal S2x24x1024x256 .bf16) :=
  truncf .bf16 (addf (mulf (mulf (subf x (rMean x) : (FVec Idealize.ShloMosaic.Ideal S2x24x1024x256 .f32)) (rInv (subf x (rMean x) : (FVec Idealize.ShloMosaic.Ideal S2x24x1024x256 .f32))) : (FVec Idealize.ShloMosaic.Ideal S2x24x1024x256 .f32)) (rRow g) : (FVec Idealize.ShloMosaic.Ideal S2x24x1024x256 .f32)) (rRow b) : (FVec Idealize.ShloMosaic.Ideal S2x24x1024x256 .f32)) bitsLt_bf16_f32
/-- A projection. -/
def rPrj (w : (FVec Idealize.ShloMosaic.Ideal S256x8x32 .bf16)) (l : (FVec Idealize.ShloMosaic.Ideal S2x24x1024x256 .bf16)) : (FVec Idealize.ShloMosaic.Ideal S2x24x8x32x1024 .f32) :=
  transpose S2x24x8x32x1024 [2, 3, 0, 1, 4] (Host.dotGeneral dot_S256x8x32_S2x24x1024x256_S8x32x2x24x1024_0_3_12_012_n_n none w l : (FVec Idealize.ShloMosaic.Ideal S8x32x2x24x1024 .f32)) transposes_S8x32x2x24x1024_S2x24x8x32x1024_2_3_0_1_4
/-- The magnitudes. -/
def rAbs (p : (FVec Idealize.ShloMosaic.Ideal S2x24x8x32x1024 .f32)) : (FVec Idealize.ShloMosaic.Ideal S2x24x8x32x1024 .f32) := Host.absf p
/-- The largest entry of a head. -/
def rTop (q : (FVec Idealize.ShloMosaic.Ideal S2x24x8x32x1024 .f32)) : (FVec Idealize.ShloMosaic.Ideal S2x24x8x1024 .f32) := Host.reduce FloatOps.maximumf q (constant S_ .f32 0xFF800000#32 : (FVec Idealize.ShloMosaic.Ideal S_ .f32)) reducesTo_S2x24x8x32x1024_S2x24x8x1024_d3 h_S_
/-- Over 448. -/
def rOver (u : (FVec Idealize.ShloMosaic.Ideal S2x24x8x1024 .f32)) : (FVec Idealize.ShloMosaic.Ideal S2x24x8x1024 .f32) := mulf u (broadcastInDim S2x24x8x1024 ![] bcast_S_S2x24x8x1024 (constant S_ .f32 0x3B124925#32 : (FVec Idealize.ShloMosaic.Ideal S_ .f32)) : (FVec Idealize.ShloMosaic.Ideal S2x24x8x1024 .f32))
/-- The largest entry of a head over 448. -/
def rMaxOf (q : (FVec Idealize.ShloMosaic.Ideal S2x24x8x32x1024 .f32)) : (FVec Idealize.ShloMosaic.Ideal S2x24x8x1024 .f32) :=
  rOver (rTop q)
/-- The largest magnitude over 448. -/
def rAm (p : (FVec Idealize.ShloMosaic.Ideal S2x24x8x32x1024 .f32)) : (FVec Idealize.ShloMosaic.Ideal S2x24x8x1024 .f32) := rMaxOf (rAbs p)
/-- The exponent of the scale from the largest magnitude. -/
def rExOf (a : (FVec Idealize.ShloMosaic.Ideal S2x24x8x1024 .f32)) : (FVec Idealize.ShloMosaic.Ideal S2x24x8x1024 .f32) :=
  select (cmpf .oeq a (broadcastInDim S2x24x8x1024 ![] bcast_S_S2x24x8x1024 (constant S_ .f32 0x00000000#32 : (FVec Idealize.ShloMosaic.Ideal S_ .f32)) : (FVec Idealize.ShloMosaic.Ideal S2x24x8x1024 .f32)) : (IVec S2x24x8x1024 1)) (broadcastInDim S2x24x8x1024 ![] bcast_S_S2x24x8x1024 (constant S_ .f32 0x00000000#32 : (FVec Idealize.ShloMosaic.Ideal S_ .f32)) : (FVec Idealize.ShloMosaic.Ideal S2x24x8x1024 .f32))
    (addf (Host.floor (Host.divf (Host.log a : (FVec Idealize.ShloMosaic.Ideal S2x24x8x1024 .f32)) (broadcastInDim S2x24x8x1024 ![] bcast_S_S2x24x8x1024 (Host.log (constant S_ .f32 0x40000000#32 : (FVec Idealize.ShloMosaic.Ideal S_ .f32)) : (FVec Idealize.ShloMosaic.Ideal S_ .f32)) : (FVec Idealize.ShloMosaic.Ideal S2x24x8x1024 .f32)) : (FVec Idealize.ShloMosaic.Ideal S2x24x8x1024 .f32)) : (FVec Idealize.ShloMosaic.Ideal S2x24x8x1024 .f32)) (broadcastInDim S2x24x8x1024 ![] bcast_S_S2x24x8x1024 (constant S_ .f32 0x3F800000#32 : (FVec Idealize.ShloMosaic.Ideal S_ .f32)) : (FVec Idealize.ShloMosaic.Ideal S2x24x8x1024 .f32)) : (FVec Idealize.ShloMosaic.Ideal S2x24x8x1024 .f32))
/-- The exponent of the scale. -/
def rEx (p : (FVec Idealize.ShloMosaic.Ideal S2x24x8x32x1024 .f32)) : (FVec Idealize.ShloMosaic.Ideal S2x24x8x1024 .f32) := rExOf (rAm p)
/-- The scale. -/
def rSc (e : (FVec Idealize.ShloMosaic.Ideal S2x24x8x1024 .f32)) : (FVec Idealize.ShloMosaic.Ideal S2x24x8x1024 .f32) := Host.powf (broadcastInDim S2x24x8x1024 ![] bcast_S_S2x24x8x1024 (constant S_ .f32 0x40000000#32 : (FVec Idealize.ShloMosaic.Ideal S_ .f32)) : (FVec Idealize.ShloMosaic.Ideal S2x24x8x1024 .f32)) e
/-- The codes. -/
def rCd (p : (FVec Idealize.ShloMosaic.Ideal S2x24x8x32x1024 .f32)) (e : (FVec Idealize.ShloMosaic.Ideal S2x24x8x1024 .f32)) : (FVec Idealize.ShloMosaic.Ideal S2x24x8x32x1024 .f32) :=
  minimumf (broadcastInDim S2x24x8x32x1024 ![] bcast_S_S2x24x8x32x1024 (constant S_ .f32 0x43E00000#32 : (FVec Idealize.ShloMosaic.Ideal S_ .f32)) : (FVec Idealize.ShloMosaic.Ideal S2x24x8x32x1024 .f32))
    (maximumf (broadcastInDim S2x24x8x32x1024 ![] bcast_S_S2x24x8x32x1024 (constant S_ .f32 0xC3E00000#32 : (FVec Idealize.ShloMosaic.Ideal S_ .f32)) : (FVec Idealize.ShloMosaic.Ideal S2x24x8x32x1024 .f32))
      (mulf p (broadcastInDim S2x24x8x32x1024 ![0, 1, 2, 3, 4] bcast_S2x24x8x1x1024_S2x24x8x32x1024_0_1_2_3_4 (broadcastInDim S2x24x8x1x1024 ![0, 1, 2, 4] bcast_S2x24x8x1024_S2x24x8x1x1024_0_1_2_4 (Host.powf (broadcastInDim S2x24x8x1024 ![] bcast_S_S2x24x8x1024 (constant S_ .f32 0x40000000#32 : (FVec Idealize.ShloMosaic.Ideal S_ .f32)) : (FVec Idealize.ShloMosaic.Ideal S2x24x8x1024 .f32)) (Host.negf e : (FVec Idealize.ShloMosaic.Ideal S2x24x8x1024 .f32)) : (FVec Idealize.ShloMosaic.Ideal S2x24x8x1024 .f32)) : (FVec Idealize.ShloMosaic.Ideal S2x24x8x1x1024 .f32)) : (FVec Idealize.ShloMosaic.Ideal S2x24x8x32x1024 .f32)) : (FVec Idealize.ShloMosaic.Ideal S2x24x8x32x1024 .f32)) : (FVec Idealize.ShloMosaic.Ideal S2x24x8x32x1024 .f32))
/-- The scores. -/
def rScore (cq ck : (FVec Idealize.ShloMosaic.Ideal S2x24x8x32x1024 .f32)) (sq sk : (FVec Idealize.ShloMosaic.Ideal S2x24x8x1024 .f32)) : (FVec Idealize.ShloMosaic.Ideal S2x24x8x1024x1024 .f32) :=
  mulf (Host.dotGeneral dot_S2x24x8x32x1024_S2x24x8x32x1024_S2x24x8x1024x1024_3_3_4_4_012_012 none cq ck : (FVec Idealize.ShloMosaic.Ideal S2x24x8x1024x1024 .f32))
    (mulf (broadcastInDim S2x24x8x1024x1024 ![0, 1, 2, 3, 4] bcast_S2x24x8x1024x1_S2x24x8x1024x1024_0_1_2_3_4 (broadcastInDim S2x24x8x1024x1 ![0, 1, 2, 3] bcast_S2x24x8x1024_S2x24x8x1024x1_0_1_2_3 sq : (FVec Idealize.ShloMosaic.Ideal S2x24x8x1024x1 .f32)) : (FVec Idealize.ShloMosaic.Ideal S2x24x8x1024x1024 .f32))
      (broadcastInDim S2x24x8x1024x1024 ![0, 1, 2, 3, 4] bcast_S2x24x8x1x1024_S2x24x8x1024x1024_0_1_2_3_4 (broadcastInDim S2x24x8x1x1024 ![0, 1, 2, 4] bcast_S2x24x8x1024_S2x24x8x1x1024_0_1_2_4 (Host.divf sk (broadcastInDim S2x24x8x1024 ![] bcast_S_S2x24x8x1024 (Host.sqrt (constant S_ .f32 0x42000000#32 : (FVec Idealize.ShloMosaic.Ideal S_ .f32)) : (FVec Idealize.ShloMosaic.Ideal S_ .f32)) : (FVec Idealize.ShloMosaic.Ideal S2x24x8x1024 .f32)) : (FVec Idealize.ShloMosaic.Ideal S2x24x8x1024 .f32)) : (FVec Idealize.ShloMosaic.Ideal S2x24x8x1x1024 .f32)) : (FVec Idealize.ShloMosaic.Ideal S2x24x8x1024x1024 .f32)) : (FVec Idealize.ShloMosaic.Ideal S2x24x8x1024x1024 .f32))
/-- Which keys are live. -/
def rLive (n : (IVec S2 32)) : (IVec S2x1x1x1x1024 1) :=
  broadcastInDim S2x1x1x1x1024 ![0, 4] bcast_S2x1024_S2x1x1x1x1024_0_4 (cmpi .slt (broadcastInDim S2x1024 ![0, 1] bcast_S1x1024_S2x1024_0_1 (broadcastInDim S1x1024 ![1] bcast_S1024_S1x1024_1 (iotaInDim S1024 32 0 : (IVec S1024 32)) : (IVec S1x1024 32)) : (IVec S2x1024 32)) (broadcastInDim S2x1024 ![0, 1] bcast_S2x1_S2x1024_0_1 (broadcastInDim S2x1 ![0] bcast_S2_S2x1_0 n : (IVec S2x1 32)) : (IVec S2x1024 32)) : (IVec S2x1024 1))
/-- The masked scores. -/
def rMask (n : (IVec S2 32)) (s : (FVec Idealize.ShloMosaic.Ideal S2x24x8x1024x1024 .f32)) : (FVec Idealize.ShloMosaic.Ideal S2x24x8x1024x1024 .f32) :=
  select (broadcastInDim S2x24x8x1024x1024 ![0, 1, 2, 3, 4] bcast_S2x1x1x1x1024_S2x24x8x1024x1024_0_1_2_3_4 (rLive n) : (IVec S2x24x8x1024x1024 1)) s (broadcastInDim S2x24x8x1024x1024 ![] bcast_S_S2x24x8x1024x1024 (constant S_ .f32 0xFF800000#32 : (FVec Idealize.ShloMosaic.Ideal S_ .f32)) : (FVec Idealize.ShloMosaic.Ideal S2x24x8x1024x1024 .f32))
/-- The weights before they are divided. -/
def rW (s : (FVec Idealize.ShloMosaic.Ideal S2x24x8x1024x1024 .f32)) : (FVec Idealize.ShloMosaic.Ideal S2x24x8x1024x1024 .f32) :=
  Host.exp (subf s (broadcastInDim S2x24x8x1024x1024 ![0, 1, 2, 3, 4] bcast_S2x24x8x1024x1_S2x24x8x1024x1024_0_1_2_3_4 (broadcastInDim S2x24x8x1024x1 ![0, 1, 2, 3] bcast_S2x24x8x1024_S2x24x8x1024x1_0_1_2_3 (Host.reduce FloatOps.maximumf s (constant S_ .f32 0xFF800000#32 : (FVec Idealize.ShloMosaic.Ideal S_ .f32)) reducesTo_S2x24x8x1024x1024_S2x24x8x1024_d4 h_S_ : (FVec Idealize.ShloMosaic.Ideal S2x24x8x1024 .f32)) : (FVec Idealize.ShloMosaic.Ideal S2x24x8x1024x1 .f32)) : (FVec Idealize.ShloMosaic.Ideal S2x24x8x1024x1024 .f32)) : (FVec Idealize.ShloMosaic.Ideal S2x24x8x1024x1024 .f32))
/-- The weights, summing to one. -/
def rP (w : (FVec Idealize.ShloMosaic.Ideal S2x24x8x1024x1024 .f32)) : (FVec Idealize.ShloMosaic.Ideal S2x24x8x1024x1024 .bf16) :=
  truncf .bf16 (Host.divf w (broadcastInDim S2x24x8x1024x1024 ![0, 1, 2, 3, 4] bcast_S2x24x8x1024x1_S2x24x8x1024x1024_0_1_2_3_4 (broadcastInDim S2x24x8x1024x1 ![0, 1, 2, 3] bcast_S2x24x8x1024_S2x24x8x1024x1_0_1_2_3 (Host.reduceAdd w (constant S_ .f32 0x00000000#32 : (FVec Idealize.ShloMosaic.Ideal S_ .f32)) reducesTo_S2x24x8x1024x1024_S2x24x8x1024_d4 h_S_ : (FVec Idealize.ShloMosaic.Ideal S2x24x8x1024 .f32)) : (FVec Idealize.ShloMosaic.Ideal S2x24x8x1024x1 .f32)) : (FVec Idealize.ShloMosaic.Ideal S2x24x8x1024x1024 .f32)) : (FVec Idealize.ShloMosaic.Ideal S2x24x8x1024x1024 .f32)) bitsLt_bf16_f32
/-- The weighted values of each head. -/
def rPV (p : (FVec Idealize.ShloMosaic.Ideal S2x24x8x1024x1024 .bf16)) (v : (FVec Idealize.ShloMosaic.Ideal S2x24x8x32x1024 .f32)) : (FVec Idealize.ShloMosaic.Ideal S2x24x8x1024x32 .bf16) :=
  truncf .bf16 (Host.dotGeneral dot_S2x24x8x1024x1024_S2x24x8x32x1024_S2x24x8x1024x32_4_4_3_3_012_012 none p (truncf .bf16 v bitsLt_bf16_f32 : (FVec Idealize.ShloMosaic.Ideal S2x24x8x32x1024 .bf16)) : (FVec Idealize.ShloMosaic.Ideal S2x24x8x1024x32 .f32)) bitsLt_bf16_f32
/-- The output projection. -/
def rAtt (wo : (FVec Idealize.ShloMosaic.Ideal S8x32x256 .bf16)) (o : (FVec Idealize.ShloMosaic.Ideal S2x24x8x1024x32 .bf16)) : (FVec Idealize.ShloMosaic.Ideal S2x1024x24x256 .f32) :=
  transpose S2x1024x24x256 [1, 3, 2, 0] (Host.dotGeneral dot_S8x32x256_S2x24x8x1024x32_S256x2x24x1024_10_42_2_013_n_n none wo o : (FVec Idealize.ShloMosaic.Ideal S256x2x24x1024 .f32)) transposes_S256x2x24x1024_S2x1024x24x256_1_3_2_0
/-- The residual sum. -/
def rY (x : (FVec Idealize.ShloMosaic.Ideal S2x24x1024x256 .f32)) (a : (FVec Idealize.ShloMosaic.Ideal S2x1024x24x256 .f32)) : (FVec Idealize.ShloMosaic.Ideal S2x1024x24x256 .bf16) :=
  truncf .bf16 (addf (transpose S2x1024x24x256 [0, 2, 1, 3] x transposes_S2x24x1024x256_S2x1024x24x256_0_2_1_3 : (FVec Idealize.ShloMosaic.Ideal S2x1024x24x256 .f32)) a : (FVec Idealize.ShloMosaic.Ideal S2x1024x24x256 .f32)) bitsLt_bf16_f32

/-- The 256 rows of a projection at one feature and one position. -/
def pv (p : P5) (b : Fin 2) (f : Fin 24) (s : Fin 1024) (r : Fin 256) : EReal := p (ix5 b f (headOf r) (chanOf r) s)

theorem pv_hd (p : P5) (b f s h d) : pv p b f s (hd h d) = p (ix5 b f h d s) := by
  unfold pv; rw [headOf_hd, chanOf_hd]

theorem c2 : Ideal.ofBits .f32 1073741824#32 = ((2 : ℝ) : EReal) := by
  simp [Ideal.ofBits, Ideal.ieee, -EReal.coe_mul]; norm_num
theorem c1 : Ideal.ofBits .f32 1065353216#32 = (1 : EReal) := by
  simp [Ideal.ofBits, Ideal.ieee, -EReal.coe_mul]; norm_num
theorem c32 : Ideal.ofBits .f32 1107296256#32 = ((32 : ℝ) : EReal) := by
  simp [Ideal.ofBits, Ideal.ieee, -EReal.coe_mul]; norm_num
theorem c0 : Ideal.ofBits .f32 0#32 = (0 : EReal) := by
  simp [Ideal.ofBits, Ideal.ieee]

/-- Two to a power, as a power or as the exponential in base two. -/
theorem pow_two (x : EReal) : Ideal.pow ((2 : ℝ) : EReal) x = Ideal.exp2 x := by
  induction x using EReal.rec with
  | bot => show (if (2 : ℝ) < 0 then _ else if (1 : ℝ) < 2 then _ else _) = _
           rw [if_neg (by norm_num), if_pos (by norm_num)]; rfl
  | top => show (if (2 : ℝ) < 0 then _ else if (1 : ℝ) < 2 then _ else _) = _
           rw [if_neg (by norm_num), if_pos (by norm_num)]; rfl
  | coe x => rfl

theorem log_two : Ideal.log ((2 : ℝ) : EReal) = ((Real.log 2 : ℝ) : EReal) := by
  show (if (2 : ℝ) ≤ 0 then _ else _) = _
  rw [if_neg (by norm_num)]

theorem div_log (x : EReal) : Ideal.div x ((Real.log 2 : ℝ) : EReal) = x * (((Real.log 2)⁻¹ : ℝ) : EReal) := by
  have h : Real.log 2 ≠ 0 := (Real.log_pos one_lt_two).ne'
  rw [Ideal.div, if_neg (by exact_mod_cast h), EReal.coe_inv]

theorem rMean_apply (x : X4) (b f s k) :
    rMean x (ix4 b f s k) = Ideal.div (∑ k, x (ix4 b f s k)) (Ideal.ofBits .f32 1132462080#32) := by
  pointwise [rMean]
theorem rInv_apply (y : X4) (b f s k) :
    rInv y (ix4 b f s k) = Ideal.rsqrt (Ideal.div (∑ k, y (ix4 b f s k) * y (ix4 b f s k)) (Ideal.ofBits .f32 1132462080#32)
      + Ideal.ofBits .f32 925353388#32) := by
  pointwise [rInv]
theorem rRow_apply (g : FVec Idealize.ShloMosaic.Ideal S256 .f32) (b f s k) : rRow g (ix4 b f s k) = g (ix1 k) := by
  pointwise [rRow]
theorem rLN_apply (x : X4) (g bb : FVec Idealize.ShloMosaic.Ideal S256 .f32) (b f s k) :
    rLN x g bb (ix4 b f s k) = lnR (fun k => g (ix1 k)) (fun k => bb (ix1 k)) (fun k => x (ix4 b f s k)) k := by
  pointwise [rLN]
  unfold lnR
  simp only [rMean_apply, rRow_apply, rInv_apply, subf_apply]
  rfl
theorem rPrj_apply (w : FVec Idealize.ShloMosaic.Ideal S256x8x32 .bf16) (l : FVec Idealize.ShloMosaic.Ideal S2x24x1024x256 .bf16) (b f h d s) :
    rPrj w l (ix5 b f h d s) = ∑ k : Fin 256, w (ix3 k h d) * l (ix4 b f s k) := by
  pointwise [rPrj]
theorem rPrj_pv (w : FVec Idealize.ShloMosaic.Ideal S256x8x32 .bf16) (x : X4) (g bb : FVec Idealize.ShloMosaic.Ideal S256 .f32) (b f s) :
    pv (rPrj w (rLN x g bb)) b f s = prj (fun r k => w (ix3 k (headOf r) (chanOf r)))
      (lnR (fun k => g (ix1 k)) (fun k => bb (ix1 k)) (fun k => x (ix4 b f s k))) := by
  funext r
  unfold pv prj
  rw [rPrj_apply]
  exact Finset.sum_congr rfl fun k _ => by rw [rLN_apply]
theorem rAbs_apply (p : P5) (j) : rAbs p j = max (p j) (-p j) := rfl
theorem rTop_apply (q : P5) (b f h s) : rTop q (ix4 b f h s) =
    Finset.fold max (Ideal.ofBits .f32 4286578688#32) (fun x : Fin 32 => q (ix5 b f h x s)) Finset.univ := by
  pointwise [rTop]
theorem rOver_apply (u : E4) (b f h s) : rOver u (ix4 b f h s) = u (ix4 b f h s) * Ideal.ofBits .f32 991054117#32 := by
  pointwise [rOver]
theorem rMaxOf_apply (q : P5) (b f h s) : rMaxOf q (ix4 b f h s) =
    Finset.fold max (Ideal.ofBits .f32 4286578688#32) (fun x : Fin 32 => q (ix5 b f h x s)) Finset.univ
      * Ideal.ofBits .f32 991054117#32 := by
  rw [← rTop_apply]
  exact rOver_apply _ _ _ _ _
theorem rAm_apply (p : P5) (b f h s) : rAm p (ix4 b f h s) = am (pv p b f s) h := by
  unfold am rAm
  simp only [pv_hd]
  rw [rMaxOf_apply]
  simp only [rAbs_apply]
theorem rExOf_apply (a : E4) (b f h s) : rExOf a (ix4 b f h s) = if a (ix4 b f h s) = 0 then 0 else
    Ideal.liftRound Int.floor (Ideal.div (Ideal.log (a (ix4 b f h s))) (Ideal.log (Ideal.ofBits .f32 1073741824#32)))
      + Ideal.ofBits .f32 1065353216#32 := by
  pointwise [rExOf]
theorem rEx_apply (p : P5) (b f h s) : rEx p (ix4 b f h s) = ex (pv p b f s) h := by
  unfold ex rEx
  rw [← div_log, ← log_two, ← c2, ← c1, ← rAm_apply, rExOf_apply]
theorem rScOf_apply (e : E4) (b f h s) : rSc e (ix4 b f h s) = Ideal.pow (Ideal.ofBits .f32 1073741824#32) (e (ix4 b f h s)) := by
  pointwise [rSc]
theorem rSc_apply (p : P5) (b f h s) : rSc (rEx p) (ix4 b f h s) = sc (pv p b f s) h := by
  unfold sc
  rw [← rEx_apply, ← pow_two, ← c2, rScOf_apply]
theorem rCdOf_apply (p : P5) (e : E4) (b f h d s) : rCd p e (ix5 b f h d s) =
    min (Ideal.ofBits .f32 1138753536#32) (max (Ideal.ofBits .f32 3286237184#32)
    (p (ix5 b f h d s) * Ideal.pow (Ideal.ofBits .f32 1073741824#32) (-e (ix4 b f h s)))) := by
  pointwise [rCd]
theorem rCd_apply (p : P5) (b f h d s) : rCd p (rEx p) (ix5 b f h d s) = cd (pv p b f s) (hd h d) := by
  unfold cd
  rw [headOf_hd, pv_hd, ← rEx_apply, zero_sub, ← pow_two, ← c2, rCdOf_apply]
theorem rScore_apply (cq ck : P5) (sq sk : E4) (b f h i j) : rScore cq ck sq sk (ix5 b f h i j) =
    (∑ x, cq (ix5 b f h x i) * ck (ix5 b f h x j)) *
      (sq (ix4 b f h i) * Ideal.div (sk (ix4 b f h j)) (Ideal.sqrt ((32 : ℝ) : EReal))) := by
  rw [← c32]
  pointwise [rScore]
theorem rMask_apply (n : IVec S2 32) (s : S5) (b f h i j) (hn1 : 1 ≤ (n (ix1 b)).toNat) (hn2 : (n (ix1 b)).toNat ≤ 896) :
    rMask n s (ix5 b f h i j) = if j.val < (n (ix1 b)).toNat then s (ix5 b f h i j) else ⊥ := by
  pointwise [rMask, rLive]
  rw [cbot]
  generalize n (ix1 b) = N at *
  have hj : (BitVec.ofNat 32 j.val).toInt = (j.val : ℤ) := by
    have := j.isLt
    rw [BitVec.toInt_eq_toNat_cond, BitVec.toNat_ofNat, Nat.mod_eq_of_lt (by omega), if_pos (by omega)]
  have hN : N.toInt = (N.toNat : ℤ) := by rw [BitVec.toInt_eq_toNat_cond]; rw [if_pos (by omega)]
  have h : IntOp.cmpi CmpIPredicate.slt (BitVec.ofNat 32 j.val) N = if j.val < N.toNat then 1#1 else 0#1 := by
    show BitVec.ofBool (decide ((BitVec.ofNat 32 j.val).toInt < N.toInt)) = _
    rw [hj, hN]
    by_cases h : j.val < N.toNat
    · rw [if_pos h, decide_eq_true (by exact_mod_cast h)]; rfl
    · rw [if_neg h, decide_eq_false (by exact_mod_cast h)]; rfl
  rw [h]
  split <;> rfl
theorem rW_apply (s : S5) (b f h i j) : rW s (ix5 b f h i j) = Ideal.exp
      (s (ix5 b f h i j) - Finset.fold max ⊥ (fun x => s (ix5 b f h i x)) Finset.univ) := by
  rw [← cbot]
  pointwise [rW]
theorem rP_apply (s : S5) (b f h i j) : rP s (ix5 b f h i j) = Ideal.div (s (ix5 b f h i j)) (∑ x, s (ix5 b f h i x)) := by
  pointwise [rP]
theorem rPV_apply (p : FVec Idealize.ShloMosaic.Ideal S2x24x8x1024x1024 .bf16) (v : P5) (b f h i d) :
    rPV p v (ix5 b f h i d) = ∑ x, p (ix5 b f h i x) * v (ix5 b f h d x) := by
  pointwise [rPV]
theorem rAtt_apply (wo : FVec Idealize.ShloMosaic.Ideal S8x32x256 .bf16) (o : FVec Idealize.ShloMosaic.Ideal S2x24x8x1024x32 .bf16) (b i f c) :
    rAtt wo o (ix4 b i f c) = ∑ d, ∑ h, wo (ix3 h d c) * o (ix5 b f h i d) := by
  pointwise [rAtt]
theorem rY_apply (x : X4) (a : FVec Idealize.ShloMosaic.Ideal S2x1024x24x256 .f32) (b i f c) :
    rY x a (ix4 b i f c) = x (ix4 b f i c) + a (ix4 b i f c) := by
  pointwise [rY]

end Cert.Proof.Ref
end
-- ==== Proof.RefRun.lean ====
/-
  What the reference's host operations leave in the buffers the claim speaks of, as the stages of `RefStages`: those before
  the call that casts the codes, and those after it.
-/
module

public import proofs.«01_k».proof.Proof.RefStages
public import proofs.«01_k».proof.Proof.Gen.ReferenceIdeal.Frame
public import Idealize.ShloMosaic.Lib.StableHlo.RunRead

@[expose] public section

set_option maxRecDepth 65536

noncomputable section

namespace Cert.Proof.Ref

open Cert.ReferenceIdeal Cert.ReferenceIdeal.Gen Cert.Proof.Spec
open Idealize.ShloMosaic Idealize.ShloMosaic.TcCoe

variable (m : (ℓ : Loc nD τ sig) → Buf (Elt Ideal) ℓ) (c : Dev nD)

/-- The argument arrays. -/
abbrev a0 : X4 := m ((c : Thread nD τ).loc main_arg0)
abbrev a1 : FVec Idealize.ShloMosaic.Ideal S256 .f32 := m ((c : Thread nD τ).loc main_arg1)
abbrev a2 : FVec Idealize.ShloMosaic.Ideal S256 .f32 := m ((c : Thread nD τ).loc main_arg2)
abbrev a3 : FVec Idealize.ShloMosaic.Ideal S256x8x32 .bf16 := m ((c : Thread nD τ).loc main_arg3)
abbrev a4 : FVec Idealize.ShloMosaic.Ideal S256x8x32 .bf16 := m ((c : Thread nD τ).loc main_arg4)
abbrev a5 : FVec Idealize.ShloMosaic.Ideal S256x8x32 .bf16 := m ((c : Thread nD τ).loc main_arg5)
abbrev a6 : FVec Idealize.ShloMosaic.Ideal S8x32x256 .bf16 := m ((c : Thread nD τ).loc main_arg6)
abbrev a7 : IVec S2 32 := m ((c : Thread nD τ).loc main_arg7)

/-- The normalised rows and their projections. -/
def lnA : FVec Idealize.ShloMosaic.Ideal S2x24x1024x256 .bf16 := rLN (a0 m c) (a1 m c) (a2 m c)
def qA : P5 := rPrj (a3 m c) (lnA m c)
def kA : P5 := rPrj (a4 m c) (lnA m c)
def vA : P5 := rPrj (a5 m c) (lnA m c)

theorem V_v22 : V m c main_v22 = lnA m c := by
  unfold_abbrev_sides
  after_reads_simp
  rfl
theorem V_v24 : V m c main_v24 = qA m c := by
  unfold_abbrev_sides
  after_reads_simp
  rfl
theorem V_v46 : V m c main_v46 = rSc (rEx (qA m c)) := by
  unfold_abbrev_sides
  after_reads_simp
  simp -implicitDefEqProofs only [StableHlo.TRef.ofBuf, StableHlo.TRef.toBuf, cast_eq, id_eq]
  unfold rSc rEx rExOf rAm rMaxOf rOver rTop rAbs qA lnA rPrj rLN rMean rInv rRow
  rfl
theorem V_v70 : V m c main_v70 = rSc (rEx (kA m c)) := by
  unfold_abbrev_sides
  after_reads_simp
  simp -implicitDefEqProofs only [StableHlo.TRef.ofBuf, StableHlo.TRef.toBuf, cast_eq, id_eq]
  unfold rSc rEx rExOf rAm rMaxOf rOver rTop rAbs kA lnA rPrj rLN rMean rInv rRow
  rfl
theorem V_v53 : V m c main_v53 = rCd (qA m c) (rEx (qA m c)) := by
  unfold_abbrev_sides
  after_reads_simp
  simp -implicitDefEqProofs only [StableHlo.TRef.ofBuf, StableHlo.TRef.toBuf, cast_eq, id_eq]
  unfold rCd rEx rExOf rAm rMaxOf rOver rTop rAbs qA lnA rPrj rLN rMean rInv rRow
  rfl
theorem V_v77 : V m c main_v77 = rCd (kA m c) (rEx (kA m c)) := by
  unfold_abbrev_sides
  after_reads_simp
  simp -implicitDefEqProofs only [StableHlo.TRef.ofBuf, StableHlo.TRef.toBuf, cast_eq, id_eq]
  unfold rCd rEx rExOf rAm rMaxOf rOver rTop rAbs kA lnA rPrj rLN rMean rInv rRow
  rfl
/-- The masked scores and the attention. -/
def sA : S5 := rMask (a7 m c) (rScore (rCd (qA m c) (rEx (qA m c))) (rCd (kA m c) (rEx (kA m c))) (rSc (rEx (qA m c))) (rSc (rEx (kA m c))))
def attA : FVec Idealize.ShloMosaic.Ideal S2x1024x24x256 .f32 := rAtt (a6 m c) (rPV (rP (rW (sA m c))) (vA m c))
theorem V_v78 : V m c main_v78 = shapeCast S2x24x256x1024 (rCd (qA m c) (rEx (qA m c))) shapeCasts_S2x24x8x32x1024_S2x24x256x1024 := by
  unfold_abbrev_sides
  after_reads_simp
  simp -implicitDefEqProofs only [StableHlo.TRef.ofBuf, StableHlo.TRef.toBuf, cast_eq, id_eq]
  unfold rCd rEx rExOf rAm rMaxOf rOver rTop rAbs qA lnA rPrj rLN rMean rInv rRow
  rfl
theorem V_v79 : V m c main_v79 = shapeCast S2x24x256x1024 (rCd (kA m c) (rEx (kA m c))) shapeCasts_S2x24x8x32x1024_S2x24x256x1024 := by
  unfold_abbrev_sides
  after_reads_simp
  simp -implicitDefEqProofs only [StableHlo.TRef.ofBuf, StableHlo.TRef.toBuf, cast_eq, id_eq]
  unfold rCd rEx rExOf rAm rMaxOf rOver rTop rAbs kA lnA rPrj rLN rMean rInv rRow
  rfl
theorem V_v29 : V m c main_v29 = truncf .bf16 (vA m c) bitsLt_bf16_f32 := by
  unfold_abbrev_sides
  after_reads_simp
  unfold vA lnA rPrj rLN rMean rInv rRow
  rfl

/-- Codes read head by head. -/
def rHead (x : FVec Idealize.ShloMosaic.Ideal S2x24x256x1024 .f32) : P5 :=
  shapeCast S2x24x8x32x1024 x shapeCasts_S2x24x256x1024_S2x24x8x32x1024
/-- The weighted values of each head, of values already rounded. -/
def rPVb (p : FVec Idealize.ShloMosaic.Ideal S2x24x8x1024x1024 .bf16) (v : FVec Idealize.ShloMosaic.Ideal S2x24x8x32x1024 .bf16) :
    FVec Idealize.ShloMosaic.Ideal S2x24x8x1024x32 .bf16 :=
  truncf .bf16 (Host.dotGeneral dot_S2x24x8x1024x1024_S2x24x8x32x1024_S2x24x8x1024x32_4_4_3_3_012_012 none p v :
    FVec Idealize.ShloMosaic.Ideal S2x24x8x1024x32 .f32) bitsLt_bf16_f32
/-- The attention after the codes are cast, from the buffers it reads. -/
def tAtt (W : Valuation τ sig (Elt Idealize.ShloMosaic.Ideal)) : FVec Idealize.ShloMosaic.Ideal S2x1024x24x256 .f32 :=
  rAtt (W (Proc.devRef .tc main_arg6)) (rPVb (rP (rW (rMask (W (Proc.devRef .tc main_arg7))
    (rScore (rHead (W (Proc.devRef .tc main_v80_2))) (rHead (W (Proc.devRef .tc main_v80_3))) (W (Proc.devRef .tc main_v46))
      (W (Proc.devRef .tc main_v70)))))) (W (Proc.devRef .tc main_v29)))

theorem tail_v119 (W : Valuation τ sig (Elt Idealize.ShloMosaic.Ideal)) :
    StableHlo.after (List.flatten [hostOps1, hostOps1_1, hostOps1_2]) W (Proc.devRef .tc main_v119)
      = truncf .bf16 (tAtt W) bitsLt_bf16_f32 := by
  unfold_abbrev_sides
  after_reads_simp
  simp -implicitDefEqProofs only [StableHlo.TRef.ofBuf, StableHlo.TRef.toBuf, cast_eq, id_eq]
  unfold tAtt rHead rAtt rPVb rP rW rMask rLive rScore
  rfl
theorem tail_v118 (W : Valuation τ sig (Elt Idealize.ShloMosaic.Ideal)) :
    StableHlo.after (List.flatten [hostOps1, hostOps1_1, hostOps1_2]) W (Proc.devRef .tc main_v118)
      = rY (W (Proc.devRef .tc main_arg0)) (tAtt W) := by
  unfold_abbrev_sides
  after_reads_simp
  simp -implicitDefEqProofs only [StableHlo.TRef.ofBuf, StableHlo.TRef.toBuf, cast_eq, id_eq]
  unfold rY tAtt rHead rAtt rPVb rP rW rMask rLive rScore
  rfl
theorem tail_v46 (W : Valuation τ sig (Elt Idealize.ShloMosaic.Ideal)) :
    StableHlo.after (List.flatten [hostOps1, hostOps1_1, hostOps1_2]) W (Proc.devRef .tc main_v46) = W (Proc.devRef .tc main_v46) := by
  unfold_abbrev_sides
  after_reads_simp
theorem tail_v70 (W : Valuation τ sig (Elt Idealize.ShloMosaic.Ideal)) :
    StableHlo.after (List.flatten [hostOps1, hostOps1_1, hostOps1_2]) W (Proc.devRef .tc main_v70) = W (Proc.devRef .tc main_v70) := by
  unfold_abbrev_sides
  after_reads_simp

end Cert.Proof.Ref
end
-- ==== Proof.RefAtt.lean ====
/-
  The reference's attention is the attention of the specification: the softmax's shift and its division come out.
-/
module

public import proofs.«01_k».proof.Proof.RefStages

@[expose] public section

set_option maxRecDepth 16384

noncomputable section

namespace Cert.Proof.Ref

open Cert.ReferenceIdeal Cert.ReferenceIdeal.Gen Cert.Proof.Spec
open Idealize.ShloMosaic Idealize.ShloMosaic.TcCoe

/-- The masked scores of the codes. -/
def scoresOf (n : IVec S2 32) (q k : P5) : S5 := rMask n (rScore (rCd q (rEx q)) (rCd k (rEx k)) (rSc (rEx q)) (rSc (rEx k)))

theorem scoresOf_apply (n : IVec S2 32) (q k : P5) (b f h i j) (hn1 : 1 ≤ (n (ix1 b)).toNat) (hn2 : (n (ix1 b)).toNat ≤ 896) :
    scoresOf n q k (ix5 b f h i j) = if j.val < (n (ix1 b)).toNat then Sr (pv q b f) (pv k b f) h i j else ⊥ := by
  unfold scoresOf
  rw [rMask_apply _ _ _ _ _ _ _ hn1 hn2, rScore_apply, rSc_apply, rSc_apply]
  simp only [rCd_apply]
  rfl

/-- The exponential of a score is the exponential in base two of the kernel's. -/
theorem exp2_score (r : ℝ) : Ideal.exp2 ((r * (Real.log 2)⁻¹ : ℝ) : EReal) = ((Real.exp r : ℝ) : EReal) := by
  have h : Real.log 2 ≠ 0 := (Real.log_pos one_lt_two).ne'
  rw [exp2_real]
  congr 1
  show (2 : ℝ) ^ (r * (Real.log 2)⁻¹) = _
  rw [Real.rpow_def_of_pos two_pos]
  congr 1
  field_simp

theorem weights (n : IVec S2 32) (q k : P5) (b f h i) (hn1 : 1 ≤ (n (ix1 b)).toNat) (hn2 : (n (ix1 b)).toNat ≤ 896) :
    ∃ e : ℝ, 0 < e ∧ ∀ j, rW (scoresOf n q k) (ix5 b f h i j)
      = (if j.val < (n (ix1 b)).toNat then Ideal.exp2 (S (pv q b f) (pv k b f) h i j) else 0) * (e : EReal) := by
  choose r hr hS using fun j => scores_real (pv q b f) (pv k b f) h i j
  obtain ⟨M, hM⟩ := fold_max_real (fun j : Fin 1024 => j.val < (n (ix1 b)).toNat) r ⟨0, by omega⟩ (by show 0 < _; omega)
  refine ⟨Real.exp (-M), Real.exp_pos _, fun j => ?_⟩
  rw [rW_apply]
  simp only [scoresOf_apply n q k b f h i _ hn1 hn2, hr, hS]
  rw [hM]
  split
  · rw [exp2_score, ← EReal.coe_sub]
    show ((Real.exp (r j - M) : ℝ) : EReal) = _
    rw [← EReal.coe_mul, ← Real.exp_add, sub_eq_add_neg]
  · rw [zero_mul, EReal.bot_sub]
    rfl

theorem rPV_eq (n : IVec S2 32) (q k v : P5) (b f h i d) (hn1 : 1 ≤ (n (ix1 b)).toNat) (hn2 : (n (ix1 b)).toNat ≤ 896) :
    rPV (rP (rW (scoresOf n q k))) v (ix5 b f h i d) = O (n (ix1 b)).toNat (pv q b f) (pv k b f) (pv v b f) h d i := by
  obtain ⟨e, he, hw⟩ := weights n q k b f h i hn1 hn2
  obtain ⟨t, ht, hT⟩ := T_real (n (ix1 b)).toNat hn1 (pv q b f) (pv k b f) h i
  have hs : ∑ x, rW (scoresOf n q k) (ix5 b f h i x) = (t : EReal) * (e : EReal) := by
    rw [← hT]
    unfold Cert.Proof.Spec.T
    rw [sum_mul_real _ _ _ he.le]
    exact Finset.sum_congr rfl fun x _ => hw x
  have hd : ∀ X : EReal, Ideal.div X (t : EReal) = X * ((t⁻¹ : ℝ) : EReal) := fun X => by
    rw [Ideal.div, if_neg (by exact_mod_cast ht.ne'), EReal.coe_inv]
  rw [rPV_apply]
  unfold O
  rw [hT, hd, sum_mul_real _ _ _ (inv_nonneg.mpr ht.le)]
  refine Finset.sum_congr rfl fun j _ => ?_
  rw [rP_apply, hs, hw, div_common _ _ _ ht he, hd, pv_hd]
  split
  · rw [mul_comm, ← mul_assoc]
  · rw [zero_mul, zero_mul]

/-- The reference's attention. -/
theorem att_ref (n : IVec S2 32) (q k v : P5) (wo : FVec Idealize.ShloMosaic.Ideal S8x32x256 .bf16) (b i f d)
    (hn1 : 1 ≤ (n (ix1 b)).toNat) (hn2 : (n (ix1 b)).toNat ≤ 896) :
    rAtt wo (rPV (rP (rW (scoresOf n q k))) v) (ix4 b i f d)
      = att (n (ix1 b)).toNat (pv q b f) (pv k b f) (pv v b f) (fun r c => wo (ix3 (headOf r) (chanOf r) c)) i d := by
  rw [rAtt_apply, Finset.sum_comm]
  unfold att
  rw [sum_heads]
  refine Finset.sum_congr rfl fun h _ => Finset.sum_congr rfl fun x _ => ?_
  show _ = _ * wo (ix3 (headOf (hd h x)) (chanOf (hd h x)) d)
  rw [rPV_eq n q k v b f h i x hn1 hn2, headOf_hd, chanOf_hd, mul_comm]

end Cert.Proof.Ref
end
-- ==== Proof.RefEnd.lean ====
/-
  The run of the reference: its results and its arguments.
-/
module

public import proofs.«01_k».proof.Proof.RefRun
public import proofs.«01_k».proof.Proof.RefAtt
public import Idealize.ShloMosaic.Lib.Pipeline.ValueKit

@[expose] public section

set_option maxRecDepth 16384

noncomputable section

namespace Cert.Proof.Ref

open Cert.ReferenceIdeal Cert.ReferenceIdeal.Gen Cert.Proof.Spec
open Idealize.ShloMosaic Idealize.ShloMosaic.TcCoe
open Idealize.ShloMosaic.Pipeline (Dat RDat Cfg Window cellOf ΦA)

variable (m : (ℓ : Loc nD τ sig) → Buf (Elt Ideal) ℓ) (ρ : Dev nD → PrngReg) (c : Dev nD)

/-- The codes, head-major. -/
def qC : FVec Idealize.ShloMosaic.Ideal S2x24x256x1024 .f32 :=
  shapeCast S2x24x256x1024 (rCd (qA m c) (rEx (qA m c))) shapeCasts_S2x24x8x32x1024_S2x24x256x1024
def kC : FVec Idealize.ShloMosaic.Ideal S2x24x256x1024 .f32 :=
  shapeCast S2x24x256x1024 (rCd (kA m c) (rEx (kA m c))) shapeCasts_S2x24x8x32x1024_S2x24x256x1024

theorem flat_apply (x : P5) (b f r s) :
    shapeCast S2x24x256x1024 x shapeCasts_S2x24x8x32x1024_S2x24x256x1024 (ix4 b f r s) = x (ix5 b f (headOf r) (chanOf r) s) := by
  pointwise []

theorem qC_apply (b f r s) : qC m c (ix4 b f r s) = cd (pv (qA m c) b f s) r := by
  unfold qC
  rw [flat_apply, rCd_apply, hd_headOf]
theorem kC_apply (b f r s) : kC m c (ix4 b f r s) = cd (pv (kA m c) b f s) r := by
  unfold kC
  rw [flat_apply, rCd_apply, hd_headOf]

theorem ridx0 : ∀ t : Fin cfg0.N, win0_0.index t = ![0, 0, 0, 0] := (by decide +kernel : ∀ t : Fin grid0.N, _)
theorem ridx1 : ∀ t : Fin cfg0.N, win0_1.index t = ![0, 0, 0, 0] := (by decide +kernel : ∀ t : Fin grid0.N, _)
theorem ridx2 : ∀ t : Fin cfg0.N, win0_2.index t = ![0, 0, 0, 0] := (by decide +kernel : ∀ t : Fin grid0.N, _)
theorem ridx3 : ∀ t : Fin cfg0.N, win0_3.index t = ![0, 0, 0, 0] := (by decide +kernel : ∀ t : Fin grid0.N, _)

theorem ridx4 : ∀ t : Fin cfg0.N, win0_4.index t = ![0, 0, 0, 0] := (by decide +kernel : ∀ t : Fin grid0.N, _)
theorem ridx5 : ∀ t : Fin cfg0.N, win0_5.index t = ![0, 0, 0, 0] := (by decide +kernel : ∀ t : Fin grid0.N, _)

theorem riblk0 (t : Fin cfg0.N) : iblk m c 0 t = qC m c := by
  have h : iblk m c 0 t = V m c main_v78 := by
    unfold iblk
    show (fun y => V m c main_v78 _) = _
    generalize V m c main_v78 = B
    blk_ext! [ridx0 t]
  exact h.trans (V_v78 m c)
theorem riblk1 (t : Fin cfg0.N) : iblk m c 1 t = kC m c := by
  have h : iblk m c 1 t = V m c main_v79 := by
    unfold iblk
    show (fun y => V m c main_v79 _) = _
    generalize V m c main_v79 = B
    blk_ext! [ridx1 t]
  exact h.trans (V_v79 m c)

theorem out2_eq (x0 x1 : FVec Idealize.ShloMosaic.Ideal S2x24x256x1024 .f32) (y : S2x24x256x1024.Idx) : out0_2 (F := Idealize.ShloMosaic.Ideal) x0 x1 y = x0 y := by
  frame_out
  unfold k0_pay1
  pointwise []
theorem out3_eq (x0 x1 : FVec Idealize.ShloMosaic.Ideal S2x24x256x1024 .f32) (y : S2x24x256x1024.Idx) : out0_3 (F := Idealize.ShloMosaic.Ideal) x0 x1 y = x1 y := by
  frame_out
  unfold k0_pay2
  pointwise []

theorem out4_eq (x0 x1 : FVec Idealize.ShloMosaic.Ideal S2x24x256x1024 .f32) (y : S2x24x256x1024.Idx) : out0_4 (F := Idealize.ShloMosaic.Ideal) x0 x1 y = x0 y := by
  frame_out
  unfold k0_pay3
  pointwise []
theorem out5_eq (x0 x1 : FVec Idealize.ShloMosaic.Ideal S2x24x256x1024 .f32) (y : S2x24x256x1024.Idx) : out0_5 (F := Idealize.ShloMosaic.Ideal) x0 x1 y = x1 y := by
  frame_out
  unfold k0_pay4
  pointwise []

theorem rarr2 : (dats m 0 c).arrAt 2 cfg0.N = qC m c := by
  refine (dats m 0 c).arrAt_eq_of_covers 2 (qC m c) (by decide +kernel) fun t hf y => ?_
  blk_simp
  rw [after0_2, riblk0, riblk1, out2_eq]
  congr 1
  funext a; apply Fin.ext
  fin_cases a <;> blk_simp [ridx2 t] <;> simp
theorem rarr3 : (dats m 0 c).arrAt 3 cfg0.N = kC m c := by
  refine (dats m 0 c).arrAt_eq_of_covers 3 (kC m c) (by decide +kernel) fun t hf y => ?_
  blk_simp
  rw [after0_3, riblk0, riblk1, out3_eq]
  congr 1
  funext a; apply Fin.ext
  fin_cases a <;> blk_simp [ridx3 t] <;> simp

theorem rarr4 : (dats m 0 c).arrAt 4 cfg0.N = qC m c := by
  refine (dats m 0 c).arrAt_eq_of_covers 4 (qC m c) (by decide +kernel) fun t hf y => ?_
  blk_simp
  rw [after0_4, riblk0, riblk1, out4_eq]
  congr 1
  funext a; apply Fin.ext
  fin_cases a <;> blk_simp [ridx4 t] <;> simp
theorem rarr5 : (dats m 0 c).arrAt 5 cfg0.N = kC m c := by
  refine (dats m 0 c).arrAt_eq_of_covers 5 (kC m c) (by decide +kernel) fun t hf y => ?_
  blk_simp
  rw [after0_5, riblk0, riblk1, out5_eq]
  congr 1
  funext a; apply Fin.ext
  fin_cases a <;> blk_simp [ridx5 t] <;> simp

/-- What the host operations after the call find. -/
def W0 : Valuation τ sig (Elt Idealize.ShloMosaic.Ideal) :=
  Pipeline.withArrays spec0 c (V0 m c) fun w => (dats m 0 c).arrAt w cfg0.N

theorem arr_inj : Function.Injective (Pipeline.arrRef spec0) := by decide
theorem W0_q : W0 m c (Proc.devRef .tc main_v80_2) = qC m c :=
  (Pipeline.withArrays_arr spec0 arr_inj c (V0 m c) _ 4).trans (rarr4 m c)
theorem W0_k : W0 m c (Proc.devRef .tc main_v80_3) = kC m c :=
  (Pipeline.withArrays_arr spec0 arr_inj c (V0 m c) _ 5).trans (rarr5 m c)
theorem W0_v46 : W0 m c (Proc.devRef .tc main_v46) = rSc (rEx (qA m c)) :=
  (Pipeline.withArrays_of_ne spec0 c (V0 m c) _ main_v46 (by decide)).trans (V_v46 m c)
theorem W0_v70 : W0 m c (Proc.devRef .tc main_v70) = rSc (rEx (kA m c)) :=
  (Pipeline.withArrays_of_ne spec0 c (V0 m c) _ main_v70 (by decide)).trans (V_v70 m c)
theorem W0_v29 : W0 m c (Proc.devRef .tc main_v29) = truncf .bf16 (vA m c) bitsLt_bf16_f32 :=
  (Pipeline.withArrays_of_ne spec0 c (V0 m c) _ main_v29 (by decide)).trans (V_v29 m c)
theorem W0_a0 : W0 m c (Proc.devRef .tc main_arg0) = a0 m c :=
  (Pipeline.withArrays_of_ne spec0 c (V0 m c) _ main_arg0 (by decide)).trans (V_main_arg0 m c)
theorem W0_a6 : W0 m c (Proc.devRef .tc main_arg6) = a6 m c :=
  (Pipeline.withArrays_of_ne spec0 c (V0 m c) _ main_arg6 (by decide)).trans (V_main_arg6 m c)
theorem W0_a7 : W0 m c (Proc.devRef .tc main_arg7) = a7 m c :=
  (Pipeline.withArrays_of_ne spec0 c (V0 m c) _ main_arg7 (by decide)).trans (V_main_arg7 m c)

theorem head_apply (x : FVec Idealize.ShloMosaic.Ideal S2x24x256x1024 .f32) (b f h d s) :
    rHead x (ix5 b f h d s) = x (ix4 b f (hd h d) s) := by
  unfold rHead
  pointwise []
/-- Flattening the heads and taking them apart again changes nothing. -/
theorem head_flat (x : P5) :
    rHead (shapeCast S2x24x256x1024 x shapeCasts_S2x24x8x32x1024_S2x24x256x1024) = x := by
  funext i
  obtain ⟨b, f, h, d, s, rfl⟩ : ∃ (b : Fin 2) (f : Fin 24) (h : Fin 8) (d : Fin 32) (s : Fin 1024), i = ix5 b f h d s := by
    refine ⟨i 0, i 1, i 2, i 3, i 4, ?_⟩
    funext k
    fin_cases k <;> rfl
  rw [head_apply, flat_apply, headOf_hd, chanOf_hd]

theorem tAtt_eq : tAtt (W0 m c) = attA m c := by
  unfold tAtt
  rw [W0_q, W0_k, W0_v46, W0_v70, W0_v29, W0_a6, W0_a7]
  unfold qC kC
  rw [head_flat, head_flat]
  rfl

theorem end_v118 : Pipeline.afterTail₀ cfgs (dats m) 0 (V0 m) [hostOps1, hostOps1_1, hostOps1_2] c main_v118 = rY (a0 m c) (attA m c) := by
  refine (tail_v118 (W0 m c)).trans ?_
  rw [W0_a0, tAtt_eq]
theorem end_v119 : Pipeline.afterTail₀ cfgs (dats m) 0 (V0 m) [hostOps1, hostOps1_1, hostOps1_2] c main_v119 = truncf .bf16 (attA m c) bitsLt_bf16_f32 := by
  refine (tail_v119 (W0 m c)).trans ?_
  rw [tAtt_eq]
theorem end_v46 : Pipeline.afterTail₀ cfgs (dats m) 0 (V0 m) [hostOps1, hostOps1_1, hostOps1_2] c main_v46 = rSc (rEx (qA m c)) :=
  (tail_v46 (W0 m c)).trans (W0_v46 m c)
theorem end_v70 : Pipeline.afterTail₀ cfgs (dats m) 0 (V0 m) [hostOps1, hostOps1_1, hostOps1_2] c main_v70 = rSc (rEx (kA m c)) :=
  (tail_v70 (W0 m c)).trans (W0_v70 m c)

/-- The reference ends with these results and its arguments as they were. -/
theorem rresults : θ_run defs (onTc (τ := τ) (main (F := Ideal))) ⟨m, fun _ => 0, ρ⟩ (fun r => ∀ c : Dev nD,
    r.2.mem ((c.tc : Thread nD τ).loc main_v118) = rY (a0 m c) (attA m c)
    ∧ r.2.mem ((c.tc : Thread nD τ).loc main_v119) = truncf .bf16 (attA m c) bitsLt_bf16_f32
    ∧ r.2.mem ((c.tc : Thread nD τ).loc main_v80_0) = qC m c
    ∧ r.2.mem ((c.tc : Thread nD τ).loc main_v46) = rSc (rEx (qA m c))
    ∧ r.2.mem ((c.tc : Thread nD τ).loc main_v80_1) = kC m c
    ∧ r.2.mem ((c.tc : Thread nD τ).loc main_v70) = rSc (rEx (kA m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => ⟨
    ((h c).2 main_v118 (Pipeline.mem_restRefs_of main_v118 (by decide) (by decide))).trans (end_v118 m c),
    ((h c).2 main_v119 (Pipeline.mem_restRefs_of main_v119 (by decide) (by decide))).trans (end_v119 m c),
    ((h c).1 2).trans (rarr2 m c),
    ((h c).2 main_v46 (Pipeline.mem_restRefs_of main_v46 (by decide) (by decide))).trans (end_v46 m c),
    ((h c).1 3).trans (rarr3 m c),
    ((h c).2 main_v70 (Pipeline.mem_restRefs_of main_v70 (by decide) (by decide))).trans (end_v70 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.Proof.Ref
end
-- ==== Proof.Bridge.lean ====
/-
  The call's results and the reference's are the same functions of equal arguments.
-/
module

public import proofs.«01_k».proof.Defs
public import proofs.«01_k».proof.Proof.RunEnd
public import proofs.«01_k».proof.Proof.RefEnd

@[expose] public section

set_option maxRecDepth 16384

noncomputable section

namespace Cert.Proof

open Cert.Proof.Spec
open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments. -/
structure Agree : Prop where
  h0 : Ref.a0 m' c = m ((c.tc : Thread Cert.KernelIdeal.nD Cert.KernelIdeal.τ).loc Cert.KernelIdeal.main_arg0)
  h1 : Ref.a1 m' c = m ((c.tc : Thread Cert.KernelIdeal.nD Cert.KernelIdeal.τ).loc Cert.KernelIdeal.main_arg1)
  h2 : Ref.a2 m' c = m ((c.tc : Thread Cert.KernelIdeal.nD Cert.KernelIdeal.τ).loc Cert.KernelIdeal.main_arg2)
  h3 : Ref.a3 m' c = m ((c.tc : Thread Cert.KernelIdeal.nD Cert.KernelIdeal.τ).loc Cert.KernelIdeal.main_arg3)
  h4 : Ref.a4 m' c = m ((c.tc : Thread Cert.KernelIdeal.nD Cert.KernelIdeal.τ).loc Cert.KernelIdeal.main_arg4)
  h5 : Ref.a5 m' c = m ((c.tc : Thread Cert.KernelIdeal.nD Cert.KernelIdeal.τ).loc Cert.KernelIdeal.main_arg5)
  h6 : Ref.a6 m' c = m ((c.tc : Thread Cert.KernelIdeal.nD Cert.KernelIdeal.τ).loc Cert.KernelIdeal.main_arg6)
  h7 : Ref.a7 m' c = m ((c.tc : Thread Cert.KernelIdeal.nD Cert.KernelIdeal.τ).loc Cert.KernelIdeal.main_arg7)

variable {m m' c} (h : Agree m m' c)

include h in
theorem x_eq (b f s k) : Ref.a0 m' c (ix4 b f s k) = KernelIdeal.gX m c b f s k := by
  rw [h.h0, KernelIdeal.gX_eq]
include h in
theorem n_eq (b) : Ref.a7 m' c (ix1 b) = KernelIdeal.gN m c b := by
  rw [h.h7, KernelIdeal.gN_eq]
include h in
theorem ln_eq (b f s) : lnR (fun k => Ref.a1 m' c (ix1 k)) (fun k => Ref.a2 m' c (ix1 k)) (fun k => Ref.a0 m' c (ix4 b f s k))
    = lnR (KernelIdeal.row1 (KernelIdeal.gG m c)) (KernelIdeal.row1 (KernelIdeal.gB m c)) (KernelIdeal.gX m c b f s) := by
  rw [KernelIdeal.gG_eq, KernelIdeal.gB_eq, h.h1, h.h2]
  congr 1
  funext k
  exact x_eq h b f s k
include h in
theorem q_eq (b f s) : Ref.pv (Ref.qA m' c) b f s = KernelIdeal.gQ m c b f s := by
  unfold Ref.qA Ref.lnA KernelIdeal.gQ
  rw [Ref.rPrj_pv, ln_eq h, KernelIdeal.gW_eq, KernelIdeal.wQ_all, h.h3]
  simp only [KernelIdeal.wRows_apply]
include h in
theorem k_eq (b f s) : Ref.pv (Ref.kA m' c) b f s = KernelIdeal.gK m c b f s := by
  unfold Ref.kA Ref.lnA KernelIdeal.gK
  rw [Ref.rPrj_pv, ln_eq h, KernelIdeal.gW_eq, KernelIdeal.wK_all, h.h4]
  simp only [KernelIdeal.wRows_apply]
include h in
theorem v_eq (b f s) : Ref.pv (Ref.vA m' c) b f s = KernelIdeal.gV m c b f s := by
  unfold Ref.vA Ref.lnA KernelIdeal.gV
  rw [Ref.rPrj_pv, ln_eq h, KernelIdeal.gW_eq, KernelIdeal.wV_all, h.h5]
  simp only [KernelIdeal.wRows_apply]
include h in
theorem o_eq : (fun r d => Ref.a6 m' c (ix3 (headOf r) (chanOf r) d)) = KernelIdeal.gO m c := by
  funext r d
  rw [h.h6, KernelIdeal.gO_eq]

include h in
theorem att_eq (hn : KernelIdeal.Live m) (b i f d) : Ref.attA m' c (ix4 b i f d) = KernelIdeal.gA m c b f i d := by
  have e := Ref.att_ref (Ref.a7 m' c) (Ref.qA m' c) (Ref.kA m' c) (Ref.vA m' c) (Ref.a6 m' c) b i f d
    (by rw [n_eq h]; exact (hn c b).1) (by rw [n_eq h]; exact (hn c b).2)
  refine Eq.trans e ?_
  unfold KernelIdeal.gA
  rw [o_eq h, n_eq h, show Ref.pv (Ref.qA m' c) b f = KernelIdeal.gQ m c b f from funext fun s => q_eq h b f s,
    show Ref.pv (Ref.kA m' c) b f = KernelIdeal.gK m c b f from funext fun s => k_eq h b f s,
    show Ref.pv (Ref.vA m' c) b f = KernelIdeal.gV m c b f from funext fun s => v_eq h b f s]

/-- An index of an array of four axes is given by its coordinates. -/
theorem ix4_ex {a b d e : ℕ} (i : (⟨4, ![a, b, d, e]⟩ : Shape).Idx) :
    ∃ (p : Fin a) (q : Fin b) (r : Fin d) (s : Fin e), i = ix4 p q r s := by
  refine ⟨i 0, i 1, i 2, i 3, ?_⟩
  funext k
  fin_cases k <;> rfl

include h in
theorem res0 (hn : KernelIdeal.Live m) : Ref.rY (Ref.a0 m' c) (Ref.attA m' c) = KernelIdeal.G6 m c := by
  funext i
  obtain ⟨p, q, r, s, rfl⟩ := ix4_ex (a := 2) (b := 1024) (d := 24) (e := 256) i
  rw [Ref.rY_apply, att_eq h hn, x_eq h]
  rfl
include h in
theorem res1 (hn : KernelIdeal.Live m) : (fun i => Ref.attA m' c i) = KernelIdeal.G7 m c := by
  funext i
  obtain ⟨p, q, r, s, rfl⟩ := ix4_ex (a := 2) (b := 1024) (d := 24) (e := 256) i
  rw [att_eq h hn]
  rfl
include h in
theorem res2 : Ref.qC m' c = KernelIdeal.G8 m c := by
  funext i
  obtain ⟨p, q, r, s, rfl⟩ := ix4_ex (a := 2) (b := 24) (d := 256) (e := 1024) i
  rw [Ref.qC_apply, q_eq h]
  rfl
include h in
theorem res3 : Ref.rSc (Ref.rEx (Ref.qA m' c)) = KernelIdeal.G9 m c := by
  funext i
  obtain ⟨p, q, r, s, rfl⟩ := ix4_ex (a := 2) (b := 24) (d := 8) (e := 1024) i
  rw [Ref.rSc_apply, q_eq h]
  rfl
include h in
theorem res4 : Ref.kC m' c = KernelIdeal.G10 m c := by
  funext i
  obtain ⟨p, q, r, s, rfl⟩ := ix4_ex (a := 2) (b := 24) (d := 256) (e := 1024) i
  rw [Ref.kC_apply, k_eq h]
  rfl
include h in
theorem res5 : Ref.rSc (Ref.rEx (Ref.kA m' c)) = KernelIdeal.G11 m c := by
  funext i
  obtain ⟨p, q, r, s, rfl⟩ := ix4_ex (a := 2) (b := 24) (d := 8) (e := 1024) i
  rw [Ref.rSc_apply, k_eq h]
  rfl

/-- Two signed comparisons of a word bound it as a natural number. -/
theorem range_of (N : BitVec 32)
    (e : BitVec.ofBool ((1#32).sle N) &&& BitVec.ofBool (N.sle 896#32) = 1#1) : 1 ≤ N.toNat ∧ N.toNat ≤ 896 := by
  have h : (1#32).sle N = true ∧ N.sle 896#32 = true := by
    revert e
    cases (1#32).sle N <;> cases N.sle 896#32 <;> decide
  obtain ⟨h1, h2⟩ := h
  have hN := N.isLt
  simp only [BitVec.sle_eq_decide, decide_eq_true_eq, BitVec.toInt_eq_toNat_cond, BitVec.toNat_ofNat] at h1 h2
  split_ifs at h1 h2 <;> omega

/-- The predicate's side conditions. -/
theorem preFacts : Cert.Pre_keys_in_range.Facts := ⟨by decide⟩

/-- The precondition bounds every batch entry's number of keys. -/
theorem live_of_pre (hp : Cert.Pre_KernelIdeal_keys_in_range (hPre_keys_in_range := preFacts) m) : KernelIdeal.Live m := by
  intro c b
  rw [KernelIdeal.gN_eq]
  have e := congrFun (hp c) (ix1 b)
  generalize hN : (m ((c : Thread Cert.KernelIdeal.nD Cert.KernelIdeal.τ).loc Cert.KernelIdeal.main_arg7) : IVec Cert.KernelIdeal.S2 32) = n at e ⊢
  have e' : IntOp.cmpi CmpIPredicate.sge (n (ix1 b)) 1#32 &&& IntOp.cmpi CmpIPredicate.sle (n (ix1 b)) 896#32 = 1#1 := by
    refine Eq.trans ?_ e
    rfl
  exact range_of (n (ix1 b)) e'

end Cert.Proof
end
-- ==== Proof.lean ====
/-
  The proof of `Cert.Claim`: the printed programs end with their arguments unchanged, the idealized program
  is the printed one under the rules' statements, and the row-attention call's six results are, in exact
  arithmetic, those of the plain reference.
-/
module

public import proofs.«01_k».proof.Defs
public import proofs.«01_k».proof.Proof.Gen.ReferenceIdeal
public import proofs.«01_k».proof.Proof.Gen.ReferenceIdeal.Frame
public import proofs.«01_k».proof.Proof.KernelRun
public import proofs.«01_k».proof.Proof.KernelIdealRun
public import proofs.«01_k».proof.Proof.Bridge
public import Idealize.ShloMosaic.Lib.Bf16PairInverse

@[expose] public section

noncomputable section

namespace Cert.Proof

open Idealize.ShloMosaic Idealize.SL.Sem

theorem preserves : Cert.preserves_Kernel_KernelIdeal :=
  ⟨IdealRules.bf16_pair.bufferStatement _ _, IdealRules.named_const.statement Cert.KernelIdeal.κ "log2e" .f32 0x3FB8AA3B#32 _ rfl,
    IdealRules.named_const.statement Cert.KernelIdeal.κ "score_log2" .f32 0x3E8293EE#32 _ rfl,
    IdealRules.bf16_pair.packStatement _, IdealRules.bf16_pair.statement _ _, IdealRules.bf16_pair.statement _ _,
    IdealRules.bf16_pair.statement _ _⟩

/-- Call and reference end with equal results: `KernelIdeal.G6` to `KernelIdeal.G11` of the arguments. -/
theorem algebraic : Cert.algebraic_KernelIdeal_ReferenceIdeal_pre_keys_in_range (hKernelIdeal := Cert.KernelIdeal.Gen.facts)
    (hReferenceIdeal := Cert.ReferenceIdeal.Gen.facts) (hPre_keys_in_range := preFacts) := by
  intro m g m' g' hp ha
  have hn := live_of_pre hp
  have hA : ∀ c, Agree m m' c := fun c => by
    obtain ⟨h0, h1, h2, h3, h4, h5, h6, h7⟩ := ha c
    exact ⟨h0, h1, h2, h3, h4, h5, h6, h7⟩
  refine ⟨KernelIdeal.G6 m, KernelIdeal.G7 m, KernelIdeal.G8 m, KernelIdeal.G9 m, KernelIdeal.G10 m, KernelIdeal.G11 m,
    KernelIdeal.vresults m g hn, (θ_run _ _ _).mono (fun r h c => ?_) (Ref.rresults m' g')⟩
  obtain ⟨r0, r1, r2, r3, r4, r5, rest⟩ := h c
  exact ⟨r0.trans (res0 (hA c) hn), r1.trans (res1 (hA c) hn), r2.trans (res2 (hA c)), r3.trans (res3 (hA c)),
    r4.trans (res4 (hA c)), r5.trans (res5 (hA c)), rest⟩

theorem claim : Cert.Claim :=
  ⟨Cert.Kernel.Gen.facts, Cert.KernelIdeal.Gen.facts, Cert.ReferenceIdeal.Gen.facts, preFacts,
    fun m g _ => Kernel.frame m g, fun m g _ => KernelIdealFrame.frame m g, fun m g _ => KernelIdealFrame.frame m g,
    fun m g _ => Cert.ReferenceIdeal.Gen.frame m g, fun m g _ => Cert.ReferenceIdeal.Gen.frame m g,
    preserves, algebraic⟩

end Cert.Proof

end
